-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2 = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 [hPre_experts_named_down : Cert.Pre_experts_named_down.Facts] (m : (ℓ : Loc Cert.Kernel3.nD Cert.Kernel3.τ Cert.Kernel3.sig) → Buf (Elt Bits) ℓ) : Prop :=
  ∀ c : Dev Cert.Kernel3.nD,
    (Cert.Pre_experts_named_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).1 = (fun _ => 1#1)
    ∧ (Cert.Pre_experts_named_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))).2 = (fun _ => 1#1)

def Pre_Kernel3Ideal [hPre_experts_named_down : Cert.Pre_experts_named_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_experts_named_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named_down [hPre_experts_named_down : Cert.Pre_experts_named_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_experts_named_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_named_down : Cert.Pre_experts_named_down.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_experts_named_down : Cert.Pre_experts_named_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_experts_named_down [hReference3Ideal : Cert.Reference3Ideal.Facts] [hPre_experts_named_down : Cert.Pre_experts_named_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named_down m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_named_down : Cert.Pre_experts_named_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v30)) (v1 : (c : Dev Cert.Kernel5Ideal.nD) → Buf (Elt Ideal) ((c.tc : Thread Cert.Kernel5Ideal.nD Cert.Kernel5Ideal.τ).loc Cert.Kernel5Ideal.main_v43)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_v43) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v35)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_named : Cert.Pre_experts_named.Facts) (hPre_experts_named_down : Cert.Pre_experts_named_down.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3) (hPre_experts_named_down := hPre_experts_named_down)
    ∧ quiescent_Kernel3Ideal (hKernel3Ideal := hKernel3Ideal) (hPre_experts_named_down := hPre_experts_named_down)
    ∧ quiescent_Reference3Ideal (hReference3Ideal := hReference3Ideal)
    ∧ quiescent_Reference3Ideal_pre_experts_named_down (hReference3Ideal := hReference3Ideal) (hPre_experts_named_down := hPre_experts_named_down)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal) (hPre_experts_named_down := hPre_experts_named_down)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_named.lean ====
abbrev S43008x2048 : Shape := ⟨2, ![43008, 2048]⟩
abbrev S4x32x2048x4096 : Shape := ⟨4, ![4, 32, 2048, 4096]⟩
abbrev S4x32x4096 : Shape := ⟨3, ![4, 32, 4096]⟩
abbrev S168 : Shape := ⟨1, ![168]⟩
abbrev S1 : Shape := ⟨1, ![1]⟩
abbrev S_ : Shape := ⟨0, ![]⟩

class Facts : Prop where
  bcast_S_S168 : S_.BroadcastsInDim S168 (![] : Fin 0 → Fin S168.rank)
  bcast_S_S1 : S_.BroadcastsInDim S1 (![] : Fin 0 → Fin S1.rank)

variable [Facts]

def fn {F : FTy → Type} [FloatOps F] (main_arg0 : FVec F S43008x2048 .f32) (main_arg1 : FVec F S4x32x2048x4096 .f32) (main_arg2 : FVec F S4x32x4096 .f32) (main_arg3 : IVec S168 32) (main_arg4 : IVec S1 32) : IVec S168 1 × IVec S1 1 :=
  let main_c : IVec S_ 32 := constantI S_ 32 0#32
  let main_v0 : IVec S168 32 := broadcastInDim S168 ![] bcast_S_S168 main_c
  let main_v1 : IVec S168 1 := cmpi .sge main_arg3 main_v0
  let main_c_0 : IVec S_ 32 := constantI S_ 32 31#32
  let main_v2 : IVec S168 32 := broadcastInDim S168 ![] bcast_S_S168 main_c_0
  let main_v3 : IVec S168 1 := cmpi .sle main_arg3 main_v2
  let main_v4 : IVec S168 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  (main_v4, main_v6)
-- ==== Pre_experts_named_down.lean ====
abbrev S43008x2048 : Shape := ⟨2, ![43008, 2048]⟩
abbrev S4x32x2048x2048 : Shape := ⟨4, ![4, 32, 2048, 2048]⟩
abbrev S4x32x2048 : Shape := ⟨3, ![4, 32, 2048]⟩
abbrev S168 : Shape := ⟨1, ![168]⟩
abbrev S1 : Shape := ⟨1, ![1]⟩
abbrev S_ : Shape := ⟨0, ![]⟩

class Facts : Prop where
  bcast_S_S168 : S_.BroadcastsInDim S168 (![] : Fin 0 → Fin S168.rank)
  bcast_S_S1 : S_.BroadcastsInDim S1 (![] : Fin 0 → Fin S1.rank)

variable [Facts]

def fn {F : FTy → Type} [FloatOps F] (main_arg0 : FVec F S43008x2048 .bf16) (main_arg1 : FVec F S4x32x2048x2048 .f32) (main_arg2 : FVec F S4x32x2048 .f32) (main_arg3 : IVec S168 32) (main_arg4 : IVec S1 32) : IVec S168 1 × IVec S1 1 :=
  let main_c : IVec S_ 32 := constantI S_ 32 0#32
  let main_v0 : IVec S168 32 := broadcastInDim S168 ![] bcast_S_S168 main_c
  let main_v1 : IVec S168 1 := cmpi .sge main_arg3 main_v0
  let main_c_0 : IVec S_ 32 := constantI S_ 32 31#32
  let main_v2 : IVec S168 32 := broadcastInDim S168 ![] bcast_S_S168 main_c_0
  let main_v3 : IVec S168 1 := cmpi .sle main_arg3 main_v2
  let main_v4 : IVec S168 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  (main_v4, main_v6)
-- ==== Kernel.lean ====
abbrev S8704x6144 : Shape := ⟨2, ![8704, 6144]⟩
abbrev S2x8x2048x32x64 : Shape := ⟨5, ![2, 8, 2048, 32, 64]⟩
abbrev S2x8x2048x16x128 : Shape := ⟨5, ![2, 8, 2048, 16, 128]⟩
abbrev S2x64 : Shape := ⟨2, ![2, 64]⟩
abbrev S2x128 : Shape := ⟨2, ![2, 128]⟩
abbrev S8704x2048 : Shape := ⟨2, ![8704, 2048]⟩
abbrev S2x8x2048x2048 : Shape := ⟨4, ![2, 8, 2048, 2048]⟩
abbrev S1x64 : Shape := ⟨2, ![1, 64]⟩
abbrev S64 : Shape := ⟨1, ![64]⟩
abbrev S4x64 : Shape := ⟨2, ![4, 64]⟩
abbrev S1x128 : Shape := ⟨2, ![1, 128]⟩
abbrev S128 : Shape := ⟨1, ![128]⟩
abbrev S64x512 : Shape := ⟨2, ![64, 512]⟩
abbrev S1x1x2048x512 : Shape := ⟨4, ![1, 1, 2048, 512]⟩
abbrev S64x128 : Shape := ⟨2, ![64, 128]⟩
abbrev S1 : Shape := ⟨1, ![1]⟩
abbrev S1x1 : Shape := ⟨2, ![1, 1]⟩
abbrev S1x1x2048x128 : Shape := ⟨4, ![1, 1, 2048, 128]⟩
abbrev S2048x128 : Shape := ⟨2, ![2048, 128]⟩
abbrev S64x2048 : Shape := ⟨2, ![64, 2048]⟩
abbrev S64x64 : Shape := ⟨2, ![64, 64]⟩
abbrev S64x1 : Shape := ⟨2, ![64, 1]⟩

abbrev nBuf : Space → Nat
  | .hbm => 28
  | .vmem => 14
  | .smem => 0
  | _ => 0

abbrev bufTy : (tb : Table) → Fin (tcTables nBuf tb) → BufTy
  | .hbm, ⟨0, _⟩ => ⟨S8704x6144, .f32⟩
  | .hbm, ⟨1, _⟩ => ⟨S2x8x2048x32x64, .f32⟩
  | .hbm, ⟨2, _⟩ => ⟨S2x8x2048x16x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S8704x2048, .bf16⟩
  | .hbm, ⟨9, _⟩ => ⟨S2x8x2048x2048, .f32⟩
  | .hbm, ⟨10, _⟩ => ⟨S2x8x2048x2048, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S4x64, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S8704x2048, .bf16⟩
  | .local _ .vmem, ⟨0, _⟩ => ⟨S64x512, .f32⟩
  | .local _ .vmem, ⟨1, _⟩ => ⟨S64x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S4x64, .f32⟩
  | .local _ .vmem, ⟨11, _⟩ => ⟨S1x128, .f32⟩
  | .local _ .vmem, ⟨12, _⟩ => ⟨S64x512, .bf16⟩
  | .local _ .vmem, ⟨13, _⟩ => ⟨S64x512, .bf16⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c4_i32 : BitVec 32 := 4#32
  let v1 : BitVec 32 := Scalar.addi c4_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c8_i32 : BitVec 32 := 8#32
  let v1 : BitVec 32 := Scalar.addi c8_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let v1 : BitVec 32 := Scalar.addi c0_i32 arg1
  let c0_i32_0 : BitVec 32 := 0#32
  ![v0.toNat, v1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8704x6144 : Shape := ⟨2, ![8704, 6144]⟩
abbrev S2x8x2048x32x64 : Shape := ⟨5, ![2, 8, 2048, 32, 64]⟩
abbrev S2x8x2048x16x128 : Shape := ⟨5, ![2, 8, 2048, 16, 128]⟩
abbrev S2x64 : Shape := ⟨2, ![2, 64]⟩
abbrev S2x128 : Shape := ⟨2, ![2, 128]⟩
abbrev S8704x2048 : Shape := ⟨2, ![8704, 2048]⟩
abbrev S512x6144 : Shape := ⟨2, ![512, 6144]⟩
abbrev S8x64x6144 : Shape := ⟨3, ![8, 64, 6144]⟩
abbrev S8x64x2048 : Shape := ⟨3, ![8, 64, 2048]⟩
abbrev S8x64x32x64 : Shape := ⟨4, ![8, 64, 32, 64]⟩
abbrev S8x64x16x128 : Shape := ⟨4, ![8, 64, 16, 128]⟩
abbrev S64 : Shape := ⟨1, ![64]⟩
abbrev S_ : Shape := ⟨0, ![]⟩
abbrev S1x8x2048x32x64 : Shape := ⟨5, ![1, 8, 2048, 32, 64]⟩
abbrev S8x2048x32x64 : Shape := ⟨4, ![8, 2048, 32, 64]⟩
abbrev S8x2112x32x64 : Shape := ⟨4, ![8, 2112, 32, 64]⟩
abbrev S1x8x2048x16x128 : Shape := ⟨5, ![1, 8, 2048, 16, 128]⟩
abbrev S8x2048x16x128 : Shape := ⟨4, ![8, 2048, 16, 128]⟩
abbrev S8x2112x16x128 : Shape := ⟨4, ![8, 2112, 16, 128]⟩
abbrev S2048 : Shape := ⟨1, ![2048]⟩
abbrev S2112 : Shape := ⟨1, ![2112]⟩
abbrev S1x64 : Shape := ⟨2, ![1, 64]⟩
abbrev S1x2112 : Shape := ⟨2, ![1, 2112]⟩
abbrev S64x1 : Shape := ⟨2, ![64, 1]⟩
abbrev S64x2112 : Shape := ⟨2, ![64, 2112]⟩
abbrev S8x32x64x2112 : Shape := ⟨4, ![8, 32, 64, 2112]⟩
abbrev S1x1x64x2112 : Shape := ⟨4, ![1, 1, 64, 2112]⟩
abbrev S8x32x64 : Shape := ⟨3, ![8, 32, 64]⟩
abbrev S8x32x64x1 : Shape := ⟨4, ![8, 32, 64, 1]⟩
abbrev S8x16x2x64x2112 : Shape := ⟨5, ![8, 16, 2, 64, 2112]⟩
abbrev S8x16x1x64x2112 : Shape := ⟨5, ![8, 16, 1, 64, 2112]⟩
abbrev S8x16x64x2112 : Shape := ⟨4, ![8, 16, 64, 2112]⟩
abbrev S8x16x128x64 : Shape := ⟨4, ![8, 16, 128, 64]⟩
abbrev S8x64x16 : Shape := ⟨3, ![8, 64, 16]⟩
abbrev S8x64x16x1 : Shape := ⟨4, ![8, 64, 16, 1]⟩
abbrev S1x128 : Shape := ⟨2, ![1, 128]⟩
abbrev S128 : Shape := ⟨1, ![128]⟩
abbrev S1x1x1x128 : Shape := ⟨4, ![1, 1, 1, 128]⟩
abbrev S512x2048 : Shape := ⟨2, ![512, 2048]⟩
abbrev S8192x2048 : Shape := ⟨2, ![8192, 2048]⟩

abbrev nBuf : Space → Nat
  | .hbm => 148
  | .vmem => 0
  | .smem => 0
  | _ => 0

abbrev hbmTy0_0 (i : Nat) : BufTy := match i % 128 with
  | 0 => ⟨S8704x6144, .f32⟩
  | 1 => ⟨S2x8x2048x32x64, .f32⟩
  | 2 => ⟨S2x8x2048x16x128, .f32⟩
  | 3 => ⟨S2x64, .f32⟩
  | 4 => ⟨S2x64, .f32⟩
  | 5 => ⟨S2x64, .f32⟩
  | 6 => ⟨S2x64, .f32⟩
  | 7 => ⟨S2x128, .f32⟩
  | 8 => ⟨S8704x2048, .bf16⟩
  | 9 => ⟨S512x6144, .f32⟩
  | 10 => ⟨S8x64x6144, .f32⟩
  | 11 => ⟨S8x64x2048, .f32⟩
  | 12 => ⟨S8x64x32x64, .f32⟩
  | 13 => ⟨S8x64x2048, .f32⟩
  | 14 => ⟨S8x64x32x64, .f32⟩
  | 15 => ⟨S8x64x2048, .f32⟩
  | 16 => ⟨S8x64x16x128, .f32⟩
  | 17 => ⟨S64, .i32⟩
  | 18 => ⟨S_, .i32⟩
  | 19 => ⟨S64, .i32⟩
  | 20 => ⟨S64, .i32⟩
  | 21 => ⟨S1x8x2048x32x64, .f32⟩
  | 22 => ⟨S8x2048x32x64, .f32⟩
  | 23 => ⟨S8x2112x32x64, .f32⟩
  | 24 => ⟨S1x8x2048x16x128, .f32⟩
  | 25 => ⟨S8x2048x16x128, .f32⟩
  | 26 => ⟨S8x2112x16x128, .f32⟩
  | 27 => ⟨S2048, .i32⟩
  | 28 => ⟨S2112, .i32⟩
  | 29 => ⟨S1x64, .f32⟩
  | 30 => ⟨S64, .f32⟩
  | 31 => ⟨S1x64, .f32⟩
  | 32 => ⟨S64, .f32⟩
  | 33 => ⟨S64, .f32⟩
  | 34 => ⟨S_, .f32⟩
  | 35 => ⟨S_, .f32⟩
  | 36 => ⟨S_, .f32⟩
  | 37 => ⟨S1x64, .f32⟩
  | 38 => ⟨S64, .f32⟩
  | 39 => ⟨S1x64, .f32⟩
  | 40 => ⟨S64, .f32⟩
  | 41 => ⟨S64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .i32⟩
  | 49 => ⟨S_, .i32⟩
  | 50 => ⟨S2112, .i32⟩
  | 51 => ⟨S2112, .i32⟩
  | 52 => ⟨S2112, .i32⟩
  | 53 => ⟨S_, .i32⟩
  | 54 => ⟨S2112, .i32⟩
  | 55 => ⟨S2112, .i1⟩
  | 56 => ⟨S2112, .i32⟩
  | 57 => ⟨S2112, .i32⟩
  | 58 => ⟨S_, .i32⟩
  | 59 => ⟨S2112, .i32⟩
  | 60 => ⟨S2112, .i1⟩
  | 61 => ⟨S2112, .i1⟩
  | 62 => ⟨S_, .i32⟩
  | 63 => ⟨S2112, .i32⟩
  | 64 => ⟨S2112, .i32⟩
  | 65 => ⟨S2112, .i32⟩
  | 66 => ⟨S1x2112, .i32⟩
  | 67 => ⟨S_, .i32⟩
  | 68 => ⟨S_, .i32⟩
  | 69 => ⟨S64, .i32⟩
  | 70 => ⟨S64, .i32⟩
  | 71 => ⟨S64, .i32⟩
  | 72 => ⟨S_, .i32⟩
  | 73 => ⟨S64, .i32⟩
  | 74 => ⟨S64, .i1⟩
  | 75 => ⟨S64, .i32⟩
  | 76 => ⟨S64, .i32⟩
  | 77 => ⟨S_, .i32⟩
  | 78 => ⟨S64, .i32⟩
  | 79 => ⟨S64, .i1⟩
  | 80 => ⟨S64, .i1⟩
  | 81 => ⟨S_, .i32⟩
  | 82 => ⟨S64, .i32⟩
  | 83 => ⟨S64, .i32⟩
  | 84 => ⟨S64, .i32⟩
  | 85 => ⟨S64x1, .i32⟩
  | 86 => ⟨S64x2112, .i32⟩
  | 87 => ⟨S64x2112, .i32⟩
  | 88 => ⟨S64x2112, .i1⟩
  | 89 => ⟨S8x32x64x2112, .f32⟩
  | 90 => ⟨S_, .f32⟩
  | 91 => ⟨S8x32x64x2112, .f32⟩
  | 92 => ⟨S8x32x64x2112, .f32⟩
  | 93 => ⟨S1x1x64x2112, .i1⟩
  | 94 => ⟨S_, .f32⟩
  | 95 => ⟨S_, .f32⟩
  | 96 => ⟨S8x32x64x2112, .i1⟩
  | 97 => ⟨S8x32x64x2112, .f32⟩
  | 98 => ⟨S8x32x64x2112, .f32⟩
  | 99 => ⟨S_, .f32⟩
  | 100 => ⟨S8x32x64, .f32⟩
  | 101 => ⟨S_, .f32⟩
  | 102 => ⟨S8x32x64, .f32⟩
  | 103 => ⟨S8x32x64, .f32⟩
  | 104 => ⟨S8x32x64x1, .f32⟩
  | 105 => ⟨S8x32x64x2112, .f32⟩
  | 106 => ⟨S8x32x64x2112, .f32⟩
  | 107 => ⟨S8x32x64x2112, .f32⟩
  | 108 => ⟨S_, .f32⟩
  | 109 => ⟨S8x32x64, .f32⟩
  | 110 => ⟨S8x32x64x1, .f32⟩
  | 111 => ⟨S8x32x64x2112, .f32⟩
  | 112 => ⟨S8x32x64x2112, .f32⟩
  | 113 => ⟨S8x16x2x64x2112, .f32⟩
  | 114 => ⟨S8x16x1x64x2112, .f32⟩
  | 115 => ⟨S8x16x64x2112, .f32⟩
  | 116 => ⟨S8x16x1x64x2112, .f32⟩
  | 117 => ⟨S8x16x64x2112, .f32⟩
  | 118 => ⟨S8x16x64x2112, .f32⟩
  | 119 => ⟨S8x16x64x2112, .f32⟩
  | 120 => ⟨S8x16x64x2112, .f32⟩
  | 121 => ⟨S8x16x128x64, .f32⟩
  | 122 => ⟨S8x64x16x128, .f32⟩
  | 123 => ⟨S8x64x16x128, .f32⟩
  | 124 => ⟨S_, .f32⟩
  | 125 => ⟨S8x64x16, .f32⟩
  | 126 => ⟨S8x64x16x1, .f32⟩
  | 127 => ⟨S_, .f32⟩
  | _ => ⟨S8704x6144, .f32⟩

abbrev hbmTy0_1 (i : Nat) : BufTy := match i % 128 with
  | 0 => ⟨S8x64x16x1, .f32⟩
  | 1 => ⟨S8x64x16x1, .f32⟩
  | 2 => ⟨S_, .f32⟩
  | 3 => ⟨S8x64x16x1, .f32⟩
  | 4 => ⟨S8x64x16x1, .f32⟩
  | 5 => ⟨S8x64x16x1, .f32⟩
  | 6 => ⟨S8x64x16x128, .f32⟩
  | 7 => ⟨S8x64x16x128, .f32⟩
  | 8 => ⟨S1x128, .f32⟩
  | 9 => ⟨S128, .f32⟩
  | 10 => ⟨S1x1x1x128, .f32⟩
  | 11 => ⟨S8x64x16x128, .f32⟩
  | 12 => ⟨S8x64x16x128, .f32⟩
  | 13 => ⟨S_, .f32⟩
  | 14 => ⟨S8x64x16x128, .f32⟩
  | 15 => ⟨S8x64x16x128, .f32⟩
  | 16 => ⟨S512x2048, .f32⟩
  | 17 => ⟨S512x2048, .bf16⟩
  | 18 => ⟨S8192x2048, .bf16⟩
  | 19 => ⟨S8704x2048, .bf16⟩
  | _ => ⟨S8704x6144, .f32⟩

abbrev hbmTy (i : Nat) : BufTy := match i / 128 with
  | 0 => hbmTy0_0 i
  | 1 => hbmTy0_1 i
  | _ => ⟨S8704x6144, .f32⟩

abbrev bufTy : (tb : Table) → Fin (tcTables nBuf tb) → BufTy
  | .hbm, ⟨i, _⟩ => hbmTy i
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_c_2 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v35 : Ref sig .tc := ⟨.hbm, 65, rfl⟩
abbrev main_v36 : Ref sig .tc := ⟨.hbm, 66, rfl⟩
abbrev main_c_3 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_4 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_5 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v46 : Ref sig .tc := ⟨.hbm, 98, rfl⟩
abbrev main_cst_6 : Ref sig .tc := ⟨.hbm, 99, rfl⟩
abbrev main_v47 : Ref sig .tc := ⟨.hbm, 100, rfl⟩
abbrev main_cst_7 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_8 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_9 : Ref sig .tc := ⟨.hbm, 124, rfl⟩
abbrev main_v69 : Ref sig .tc := ⟨.hbm, 125, rfl⟩
abbrev main_v70 : Ref sig .tc := ⟨.hbm, 126, rfl⟩
abbrev main_cst_10 : Ref sig .tc := ⟨.hbm, 127, rfl⟩
abbrev main_v71 : Ref sig .tc := ⟨.hbm, 128, rfl⟩
abbrev main_v72 : Ref sig .tc := ⟨.hbm, 129, rfl⟩
abbrev main_cst_11 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_12 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩

abbrev nD : Nat := 1
abbrev τ : Topo := Topo.v7x

variable {F : FTy → Type} [FloatOps F]
-- ==== Kernel2.lean ====
abbrev S43008x2048 : Shape := ⟨2, ![43008, 2048]⟩
abbrev S4x32x2048x4096 : Shape := ⟨4, ![4, 32, 2048, 4096]⟩
abbrev S4x32x4096 : Shape := ⟨3, ![4, 32, 4096]⟩
abbrev S168 : Shape := ⟨1, ![168]⟩
abbrev S1 : Shape := ⟨1, ![1]⟩
abbrev S_ : Shape := ⟨0, ![]⟩
abbrev S167 : Shape := ⟨1, ![167]⟩
abbrev S4x32x1x4096 : Shape := ⟨4, ![4, 32, 1, 4096]⟩
abbrev S256x2048 : Shape := ⟨2, ![256, 2048]⟩
abbrev S1x1x2048x1024 : Shape := ⟨4, ![1, 1, 2048, 1024]⟩
abbrev S1x1x1x1024 : Shape := ⟨4, ![1, 1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 11
  | .vmem => 14
  | .smem => 3
  | _ => 0

abbrev bufTy : (tb : Table) → Fin (tcTables nBuf tb) → BufTy
  | .hbm, ⟨0, _⟩ => ⟨S43008x2048, .f32⟩
  | .hbm, ⟨1, _⟩ => ⟨S4x32x2048x4096, .f32⟩
  | .hbm, ⟨2, _⟩ => ⟨S4x32x4096, .f32⟩
  | .hbm, ⟨3, _⟩ => ⟨S_, .i32⟩
  | .hbm, ⟨4, _⟩ => ⟨S1, .i32⟩
  | .hbm, ⟨5, _⟩ => ⟨S167, .i32⟩
  | .hbm, ⟨6, _⟩ => ⟨S167, .i32⟩
  | .hbm, ⟨7, _⟩ => ⟨S167, .i1⟩
  | .hbm, ⟨8, _⟩ => ⟨S167, .i32⟩
  | .hbm, ⟨9, _⟩ => ⟨S4x32x1x4096, .f32⟩
  | .hbm, ⟨10, _⟩ => ⟨S43008x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S168, .i32⟩
  | .local _ .smem, ⟨1, _⟩ => ⟨S168, .i32⟩
  | .local _ .smem, ⟨2, _⟩ => ⟨S1, .i32⟩
  | _, _ => ⟨S43008x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_arg3 : Ref sig .tc := ⟨.smem, 0, rfl⟩
abbrev main_v5 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 168], ![false, false]⟩

abbrev pre0 : Pipeline.Prefetch sig := ⟨3, ![main_arg3.idx, main_v5.idx, main_arg4.idx], fun | 0 => main_arg3.names | 1 => main_v5.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) (v0 : BitVec 32) : BitVec 1 :=
  let arg1 : BitVec 32 := BitVec.ofNat 32 (i 1).val
  let v1 : BitVec 1 := Scalar.cmpi .slt arg1 v0
  let v8 : BitVec 32 := Scalar.extui v1
  let c0_i32_0 : BitVec 32 := 0#32
  let v9 : BitVec 1 := Scalar.cmpi .ne v8 c0_i32_0
  v9

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v10 : BitVec 1 := Scalar.xori v1 v_true
  let v11 : BitVec 32 := Scalar.extui v10
  let c0_i32_1 : BitVec 32 := 0#32
  let v12 : BitVec 1 := Scalar.cmpi .ne v11 c0_i32_1
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S43008x2048 : Shape := ⟨2, ![43008, 2048]⟩
abbrev S4x32x2048x4096 : Shape := ⟨4, ![4, 32, 2048, 4096]⟩
abbrev S4x32x4096 : Shape := ⟨3, ![4, 32, 4096]⟩
abbrev S168 : Shape := ⟨1, ![168]⟩
abbrev S1 : Shape := ⟨1, ![1]⟩
abbrev S168x256x2048 : Shape := ⟨3, ![168, 256, 2048]⟩
abbrev S1x32x2048x4096 : Shape := ⟨4, ![1, 32, 2048, 4096]⟩
abbrev S32x2048x4096 : Shape := ⟨3, ![32, 2048, 4096]⟩
abbrev S168x1 : Shape := ⟨2, ![168, 1]⟩
abbrev S168x2048x4096 : Shape := ⟨3, ![168, 2048, 4096]⟩
abbrev S1x32x4096 : Shape := ⟨3, ![1, 32, 4096]⟩
abbrev S32x4096 : Shape := ⟨2, ![32, 4096]⟩
abbrev S168x4096 : Shape := ⟨2, ![168, 4096]⟩
abbrev S168x256x4096 : Shape := ⟨3, ![168, 256, 4096]⟩
abbrev S168x1x4096 : Shape := ⟨3, ![168, 1, 4096]⟩
abbrev S_ : Shape := ⟨0, ![]⟩
abbrev S168x1x1 : Shape := ⟨3, ![168, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S43008x2048, .f32⟩
  | .hbm, ⟨1, _⟩ => ⟨S4x32x2048x4096, .f32⟩
  | .hbm, ⟨2, _⟩ => ⟨S4x32x4096, .f32⟩
  | .hbm, ⟨3, _⟩ => ⟨S168, .i32⟩
  | .hbm, ⟨4, _⟩ => ⟨S1, .i32⟩
  | .hbm, ⟨5, _⟩ => ⟨S168x256x2048, .f32⟩
  | .hbm, ⟨6, _⟩ => ⟨S1x32x2048x4096, .f32⟩
  | .hbm, ⟨7, _⟩ => ⟨S32x2048x4096, .f32⟩
  | .hbm, ⟨8, _⟩ => ⟨S168x1, .i32⟩
  | .hbm, ⟨9, _⟩ => ⟨S168x2048x4096, .f32⟩
  | .hbm, ⟨10, _⟩ => ⟨S1x32x4096, .f32⟩
  | .hbm, ⟨11, _⟩ => ⟨S32x4096, .f32⟩
  | .hbm, ⟨12, _⟩ => ⟨S168x1, .i32⟩
  | .hbm, ⟨13, _⟩ => ⟨S168x4096, .f32⟩
  | .hbm, ⟨14, _⟩ => ⟨S168x256x4096, .f32⟩
  | .hbm, ⟨15, _⟩ => ⟨S168x1x4096, .f32⟩
  | .hbm, ⟨16, _⟩ => ⟨S168x256x4096, .f32⟩
  | .hbm, ⟨17, _⟩ => ⟨S168x256x4096, .f32⟩
  | .hbm, ⟨18, _⟩ => ⟨S168x256x2048, .f32⟩
  | .hbm, ⟨19, _⟩ => ⟨S_, .f32⟩
  | .hbm, ⟨20, _⟩ => ⟨S168x256x2048, .f32⟩
  | .hbm, ⟨21, _⟩ => ⟨S168x256x2048, .f32⟩
  | .hbm, ⟨22, _⟩ => ⟨S168x256x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S168x256x2048, .f32⟩
  | .hbm, ⟨27, _⟩ => ⟨S168x256x2048, .f32⟩
  | .hbm, ⟨28, _⟩ => ⟨S_, .f32⟩
  | .hbm, ⟨29, _⟩ => ⟨S168x256x2048, .f32⟩
  | .hbm, ⟨30, _⟩ => ⟨S168x256x2048, .f32⟩
  | .hbm, ⟨31, _⟩ => ⟨S_, .f32⟩
  | .hbm, ⟨32, _⟩ => ⟨S168x256x2048, .f32⟩
  | .hbm, ⟨33, _⟩ => ⟨S168x256x2048, .f32⟩
  | .hbm, ⟨34, _⟩ => ⟨S168x256x2048, .f32⟩
  | .hbm, ⟨35, _⟩ => ⟨S_, .f32⟩
  | .hbm, ⟨36, _⟩ => ⟨S168x256x2048, .f32⟩
  | .hbm, ⟨37, _⟩ => ⟨S168x256x2048, .f32⟩
  | .hbm, ⟨38, _⟩ => ⟨S168x256x2048, .f32⟩
  | .hbm, ⟨39, _⟩ => ⟨S168x256x2048, .f32⟩
  | .hbm, ⟨40, _⟩ => ⟨S_, .f32⟩
  | .hbm, ⟨41, _⟩ => ⟨S168x256x2048, .f32⟩
  | .hbm, ⟨42, _⟩ => ⟨S168x256x2048, .f32⟩
  | .hbm, ⟨43, _⟩ => ⟨S_, .f32⟩
  | .hbm, ⟨44, _⟩ => ⟨S168x256x2048, .f32⟩
  | .hbm, ⟨45, _⟩ => ⟨S168x256x2048, .f32⟩
  | .hbm, ⟨46, _⟩ => ⟨S168x256x2048, .f32⟩
  | .hbm, ⟨47, _⟩ => ⟨S168, .i32⟩
  | .hbm, ⟨48, _⟩ => ⟨S_, .i32⟩
  | .hbm, ⟨49, _⟩ => ⟨S168, .i32⟩
  | .hbm, ⟨50, _⟩ => ⟨S168, .i1⟩
  | .hbm, ⟨51, _⟩ => ⟨S168x1x1, .i1⟩
  | .hbm, ⟨52, _⟩ => ⟨S_, .f32⟩
  | .hbm, ⟨53, _⟩ => ⟨S_, .f32⟩
  | .hbm, ⟨54, _⟩ => ⟨S168x256x2048, .i1⟩
  | .hbm, ⟨55, _⟩ => ⟨S168x256x2048, .f32⟩
  | .hbm, ⟨56, _⟩ => ⟨S168x256x2048, .f32⟩
  | .hbm, ⟨57, _⟩ => ⟨S43008x2048, .f32⟩
  | .hbm, ⟨58, _⟩ => ⟨S43008x2048, .bf16⟩
  | _, _ => ⟨S43008x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel3.lean ====
abbrev S43008x2048 : Shape := ⟨2, ![43008, 2048]⟩
abbrev S4x32x2048x2048 : Shape := ⟨4, ![4, 32, 2048, 2048]⟩
abbrev S4x32x2048 : Shape := ⟨3, ![4, 32, 2048]⟩
abbrev S168 : Shape := ⟨1, ![168]⟩
abbrev S1 : Shape := ⟨1, ![1]⟩
abbrev S_ : Shape := ⟨0, ![]⟩
abbrev S167 : Shape := ⟨1, ![167]⟩
abbrev S4x32x1x2048 : Shape := ⟨4, ![4, 32, 1, 2048]⟩
abbrev S256x2048 : Shape := ⟨2, ![256, 2048]⟩
abbrev S1x1x2048x2048 : Shape := ⟨4, ![1, 1, 2048, 2048]⟩
abbrev S1x1x1x2048 : Shape := ⟨4, ![1, 1, 1, 2048]⟩
abbrev S2048x2048 : Shape := ⟨2, ![2048, 2048]⟩
abbrev S1x2048 : Shape := ⟨2, ![1, 2048]⟩

abbrev nBuf : Space → Nat
  | .hbm => 11
  | .vmem => 9
  | .smem => 3
  | _ => 0

abbrev bufTy : (tb : Table) → Fin (tcTables nBuf tb) → BufTy
  | .hbm, ⟨0, _⟩ => ⟨S43008x2048, .bf16⟩
  | .hbm, ⟨1, _⟩ => ⟨S4x32x2048x2048, .f32⟩
  | .hbm, ⟨2, _⟩ => ⟨S4x32x2048, .f32⟩
  | .hbm, ⟨3, _⟩ => ⟨S_, .i32⟩
  | .hbm, ⟨4, _⟩ => ⟨S1, .i32⟩
  | .hbm, ⟨5, _⟩ => ⟨S167, .i32⟩
  | .hbm, ⟨6, _⟩ => ⟨S167, .i32⟩
  | .hbm, ⟨7, _⟩ => ⟨S167, .i1⟩
  | .hbm, ⟨8, _⟩ => ⟨S167, .i32⟩
  | .hbm, ⟨9, _⟩ => ⟨S4x32x1x2048, .f32⟩
  | .hbm, ⟨10, _⟩ => ⟨S43008x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x2048, .f32⟩
  | .local _ .vmem, ⟨3, _⟩ => ⟨S1x1x2048x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .smem, ⟨0, _⟩ => ⟨S168, .i32⟩
  | .local _ .smem, ⟨1, _⟩ => ⟨S168, .i32⟩
  | .local _ .smem, ⟨2, _⟩ => ⟨S1, .i32⟩
  | _, _ => ⟨S43008x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_arg3 : Ref sig .tc := ⟨.smem, 0, rfl⟩
abbrev main_v5 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 168], ![false, false]⟩

abbrev pre0 : Pipeline.Prefetch sig := ⟨3, ![main_arg3.idx, main_v5.idx, main_arg4.idx], fun | 0 => main_arg3.names | 1 => main_v5.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) (v0 : BitVec 32) : BitVec 1 :=
  let arg1 : BitVec 32 := BitVec.ofNat 32 (i 1).val
  let v1 : BitVec 1 := Scalar.cmpi .slt arg1 v0
  let v8 : BitVec 32 := Scalar.extui v1
  let c0_i32_0 : BitVec 32 := 0#32
  let v9 : BitVec 1 := Scalar.cmpi .ne v8 c0_i32_0
  v9

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v10 : BitVec 1 := Scalar.xori v1 v_true
  let v11 : BitVec 32 := Scalar.extui v10
  let c0_i32_1 : BitVec 32 := 0#32
  let v12 : BitVec 1 := Scalar.cmpi .ne v11 c0_i32_1
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S43008x2048 : Shape := ⟨2, ![43008, 2048]⟩
abbrev S4x32x2048x2048 : Shape := ⟨4, ![4, 32, 2048, 2048]⟩
abbrev S4x32x2048 : Shape := ⟨3, ![4, 32, 2048]⟩
abbrev S168 : Shape := ⟨1, ![168]⟩
abbrev S1 : Shape := ⟨1, ![1]⟩
abbrev S168x256x2048 : Shape := ⟨3, ![168, 256, 2048]⟩
abbrev S1x32x2048x2048 : Shape := ⟨4, ![1, 32, 2048, 2048]⟩
abbrev S32x2048x2048 : Shape := ⟨3, ![32, 2048, 2048]⟩
abbrev S168x1 : Shape := ⟨2, ![168, 1]⟩
abbrev S168x2048x2048 : Shape := ⟨3, ![168, 2048, 2048]⟩
abbrev S1x32x2048 : Shape := ⟨3, ![1, 32, 2048]⟩
abbrev S32x2048 : Shape := ⟨2, ![32, 2048]⟩
abbrev S168x2048 : Shape := ⟨2, ![168, 2048]⟩
abbrev S168x1x2048 : Shape := ⟨3, ![168, 1, 2048]⟩
abbrev S_ : Shape := ⟨0, ![]⟩
abbrev S168x1x1 : Shape := ⟨3, ![168, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S43008x2048, .bf16⟩
  | .hbm, ⟨1, _⟩ => ⟨S4x32x2048x2048, .f32⟩
  | .hbm, ⟨2, _⟩ => ⟨S4x32x2048, .f32⟩
  | .hbm, ⟨3, _⟩ => ⟨S168, .i32⟩
  | .hbm, ⟨4, _⟩ => ⟨S1, .i32⟩
  | .hbm, ⟨5, _⟩ => ⟨S43008x2048, .f32⟩
  | .hbm, ⟨6, _⟩ => ⟨S168x256x2048, .f32⟩
  | .hbm, ⟨7, _⟩ => ⟨S1x32x2048x2048, .f32⟩
  | .hbm, ⟨8, _⟩ => ⟨S32x2048x2048, .f32⟩
  | .hbm, ⟨9, _⟩ => ⟨S168x1, .i32⟩
  | .hbm, ⟨10, _⟩ => ⟨S168x2048x2048, .f32⟩
  | .hbm, ⟨11, _⟩ => ⟨S1x32x2048, .f32⟩
  | .hbm, ⟨12, _⟩ => ⟨S32x2048, .f32⟩
  | .hbm, ⟨13, _⟩ => ⟨S168x1, .i32⟩
  | .hbm, ⟨14, _⟩ => ⟨S168x2048, .f32⟩
  | .hbm, ⟨15, _⟩ => ⟨S168x256x2048, .f32⟩
  | .hbm, ⟨16, _⟩ => ⟨S168x1x2048, .f32⟩
  | .hbm, ⟨17, _⟩ => ⟨S168x256x2048, .f32⟩
  | .hbm, ⟨18, _⟩ => ⟨S168x256x2048, .f32⟩
  | .hbm, ⟨19, _⟩ => ⟨S168, .i32⟩
  | .hbm, ⟨20, _⟩ => ⟨S_, .i32⟩
  | .hbm, ⟨21, _⟩ => ⟨S168, .i32⟩
  | .hbm, ⟨22, _⟩ => ⟨S168, .i1⟩
  | .hbm, ⟨23, _⟩ => ⟨S168x1x1, .i1⟩
  | .hbm, ⟨24, _⟩ => ⟨S_, .f32⟩
  | .hbm, ⟨25, _⟩ => ⟨S_, .f32⟩
  | .hbm, ⟨26, _⟩ => ⟨S168x256x2048, .i1⟩
  | .hbm, ⟨27, _⟩ => ⟨S168x256x2048, .f32⟩
  | .hbm, ⟨28, _⟩ => ⟨S168x256x2048, .f32⟩
  | .hbm, ⟨29, _⟩ => ⟨S43008x2048, .f32⟩
  | _, _ => ⟨S43008x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel4.lean ====
abbrev S8704x2048 : Shape := ⟨2, ![8704, 2048]⟩
abbrev S1x2048x12352 : Shape := ⟨3, ![1, 2048, 12352]⟩
abbrev S2048x12352 : Shape := ⟨2, ![2048, 12352]⟩
abbrev S2048x12288 : Shape := ⟨2, ![2048, 12288]⟩
abbrev S8704x12288 : Shape := ⟨2, ![8704, 12288]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S1x2048x12352, .f32⟩
  | .hbm, ⟨2, _⟩ => ⟨S2048x12352, .f32⟩
  | .hbm, ⟨3, _⟩ => ⟨S2048x12288, .f32⟩
  | .hbm, ⟨4, _⟩ => ⟨S2048x12288, .bf16⟩
  | .hbm, ⟨5, _⟩ => ⟨S8704x12288, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x2048 : Shape := ⟨2, ![8704, 2048]⟩
abbrev S1x2048x12352 : Shape := ⟨3, ![1, 2048, 12352]⟩
abbrev S2048x12352 : Shape := ⟨2, ![2048, 12352]⟩
abbrev S2048x12288 : Shape := ⟨2, ![2048, 12288]⟩
abbrev S8704x12288 : Shape := ⟨2, ![8704, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x12352, .f32⟩
  | .hbm, ⟨2, _⟩ => ⟨S8704x2048, .f32⟩
  | .hbm, ⟨3, _⟩ => ⟨S2048x12352, .f32⟩
  | .hbm, ⟨4, _⟩ => ⟨S2048x12288, .f32⟩
  | .hbm, ⟨5, _⟩ => ⟨S8704x12288, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2x256x2048 : Shape := ⟨3, ![2, 256, 2048]⟩
abbrev S4x2048x4096 : Shape := ⟨3, ![4, 2048, 4096]⟩
abbrev S512x2048 : Shape := ⟨2, ![512, 2048]⟩
abbrev S1x2048x4096 : Shape := ⟨3, ![1, 2048, 4096]⟩
abbrev S2048x4096 : Shape := ⟨2, ![2048, 4096]⟩
abbrev S512x4096 : Shape := ⟨2, ![512, 4096]⟩
abbrev S2048x1024 : Shape := ⟨2, ![2048, 1024]⟩
abbrev S512x1024 : Shape := ⟨2, ![512, 1024]⟩
abbrev S2x256x4x512 : Shape := ⟨4, ![2, 256, 4, 512]⟩
abbrev S1x2x256x4x512 : Shape := ⟨5, ![1, 2, 256, 4, 512]⟩
abbrev S4x2x256x4x512 : Shape := ⟨5, ![4, 2, 256, 4, 512]⟩

abbrev nBuf : Space → Nat
  | .hbm => 46
  | .vmem => 20
  | .smem => 0
  | _ => 0

abbrev bufTy : (tb : Table) → Fin (tcTables nBuf tb) → BufTy
  | .hbm, ⟨0, _⟩ => ⟨S2x256x2048, .f32⟩
  | .hbm, ⟨1, _⟩ => ⟨S4x2048x4096, .f32⟩
  | .hbm, ⟨2, _⟩ => ⟨S512x2048, .f32⟩
  | .hbm, ⟨3, _⟩ => ⟨S512x2048, .bf16⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S512x4096, .f32⟩
  | .hbm, ⟨8, _⟩ => ⟨S1x2048x4096, .f32⟩
  | .hbm, ⟨9, _⟩ => ⟨S2048x4096, .f32⟩
  | .hbm, ⟨10, _⟩ => ⟨S2048x4096, .bf16⟩
  | .hbm, ⟨11, _⟩ => ⟨S512x4096, .f32⟩
  | .hbm, ⟨12, _⟩ => ⟨S1x2048x4096, .f32⟩
  | .hbm, ⟨13, _⟩ => ⟨S2048x4096, .f32⟩
  | .hbm, ⟨14, _⟩ => ⟨S2048x4096, .bf16⟩
  | .hbm, ⟨15, _⟩ => ⟨S512x4096, .f32⟩
  | .hbm, ⟨16, _⟩ => ⟨S1x2048x4096, .f32⟩
  | .hbm, ⟨17, _⟩ => ⟨S2048x4096, .f32⟩
  | .hbm, ⟨18, _⟩ => ⟨S2048x4096, .bf16⟩
  | .hbm, ⟨19, _⟩ => ⟨S512x4096, .f32⟩
  | .hbm, ⟨20, _⟩ => ⟨S512x2048, .f32⟩
  | .hbm, ⟨21, _⟩ => ⟨S2x256x4x512, .f32⟩
  | .hbm, ⟨22, _⟩ => ⟨S512x2048, .f32⟩
  | .hbm, ⟨23, _⟩ => ⟨S2x256x4x512, .f32⟩
  | .hbm, ⟨24, _⟩ => ⟨S512x2048, .f32⟩
  | .hbm, ⟨25, _⟩ => ⟨S2x256x4x512, .f32⟩
  | .hbm, ⟨26, _⟩ => ⟨S512x2048, .f32⟩
  | .hbm, ⟨27, _⟩ => ⟨S2x256x4x512, .f32⟩
  | .hbm, ⟨28, _⟩ => ⟨S1x2x256x4x512, .f32⟩
  | .hbm, ⟨29, _⟩ => ⟨S1x2x256x4x512, .f32⟩
  | .hbm, ⟨30, _⟩ => ⟨S1x2x256x4x512, .f32⟩
  | .hbm, ⟨31, _⟩ => ⟨S1x2x256x4x512, .f32⟩
  | .hbm, ⟨32, _⟩ => ⟨S4x2x256x4x512, .f32⟩
  | .hbm, ⟨33, _⟩ => ⟨S512x2048, .f32⟩
  | .hbm, ⟨34, _⟩ => ⟨S2x256x4x512, .f32⟩
  | .hbm, ⟨35, _⟩ => ⟨S512x2048, .f32⟩
  | .hbm, ⟨36, _⟩ => ⟨S2x256x4x512, .f32⟩
  | .hbm, ⟨37, _⟩ => ⟨S512x2048, .f32⟩
  | .hbm, ⟨38, _⟩ => ⟨S2x256x4x512, .f32⟩
  | .hbm, ⟨39, _⟩ => ⟨S512x2048, .f32⟩
  | .hbm, ⟨40, _⟩ => ⟨S2x256x4x512, .f32⟩
  | .hbm, ⟨41, _⟩ => ⟨S1x2x256x4x512, .f32⟩
  | .hbm, ⟨42, _⟩ => ⟨S1x2x256x4x512, .f32⟩
  | .hbm, ⟨43, _⟩ => ⟨S1x2x256x4x512, .f32⟩
  | .hbm, ⟨44, _⟩ => ⟨S1x2x256x4x512, .f32⟩
  | .hbm, ⟨45, _⟩ => ⟨S4x2x256x4x512, .f32⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S2048x1024, .bf16⟩
  | .local _ .vmem, ⟨12, _⟩ => ⟨S2048x1024, .bf16⟩
  | .local _ .vmem, ⟨13, _⟩ => ⟨S512x1024, .f32⟩
  | .local _ .vmem, ⟨14, _⟩ => ⟨S512x1024, .f32⟩
  | .local _ .vmem, ⟨15, _⟩ => ⟨S512x2048, .bf16⟩
  | .local _ .vmem, ⟨16, _⟩ => ⟨S2048x1024, .bf16⟩
  | .local _ .vmem, ⟨17, _⟩ => ⟨S2048x1024, .bf16⟩
  | .local _ .vmem, ⟨18, _⟩ => ⟨S512x1024, .f32⟩
  | .local _ .vmem, ⟨19, _⟩ => ⟨S512x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S512x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S512x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference5Ideal.lean ====
abbrev S2x256x2048 : Shape := ⟨3, ![2, 256, 2048]⟩
abbrev S4x2048x4096 : Shape := ⟨3, ![4, 2048, 4096]⟩
abbrev S4x4096x2x256 : Shape := ⟨4, ![4, 4096, 2, 256]⟩
abbrev S4x2x256x4096 : Shape := ⟨4, ![4, 2, 256, 4096]⟩
abbrev S4x2x256x2048 : Shape := ⟨4, ![4, 2, 256, 2048]⟩
abbrev S4x2x256x4x512 : Shape := ⟨5, ![4, 2, 256, 4, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048x4096, .f32⟩
  | .hbm, ⟨2, _⟩ => ⟨S4x4096x2x256, .f32⟩
  | .hbm, ⟨3, _⟩ => ⟨S4x2x256x4096, .f32⟩
  | .hbm, ⟨4, _⟩ => ⟨S4x2x256x2048, .f32⟩
  | .hbm, ⟨5, _⟩ => ⟨S4x2x256x4x512, .f32⟩
  | .hbm, ⟨6, _⟩ => ⟨S4x2x256x2048, .f32⟩
  | .hbm, ⟨7, _⟩ => ⟨S4x2x256x4x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8704x2048 : Shape := ⟨2, ![8704, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8704x2048, .f32⟩
  | .hbm, ⟨9, _⟩ => ⟨S8704x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8704x2048 : Shape := ⟨2, ![8704, 2048]⟩
abbrev S2048x2048 : Shape := ⟨2, ![2048, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S8704x2048, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S1x2048, .f32⟩
  | .hbm, ⟨38, _⟩ => ⟨S8704x2048, .f32⟩
  | .hbm, ⟨39, _⟩ => ⟨S8704x2048, .f32⟩
  | .hbm, ⟨40, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel7.lean ====
abbrev S8704x2048 : Shape := ⟨2, ![8704, 2048]⟩
abbrev S2048x6144 : Shape := ⟨2, ![2048, 6144]⟩
abbrev S8704 : Shape := ⟨1, ![8704]⟩
abbrev S8 : Shape := ⟨1, ![8]⟩
abbrev S_ : Shape := ⟨0, ![]⟩
abbrev S8704x1 : Shape := ⟨2, ![8704, 1]⟩
abbrev S1x8 : Shape := ⟨2, ![1, 8]⟩
abbrev S8704x8 : Shape := ⟨2, ![8704, 8]⟩
abbrev S8704x48 : Shape := ⟨2, ![8704, 48]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S8704x6144 : Shape := ⟨2, ![8704, 6144]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩

abbrev nBuf : Space → Nat
  | .hbm => 46
  | .vmem => 12
  | .smem => 0
  | _ => 0

abbrev bufTy : (tb : Table) → Fin (tcTables nBuf tb) → BufTy
  | .hbm, ⟨0, _⟩ => ⟨S8704x2048, .bf16⟩
  | .hbm, ⟨1, _⟩ => ⟨S2048x6144, .f32⟩
  | .hbm, ⟨2, _⟩ => ⟨S8704, .i32⟩
  | .hbm, ⟨3, _⟩ => ⟨S2048x6144, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8704, .f32⟩
  | .hbm, ⟨19, _⟩ => ⟨S8704x1, .f32⟩
  | .hbm, ⟨20, _⟩ => ⟨S1x8, .f32⟩
  | .hbm, ⟨21, _⟩ => ⟨S8704x8, .f32⟩
  | .hbm, ⟨22, _⟩ => ⟨S8704x8, .f32⟩
  | .hbm, ⟨23, _⟩ => ⟨S8704x8, .f32⟩
  | .hbm, ⟨24, _⟩ => ⟨S8704x8, .f32⟩
  | .hbm, ⟨25, _⟩ => ⟨S8704x8, .f32⟩
  | .hbm, ⟨26, _⟩ => ⟨S_, .f32⟩
  | .hbm, ⟨27, _⟩ => ⟨S8704x48, .f32⟩
  | .hbm, ⟨28, _⟩ => ⟨S_, .f32⟩
  | .hbm, ⟨29, _⟩ => ⟨S8704x48, .f32⟩
  | .hbm, ⟨30, _⟩ => ⟨S_, .f32⟩
  | .hbm, ⟨31, _⟩ => ⟨S8704x8, .f32⟩
  | .hbm, ⟨32, _⟩ => ⟨S8704x64, .f32⟩
  | .hbm, ⟨33, _⟩ => ⟨S8704x64, .f32⟩
  | .hbm, ⟨34, _⟩ => ⟨S8704x8, .f32⟩
  | .hbm, ⟨35, _⟩ => ⟨S8704x64, .f32⟩
  | .hbm, ⟨36, _⟩ => ⟨S1x8704x1x64, .f32⟩
  | .hbm, ⟨37, _⟩ => ⟨S1x8704x2x64, .f32⟩
  | .hbm, ⟨38, _⟩ => ⟨S8704x128, .f32⟩
  | .hbm, ⟨39, _⟩ => ⟨S1x8704x1x64, .f32⟩
  | .hbm, ⟨40, _⟩ => ⟨S1x8704x2x64, .f32⟩
  | .hbm, ⟨41, _⟩ => ⟨S8704x128, .f32⟩
  | .hbm, ⟨42, _⟩ => ⟨S1x8704x1x64, .f32⟩
  | .hbm, ⟨43, _⟩ => ⟨S1x8704x2x64, .f32⟩
  | .hbm, ⟨44, _⟩ => ⟨S8704x128, .f32⟩
  | .hbm, ⟨45, _⟩ => ⟨S8704x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 17], ![false, false]⟩

def k0_cond1 (i : grid0.Coords) : BitVec 1 :=
  let arg0 : BitVec 32 := BitVec.ofNat 32 (i 0).val
  let c4_i32 : BitVec 32 := 4#32
  let v4 : BitVec 1 := Scalar.cmpi .slt arg0 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c4_i32_3 : BitVec 32 := 4#32
  let v7 : BitVec 1 := Scalar.cmpi .sge arg0 c4_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8704x2048 : Shape := ⟨2, ![8704, 2048]⟩
abbrev S2048x6144 : Shape := ⟨2, ![2048, 6144]⟩
abbrev S8704 : Shape := ⟨1, ![8704]⟩
abbrev S8704x6144 : Shape := ⟨2, ![8704, 6144]⟩
abbrev S8 : Shape := ⟨1, ![8]⟩
abbrev S_ : Shape := ⟨0, ![]⟩
abbrev S8704x1 : Shape := ⟨2, ![8704, 1]⟩
abbrev S1x8 : Shape := ⟨2, ![1, 8]⟩
abbrev S8704x8 : Shape := ⟨2, ![8704, 8]⟩
abbrev S8704x1x8 : Shape := ⟨3, ![8704, 1, 8]⟩
abbrev S8704x4096 : Shape := ⟨2, ![8704, 4096]⟩
abbrev S8704x64x64 : Shape := ⟨3, ![8704, 64, 64]⟩
abbrev S8704x64x8 : Shape := ⟨3, ![8704, 64, 8]⟩
abbrev S8704x64x48 : Shape := ⟨3, ![8704, 64, 48]⟩

abbrev nBuf : Space → Nat
  | .hbm => 48
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x6144, .f32⟩
  | .hbm, ⟨2, _⟩ => ⟨S8704, .i32⟩
  | .hbm, ⟨3, _⟩ => ⟨S8704x2048, .f32⟩
  | .hbm, ⟨4, _⟩ => ⟨S8704x6144, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8704, .f32⟩
  | .hbm, ⟨20, _⟩ => ⟨S8704x1, .f32⟩
  | .hbm, ⟨21, _⟩ => ⟨S1x8, .f32⟩
  | .hbm, ⟨22, _⟩ => ⟨S8704x8, .f32⟩
  | .hbm, ⟨23, _⟩ => ⟨S8704x8, .f32⟩
  | .hbm, ⟨24, _⟩ => ⟨S8704x8, .f32⟩
  | .hbm, ⟨25, _⟩ => ⟨S8704x8, .f32⟩
  | .hbm, ⟨26, _⟩ => ⟨S8704x1x8, .f32⟩
  | .hbm, ⟨27, _⟩ => ⟨S8704x8, .f32⟩
  | .hbm, ⟨28, _⟩ => ⟨S8704x1x8, .f32⟩
  | .hbm, ⟨29, _⟩ => ⟨S8704x4096, .f32⟩
  | .hbm, ⟨30, _⟩ => ⟨S8704x64x64, .f32⟩
  | .hbm, ⟨31, _⟩ => ⟨S8704x64x8, .f32⟩
  | .hbm, ⟨32, _⟩ => ⟨S8704x64x8, .f32⟩
  | .hbm, ⟨33, _⟩ => ⟨S8704x64x8, .f32⟩
  | .hbm, ⟨34, _⟩ => ⟨S8704x64x8, .f32⟩
  | .hbm, ⟨35, _⟩ => ⟨S8704x64x8, .f32⟩
  | .hbm, ⟨36, _⟩ => ⟨S8704x64x8, .f32⟩
  | .hbm, ⟨37, _⟩ => ⟨S8704x64x8, .f32⟩
  | .hbm, ⟨38, _⟩ => ⟨S8704x64x8, .f32⟩
  | .hbm, ⟨39, _⟩ => ⟨S8704x64x8, .f32⟩
  | .hbm, ⟨40, _⟩ => ⟨S8704x64x8, .f32⟩
  | .hbm, ⟨41, _⟩ => ⟨S8704x64x8, .f32⟩
  | .hbm, ⟨42, _⟩ => ⟨S8704x64x8, .f32⟩
  | .hbm, ⟨43, _⟩ => ⟨S8704x64x48, .f32⟩
  | .hbm, ⟨44, _⟩ => ⟨S8704x64x64, .f32⟩
  | .hbm, ⟨45, _⟩ => ⟨S8704x4096, .f32⟩
  | .hbm, ⟨46, _⟩ => ⟨S8704x2048, .f32⟩
  | .hbm, ⟨47, _⟩ => ⟨S8704x6144, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Kernel8.lean ====
abbrev S8704x2048 : Shape := ⟨2, ![8704, 2048]⟩
abbrev S2048x2048 : Shape := ⟨2, ![2048, 2048]⟩
abbrev S512x4096 : Shape := ⟨2, ![512, 4096]⟩
abbrev S4x8x256x4x512 : Shape := ⟨5, ![4, 8, 256, 4, 512]⟩
abbrev S4x8x256x2048 : Shape := ⟨4, ![4, 8, 256, 2048]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S64x2048 : Shape := ⟨2, ![64, 2048]⟩
abbrev S1x1x256x2048 : Shape := ⟨4, ![1, 1, 256, 2048]⟩
abbrev S64x512 : Shape := ⟨2, ![64, 512]⟩
abbrev S1x1x256x512 : Shape := ⟨4, ![1, 1, 256, 512]⟩
abbrev S64x256 : Shape := ⟨2, ![64, 256]⟩
abbrev S64 : Shape := ⟨1, ![64]⟩
abbrev S64x1 : Shape := ⟨2, ![64, 1]⟩

abbrev nBuf : Space → Nat
  | .hbm => 10
  | .vmem => 18
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S512x4096, .f32⟩
  | .hbm, ⟨3, _⟩ => ⟨S4x8x256x4x512, .f32⟩
  | .hbm, ⟨4, _⟩ => ⟨S4x8x256x4x512, .f32⟩
  | .hbm, ⟨5, _⟩ => ⟨S2048x2048, .bf16⟩
  | .hbm, ⟨6, _⟩ => ⟨S4x8x256x2048, .f32⟩
  | .hbm, ⟨7, _⟩ => ⟨S4x8x256x2048, .f32⟩
  | .hbm, ⟨8, _⟩ => ⟨S8704x2048, .bf16⟩
  | .hbm, ⟨9, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S512x2048, .bf16⟩
  | .local _ .vmem, ⟨8, _⟩ => ⟨S512x2048, .bf16⟩
  | .local _ .vmem, ⟨9, _⟩ => ⟨S64x2048, .bf16⟩
  | .local _ .vmem, ⟨10, _⟩ => ⟨S64x2048, .bf16⟩
  | .local _ .vmem, ⟨11, _⟩ => ⟨S2048x2048, .bf16⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | .local _ .vmem, ⟨15, _⟩ => ⟨S1x1x256x2048, .f32⟩
  | .local _ .vmem, ⟨16, _⟩ => ⟨S64x2048, .bf16⟩
  | .local _ .vmem, ⟨17, _⟩ => ⟨S64x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

abbrev stage1_0 : Fin 2 → Memref sig .tc .vmem S64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference8Ideal.lean ====
abbrev S8704x2048 : Shape := ⟨2, ![8704, 2048]⟩
abbrev S2048x2048 : Shape := ⟨2, ![2048, 2048]⟩
abbrev S512x4096 : Shape := ⟨2, ![512, 4096]⟩
abbrev S4x8x256x4x512 : Shape := ⟨5, ![4, 8, 256, 4, 512]⟩
abbrev S512x2048 : Shape := ⟨2, ![512, 2048]⟩
abbrev S2x256x4x512 : Shape := ⟨4, ![2, 256, 4, 512]⟩
abbrev S8192x2048 : Shape := ⟨2, ![8192, 2048]⟩
abbrev S2x4096x4x512 : Shape := ⟨4, ![2, 4096, 4, 512]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩
abbrev S8x64x4x512 : Shape := ⟨4, ![8, 64, 4, 512]⟩
abbrev S1x8x256x4x512 : Shape := ⟨5, ![1, 8, 256, 4, 512]⟩
abbrev S8x256x4x512 : Shape := ⟨4, ![8, 256, 4, 512]⟩
abbrev S8x4x64x256 : Shape := ⟨4, ![8, 4, 64, 256]⟩
abbrev S8x4x64 : Shape := ⟨3, ![8, 4, 64]⟩
abbrev S8x4x64x1 : Shape := ⟨4, ![8, 4, 64, 1]⟩
abbrev S8x4x512x64 : Shape := ⟨4, ![8, 4, 512, 64]⟩

abbrev nBuf : Space → Nat
  | .hbm => 63
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .f32⟩
  | .hbm, ⟨2, _⟩ => ⟨S512x4096, .f32⟩
  | .hbm, ⟨3, _⟩ => ⟨S4x8x256x4x512, .f32⟩
  | .hbm, ⟨4, _⟩ => ⟨S4x8x256x4x512, .f32⟩
  | .hbm, ⟨5, _⟩ => ⟨S8704x2048, .f32⟩
  | .hbm, ⟨6, _⟩ => ⟨S8704x2048, .f32⟩
  | .hbm, ⟨7, _⟩ => ⟨S512x2048, .f32⟩
  | .hbm, ⟨8, _⟩ => ⟨S2x256x4x512, .f32⟩
  | .hbm, ⟨9, _⟩ => ⟨S512x2048, .f32⟩
  | .hbm, ⟨10, _⟩ => ⟨S2x256x4x512, .f32⟩
  | .hbm, ⟨11, _⟩ => ⟨S8192x2048, .f32⟩
  | .hbm, ⟨12, _⟩ => ⟨S2x4096x4x512, .f32⟩
  | .hbm, ⟨13, _⟩ => ⟨S2x4x4096x256, .f32⟩
  | .hbm, ⟨14, _⟩ => ⟨S_, .f32⟩
  | .hbm, ⟨15, _⟩ => ⟨S2x4x4096x256, .f32⟩
  | .hbm, ⟨16, _⟩ => ⟨S2x4x4096x256, .f32⟩
  | .hbm, ⟨17, _⟩ => ⟨S_, .f32⟩
  | .hbm, ⟨18, _⟩ => ⟨S2x4x4096, .f32⟩
  | .hbm, ⟨19, _⟩ => ⟨S_, .f32⟩
  | .hbm, ⟨20, _⟩ => ⟨S2x4x4096, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S2x4x4096x1, .f32⟩
  | .hbm, ⟨29, _⟩ => ⟨S2x4x4096x256, .f32⟩
  | .hbm, ⟨30, _⟩ => ⟨S2x4x4096x256, .f32⟩
  | .hbm, ⟨31, _⟩ => ⟨S2x4x512x4096, .f32⟩
  | .hbm, ⟨32, _⟩ => ⟨S2x4096x4x512, .f32⟩
  | .hbm, ⟨33, _⟩ => ⟨S8192x2048, .f32⟩
  | .hbm, ⟨34, _⟩ => ⟨S512x2048, .f32⟩
  | .hbm, ⟨35, _⟩ => ⟨S8x64x4x512, .f32⟩
  | .hbm, ⟨36, _⟩ => ⟨S1x8x256x4x512, .f32⟩
  | .hbm, ⟨37, _⟩ => ⟨S8x256x4x512, .f32⟩
  | .hbm, ⟨38, _⟩ => ⟨S1x8x256x4x512, .f32⟩
  | .hbm, ⟨39, _⟩ => ⟨S8x256x4x512, .f32⟩
  | .hbm, ⟨40, _⟩ => ⟨S8x4x64x256, .f32⟩
  | .hbm, ⟨41, _⟩ => ⟨S_, .f32⟩
  | .hbm, ⟨42, _⟩ => ⟨S8x4x64x256, .f32⟩
  | .hbm, ⟨43, _⟩ => ⟨S8x4x64x256, .f32⟩
  | .hbm, ⟨44, _⟩ => ⟨S_, .f32⟩
  | .hbm, ⟨45, _⟩ => ⟨S8x4x64, .f32⟩
  | .hbm, ⟨46, _⟩ => ⟨S_, .f32⟩
  | .hbm, ⟨47, _⟩ => ⟨S8x4x64, .f32⟩
  | .hbm, ⟨48, _⟩ => ⟨S8x4x64, .f32⟩
  | .hbm, ⟨49, _⟩ => ⟨S8x4x64x1, .f32⟩
  | .hbm, ⟨50, _⟩ => ⟨S8x4x64x256, .f32⟩
  | .hbm, ⟨51, _⟩ => ⟨S8x4x64x256, .f32⟩
  | .hbm, ⟨52, _⟩ => ⟨S8x4x64x256, .f32⟩
  | .hbm, ⟨53, _⟩ => ⟨S_, .f32⟩
  | .hbm, ⟨54, _⟩ => ⟨S8x4x64, .f32⟩
  | .hbm, ⟨55, _⟩ => ⟨S8x4x64x1, .f32⟩
  | .hbm, ⟨56, _⟩ => ⟨S8x4x64x256, .f32⟩
  | .hbm, ⟨57, _⟩ => ⟨S8x4x64x256, .f32⟩
  | .hbm, ⟨58, _⟩ => ⟨S8x4x512x64, .f32⟩
  | .hbm, ⟨59, _⟩ => ⟨S8x64x4x512, .f32⟩
  | .hbm, ⟨60, _⟩ => ⟨S512x2048, .f32⟩
  | .hbm, ⟨61, _⟩ => ⟨S8704x2048, .f32⟩
  | .hbm, ⟨62, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Attn.Math.lean ====
/- The arithmetic of differential attention on the extended reals: a row of scores cut in two pieces (the cached keys, then
   the new ones) gives the same maximum, the same denominators and the same weighted sum of values as the whole row. -/
module

public import Idealize.ShloMosaic.Lib.Pointwise

@[expose] public section

set_option maxRecDepth 16384

noncomputable section

open Idealize.ShloMosaic

namespace Cert.Attn

/-- The factor one eighth of the scores. -/
abbrev scale : EReal := Ideal.ofBits .f32 0x3E000000#32

/-- Minus infinity, from which a row's maximum is folded. -/
abbrev bottom : EReal := Ideal.ofBits .f32 0xFF800000#32

theorem scale_eq : scale = (((1 : ℝ) / 8 : ℝ) : EReal) := by
  simp [scale, Ideal.ofBits, Ideal.ieee, -EReal.coe_mul]; norm_num

/-- A finite nonnegative factor comes out of a finite sum of extended reals. -/
theorem sum_mul_real {ι : Type*} [Fintype ι] (f : ι → EReal) (c : EReal) (h0 : 0 ≤ c) (ht : c ≠ ⊤) :
    ∑ x, f x * c = (∑ x, f x) * c := by
  classical
  refine Finset.induction_on (Finset.univ : Finset ι) (by simp) ?_
  intro a s ha ih
  rw [Finset.sum_insert ha, Finset.sum_insert ha, ih, EReal.right_distrib_of_nonneg_of_ne_top h0 ht]

theorem sum_mul_scale {ι : Type*} [Fintype ι] (f : ι → EReal) : ∑ x, f x * scale = (∑ x, f x) * scale :=
  sum_mul_real f scale (by rw [scale_eq]; exact_mod_cast (by norm_num : (0 : ℝ) ≤ 1 / 8)) (by rw [scale_eq]; exact EReal.coe_ne_top _)

/-- A row's maximum, folded from minus infinity. -/
def rowMax {n : ℕ} (s : Fin n → EReal) : EReal := Finset.univ.fold max bottom s

/-- The maximum of a row is the greater of its two pieces' maxima; folding minus infinity in once more changes nothing. -/
theorem rowMax_split {N : ℕ} (a b : ℕ) (hN : a + b = N) (s : Fin N → EReal) :
    max bottom (rowMax s) = max (rowMax fun x : Fin a => s ⟨x.val, by have := x.isLt; omega⟩)
      (rowMax fun x : Fin b => s ⟨a + x.val, by have := x.isLt; omega⟩) := by
  refine eq_of_forall_ge_iff fun c => ?_
  simp only [rowMax, max_le_iff, Finset.fold_max_le, Finset.mem_univ, true_implies]
  constructor
  · rintro ⟨h, -, hs⟩
    exact ⟨⟨h, fun x => hs _⟩, h, fun x => hs _⟩
  · rintro ⟨⟨h, h1⟩, -, h2⟩
    refine ⟨h, h, fun x => ?_⟩
    by_cases hx : x.val < a
    · exact h1 ⟨x.val, hx⟩
    · have e : (⟨a + (x.val - a), by have := x.isLt; omega⟩ : Fin N) = x := Fin.ext (by show a + (x.val - a) = x.val; omega)
      have := h2 ⟨x.val - a, by have := x.isLt; omega⟩
      rwa [e] at this

/-- One softmax weight: the exponential of a score less the maximum `m`, over the denominator `l`. -/
abbrev weight (s m l : EReal) : EReal := Ideal.div (Ideal.exp (s - m)) l

/-- The weighted sum of values over a row given in two pieces: the first map's weights less `lam` times the second's. -/
def sum2 {a b : ℕ} (sh0 sh1 : Fin a → EReal) (sn0 sn1 : Fin b → EReal) (vh : Fin a → EReal) (vn : Fin b → EReal) (lam : EReal) : EReal :=
  let m0 := max (rowMax sh0) (rowMax sn0)
  let m1 := max (rowMax sh1) (rowMax sn1)
  let l0 := ∑ x, Ideal.exp (sh0 x - m0) + ∑ x, Ideal.exp (sn0 x - m0)
  let l1 := ∑ x, Ideal.exp (sh1 x - m1) + ∑ x, Ideal.exp (sn1 x - m1)
  ∑ x, (weight (sh0 x) m0 l0 - lam * weight (sh1 x) m1 l1) * vh x + ∑ x, (weight (sn0 x) m0 l0 - lam * weight (sn1 x) m1 l1) * vn x

/-- The same over a whole row. -/
def sum1 {N : ℕ} (s0 s1 : Fin N → EReal) (v : Fin N → EReal) (lam : EReal) : EReal :=
  let m0 := max bottom (rowMax s0)
  let m1 := max bottom (rowMax s1)
  let l0 := ∑ x, Ideal.exp (s0 x - m0)
  let l1 := ∑ x, Ideal.exp (s1 x - m1)
  ∑ x, v x * (weight (s0 x) m0 l0 - lam * weight (s1 x) m1 l1)

/-- The whole row's weighted sum is that of its two pieces. -/
theorem sum1_eq_sum2 {N : ℕ} (a b : ℕ) (hN : a + b = N) (s0 s1 v : Fin N → EReal) (lam : EReal) :
    sum1 s0 s1 v lam = sum2 (fun x : Fin a => s0 ⟨x.val, by have := x.isLt; omega⟩) (fun x : Fin a => s1 ⟨x.val, by have := x.isLt; omega⟩)
      (fun x : Fin b => s0 ⟨a + x.val, by have := x.isLt; omega⟩) (fun x : Fin b => s1 ⟨a + x.val, by have := x.isLt; omega⟩)
      (fun x : Fin a => v ⟨x.val, by have := x.isLt; omega⟩) (fun x : Fin b => v ⟨a + x.val, by have := x.isLt; omega⟩) lam := by
  simp only [sum1, sum2]
  rw [rowMax_split a b hN s0, rowMax_split a b hN s1, Fin.sum_univ_two_halves a b hN (fun x => v x * _)]
  rw [Fin.sum_univ_two_halves a b hN (fun x => Ideal.exp (s0 x - _)), Fin.sum_univ_two_halves a b hN (fun x => Ideal.exp (s1 x - _))]
  refine congrArg₂ (· + ·) (Finset.sum_congr rfl fun x _ => mul_comm _ _) (Finset.sum_congr rfl fun x _ => mul_comm _ _)

/-- The root-mean-square norm of a head's 128 outputs, times the gain `g` and the constant `0.8`. -/
def normed (o g : Fin 128 → EReal) (e : Fin 128) : EReal :=
  o e * Ideal.rsqrt (Ideal.div (∑ x, o x * o x) (Ideal.ofBits .f32 0x43000000#32) + Ideal.ofBits .f32 0x3727C5AC#32) * g e
    * Ideal.ofBits .f32 0x3F4CCCCD#32

/-- The second map's share: the difference of two exponentials of the rows' products, plus the constant `0.2`. -/
def lambda (a b c d : Fin 64 → EReal) : EReal :=
  Ideal.exp (∑ x, a x * b x) - Ideal.exp (∑ x, c x * d x) + Ideal.ofBits .f32 0x3E4CCCCD#32

/-- A score: the product of a query and a key over 64 lanes, times one eighth. -/
def score (q k : Fin 64 → EReal) : EReal := (∑ x, q x * k x) * scale

/-- The lanes below 64 kept: the masked, scaled product over 128 lanes is the score of the lower halves. -/
theorem score_low (q k : Fin 128 → EReal) :
    ∑ x : Fin 128, Scalar.select (IntOp.cmpi CmpIPredicate.slt (BitVec.ofNat 32 x.val) 64#32) (q x * scale * k x) 0
      = score (fun x => q ⟨x.val, by have := x.isLt; omega⟩) (fun x => k ⟨x.val, by have := x.isLt; omega⟩) := by
  have hb : ∀ x : Fin 128, IntOp.cmpi CmpIPredicate.slt (BitVec.ofNat 32 x.val) 64#32 = if x.val < 64 then 1#1 else 0#1 := by decide +kernel
  rw [Fin.sum_univ_two_halves 64 64 rfl, score, ← sum_mul_scale]
  have hz : ∀ x : Fin 64, (Scalar.select (IntOp.cmpi CmpIPredicate.slt (BitVec.ofNat 32 (64 + x.val)) 64#32)
      (q ⟨64 + x.val, by have := x.isLt; omega⟩ * scale * k ⟨64 + x.val, by have := x.isLt; omega⟩) 0 : EReal) = 0 := fun x => by
    rw [hb ⟨64 + x.val, by have := x.isLt; omega⟩, if_neg (by show ¬ 64 + x.val < 64; omega)]; rfl
  rw [Finset.sum_congr rfl fun x _ => hz x, Finset.sum_const_zero, add_zero]
  refine Finset.sum_congr rfl fun x _ => ?_
  rw [hb ⟨x.val, by have := x.isLt; omega⟩, if_pos x.isLt, mul_right_comm]; rfl

/-- The lanes from 64 on kept: the score of the upper halves. -/
theorem score_high (q k : Fin 128 → EReal) :
    ∑ x : Fin 128, Scalar.select (IntOp.xori (IntOp.cmpi CmpIPredicate.slt (BitVec.ofNat 32 x.val) 64#32) 1#1) (q x * scale * k x) 0
      = score (fun x => q ⟨64 + x.val, by have := x.isLt; omega⟩) (fun x => k ⟨64 + x.val, by have := x.isLt; omega⟩) := by
  have hb : ∀ x : Fin 128, IntOp.xori (IntOp.cmpi CmpIPredicate.slt (BitVec.ofNat 32 x.val) 64#32) 1#1 = if x.val < 64 then 0#1 else 1#1 := by
    decide +kernel
  rw [Fin.sum_univ_two_halves 64 64 rfl, score, ← sum_mul_scale]
  have hz : ∀ x : Fin 64, (Scalar.select (IntOp.xori (IntOp.cmpi CmpIPredicate.slt (BitVec.ofNat 32 x.val) 64#32) 1#1)
      (q ⟨x.val, by have := x.isLt; omega⟩ * scale * k ⟨x.val, by have := x.isLt; omega⟩) 0 : EReal) = 0 := fun x => by
    rw [hb ⟨x.val, by have := x.isLt; omega⟩, if_pos x.isLt]; rfl
  rw [Finset.sum_congr rfl fun x _ => hz x, Finset.sum_const_zero, zero_add]
  refine Finset.sum_congr rfl fun x _ => ?_
  rw [hb ⟨64 + x.val, by have := x.isLt; omega⟩, if_neg (by show ¬ 64 + x.val < 64; omega), mul_right_comm]; rfl

end Cert.Attn

end
-- ==== Proof.Attn.Head.lean ====
/- One head of the kernel's body, as one term over what the head loads: the queries' 128 lanes, the cached keys and values, the
   new keys and values, the four rows of the second map's share and the gain. The body computes four heads so; each head's
   term is this one at its own loads. -/
module

public import proofs.«01_k».proof.Proof.Gen.KernelIdeal.Skeleton
public import proofs.«01_k».proof.Proof.Attn.Math
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

section Term
variable {F : FTy → Type} [FloatOps F] (q : Vec F S64x128 .f32) (kh vh : Vec F S1x1x2048x128 .f32) (kn vn : Vec F S64x128 .f32)
  (lv : Vec F S4x64 .f32) (g : Vec F S1x128 .f32)

/-- The first map's scores against the cached keys. -/
def sh0 : FVec F S64x2048 .f32 := k0_pay18 (k0_pay8 q) kh
/-- The second map's scores against the cached keys. -/
def sh1 : FVec F S64x2048 .f32 := k0_pay19 (k0_pay4 q) k0_pay9 k0_pay10 kh
/-- The first map's scores against the new keys. -/
def sn0 : FVec F S64x64 .f32 := k0_pay26 (k0_pay8 q) kn
/-- The second map's scores against the new keys. -/
def sn1 : FVec F S64x64 .f32 := k0_pay27 (k0_pay11 (k0_pay4 q) k0_pay9 k0_pay10) kn
/-- The first map's row maxima. -/
def m0 : FVec F S64x1 .f32 := k0_pay35 (sh0 q kh) (sn0 q kn)
/-- The second map's row maxima. -/
def m1 : FVec F S64x1 .f32 := k0_pay36 (sh1 q kh) (sn1 q kn)
/-- The exponentials, cached keys, first map; -/
def ph0 : FVec F S64x2048 .f32 := k0_pay43 (sh0 q kh) (m0 q kh kn)
/-- second map; -/
def ph1 : FVec F S64x2048 .f32 := k0_pay44 (sh1 q kh) (m1 q kh kn)
/-- new keys, first map; -/
def pn0 : FVec F S64x64 .f32 := k0_pay51 (sn0 q kn) (m0 q kh kn)
/-- second map. -/
def pn1 : FVec F S64x64 .f32 := k0_pay52 (sn1 q kn) (m1 q kh kn)
/-- The denominators. -/
def l0 : FVec F S64x1 .f32 := k0_pay60 (ph0 q kh kn) (pn0 q kh kn)
def l1 : FVec F S64x1 .f32 := k0_pay61 (ph1 q kh kn) (pn1 q kh kn)
/-- What the head stores. -/
def head : FVec F S64x128 .bf16 :=
  k0_pay70 (k0_pay69 (k0_pay3 lv) (ph0 q kh kn) (ph1 q kh kn) (pn0 q kh kn) (pn1 q kh kn) (l0 q kh kn) (l1 q kh kn) vh vn) g

end Term

variable (q : FVec Ideal S64x128 .f32) (kh vh : FVec Ideal S1x1x2048x128 .f32) (kn vn : FVec Ideal S64x128 .f32)
  (lv : FVec Ideal S4x64 .f32) (g : FVec Ideal S1x128 .f32)

/-- The lower half of a row of 128 lanes. -/
abbrev low (f : Fin 128 → EReal) : Fin 64 → EReal := fun x => f ⟨x.val, by have := x.isLt; omega⟩
/-- The upper half. -/
abbrev high (f : Fin 128 → EReal) : Fin 64 → EReal := fun x => f ⟨64 + x.val, by have := x.isLt; omega⟩

theorem sh0_at (i : Fin 64) (k : Fin 2048) :
    sh0 (F := Ideal) q kh (ix2 i k) = score (low fun d => q (ix2 i d)) (low fun d => kh (ix4 0 0 k d)) := by
  pointwise [sh0, k0_pay18, k0_pay8, k0_pay2, k0_pay4]
  exact score_low (fun d => q (ix2 i d)) fun d => kh (ix4 0 0 k d)

theorem sh1_at (i : Fin 64) (k : Fin 2048) :
    sh1 (F := Ideal) q kh (ix2 i k) = score (high fun d => q (ix2 i d)) (high fun d => kh (ix4 0 0 k d)) := by
  pointwise [sh1, k0_pay19, k0_pay11, k0_pay9, k0_pay10, k0_pay2, k0_pay4]
  exact score_high (fun d => q (ix2 i d)) fun d => kh (ix4 0 0 k d)

theorem sn0_at (i k : Fin 64) :
    sn0 (F := Ideal) q kn (ix2 i k) = score (low fun d => q (ix2 i d)) (low fun d => kn (ix2 k d)) := by
  pointwise [sn0, k0_pay26, k0_pay8, k0_pay2, k0_pay4]
  exact score_low (fun d => q (ix2 i d)) fun d => kn (ix2 k d)

theorem sn1_at (i k : Fin 64) :
    sn1 (F := Ideal) q kn (ix2 i k) = score (high fun d => q (ix2 i d)) (high fun d => kn (ix2 k d)) := by
  pointwise [sn1, k0_pay27, k0_pay11, k0_pay9, k0_pay10, k0_pay2, k0_pay4]
  exact score_high (fun d => q (ix2 i d)) fun d => kn (ix2 k d)

theorem m0_at (i : Fin 64) : m0 (F := Ideal) q kh kn (ix2 i 0)
    = max (rowMax fun x => sh0 (F := Ideal) q kh (ix2 i x)) (rowMax fun x => sn0 (F := Ideal) q kn (ix2 i x)) := by
  pointwise [m0, k0_pay35]; rfl

theorem m1_at (i : Fin 64) : m1 (F := Ideal) q kh kn (ix2 i 0)
    = max (rowMax fun x => sh1 (F := Ideal) q kh (ix2 i x)) (rowMax fun x => sn1 (F := Ideal) q kn (ix2 i x)) := by
  pointwise [m1, k0_pay36]; rfl

/-- WHAT A HEAD STORES, at row `i` and lane `e`: the normed weighted sum of values over the cached and the new keys. -/
theorem head_at (i : Fin 64) (e : Fin 128) : head (F := Ideal) q kh vh kn vn lv g (ix2 i e)
    = normed (fun e => sum2
        (fun k => score (low fun d => q (ix2 i d)) (low fun d => kh (ix4 0 0 k d)))
        (fun k => score (high fun d => q (ix2 i d)) (high fun d => kh (ix4 0 0 k d)))
        (fun k => score (low fun d => q (ix2 i d)) (low fun d => kn (ix2 k d)))
        (fun k => score (high fun d => q (ix2 i d)) (high fun d => kn (ix2 k d)))
        (fun k => vh (ix4 0 0 k e)) (fun k => vn (ix2 k e))
        (lambda (fun d => lv (ix2 0 d)) (fun d => lv (ix2 1 d)) (fun d => lv (ix2 2 d)) (fun d => lv (ix2 3 d))))
      (fun e => g (ix2 0 e)) e := by
  pointwise [head, k0_pay70, k0_pay69, k0_pay3, l0, l1, k0_pay60, k0_pay61, ph0, ph1, pn0, pn1, k0_pay43, k0_pay44, k0_pay51, k0_pay52]
  simp only [m0_at, m1_at, sh0_at, sh1_at, sn0_at, sn1_at]
  rfl

end Cert.KernelIdeal.Attn

end
-- ==== Proof.Attn.Ref.lean ====
/- The reference read at an index: each new token's output is the normed weighted sum of values over the whole row of keys, the
   cached ones first. -/
module

public import proofs.«01_k».proof.Proof.Gen.ReferenceIdeal.Read
public import proofs.«01_k».proof.Proof.Attn.Math
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

/-- The chunk of 64 tokens a key lies in: its position over 64. -/
theorem kchunk_at (k : Fin 2112) : val_main_v35 (F := Ideal) (ix1 k) = BitVec.ofNat 32 (k.val / 64) := by
  unfold val_main_v35 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_c_2 val_main_v18 val_main_v17 val_main_v10 val_main_v9 val_main_v8 val_main_c
  pointwise
  show _ = _
  simp only [id]
  revert k
  decide +kernel

/-- Every new token lies in chunk 32. -/
theorem qchunk_at (q : Fin 64) : val_main_v37 (F := Ideal) (ix1 q) = 32#32 := by
  unfold val_main_v37 val_main_call1_v13 val_main_call1_v12 val_main_call1_c_0 val_main_call1_v11 val_main_call1_v10 val_main_call1_v9 val_main_call1_c val_main_call1_v8 val_main_call1_v7 val_main_call1_v6 val_main_call1_v5 val_main_call1_v4 val_main_call1_v3 val_main_call1_v2 val_main_call1_v1 val_main_call1_v0 val_main_c_3 val_main_v10 val_main_v9 val_main_v8 val_main_c
  pointwise
  simp only [id]
  revert q
  decide +kernel

/-- So a new token sees every key: the mask is true throughout. -/
theorem mask_at (q : Fin 64) (k : Fin 2112) : val_main_v41 (F := Ideal) (ix2 q k) = 1#1 := by
  have h : val_main_v41 (F := Ideal) (ix2 q k) = IntOp.cmpi .sle (val_main_v35 (F := Ideal) (ix1 k)) (val_main_v37 (F := Ideal) (ix1 q)) := by
    pointwise [val_main_v41, val_main_v40, val_main_v39, val_main_v38, val_main_v36]
  rw [h, kchunk_at, qchunk_at]
  clear h
  revert k
  decide +kernel
/-- The maximum over the keys, at an index. -/
theorem maxRow_at (y : FVec Ideal S8x32x64x2112 .f32) (b : Fin 8) (H : Fin 32) (q : Fin 64) :
    Host.reduce FloatOps.maximumf y (constant (F := Ideal) S_ .f32 0xFF800000#32) reducesTo_S8x32x64x2112_S8x32x64_d3 h_S_ (ix3 b H q)
      = rowMax fun x => y (ix4 b H q x) := by
  pointwise
  rfl

/-- The sum over the keys, at an index. -/
theorem sumRow_at (y : FVec Ideal S8x32x64x2112 .f32) (b : Fin 8) (H : Fin 32) (q : Fin 64) :
    Host.reduceAdd y (constant S_ .f32 0x00000000#32) reducesTo_S8x32x64x2112_S8x32x64_d3 h_S_ (ix3 b H q) = ∑ x, y (ix4 b H q x) := by
  pointwise

/-- A number per row spread over the keys, at an index. -/
theorem spread_at (y : FVec Ideal S8x32x64 .f32) (b : Fin 8) (H : Fin 32) (q : Fin 64) (k : Fin 2112) :
    broadcastInDim S8x32x64x2112 ![0, 1, 2, 3] bcast_S8x32x64x1_S8x32x64x2112_0_1_2_3
      (broadcastInDim S8x32x64x1 ![0, 1, 2] bcast_S8x32x64_S8x32x64x1_0_1_2 y) (ix4 b H q k) = y (ix3 b H q) := by
  pointwise

/-- The first map of a pair of maps, at an index. -/
theorem first_at (y : FVec Ideal S8x32x64x2112 .f32) (b : Fin 8) (h : Fin 16) (q : Fin 64) (k : Fin 2112) :
    shapeCast S8x16x64x2112 (extractStridedSlice S8x16x1x64x2112 ![0, 0, 0, 0, 0]
      (shapeCast S8x16x2x64x2112 y shapeCasts_S8x32x64x2112_S8x16x2x64x2112)
      slices_S8x16x2x64x2112_S8x16x1x64x2112_0_0_0_0_0) shapeCasts_S8x16x1x64x2112_S8x16x64x2112 (ix4 b h q k)
      = y (ix4 b ⟨h.val * 2, by have := h.isLt; omega⟩ q k) := by
  pointwise

/-- The second map, at an index. -/
theorem second_at (y : FVec Ideal S8x32x64x2112 .f32) (b : Fin 8) (h : Fin 16) (q : Fin 64) (k : Fin 2112) :
    shapeCast S8x16x64x2112 (extractStridedSlice S8x16x1x64x2112 ![0, 0, 1, 0, 0]
      (shapeCast S8x16x2x64x2112 y shapeCasts_S8x32x64x2112_S8x16x2x64x2112)
      slices_S8x16x2x64x2112_S8x16x1x64x2112_0_0_1_0_0) shapeCasts_S8x16x1x64x2112_S8x16x64x2112 (ix4 b h q k)
      = y (ix4 b ⟨h.val * 2 + 1, by have := h.isLt; omega⟩ q k) := by
  pointwise

/-- The product of the weights with the values, at an index. -/
theorem product_at (v : FVec Ideal S8x2112x16x128 .f32) (w : FVec Ideal S8x16x64x2112 .f32) (b : Fin 8) (q : Fin 64) (h : Fin 16) (e : Fin 128) :
    transpose S8x64x16x128 [0, 3, 1, 2] (Host.dotGeneral (F := Ideal) dot_S8x2112x16x128_S8x16x64x2112_S8x16x128x64_1_3_3_2_02_01 none v w)
      transposes_S8x16x128x64_S8x64x16x128_0_3_1_2 (ix4 b q h e) = ∑ x, v (ix4 b x h e) * w (ix4 b h q x) := by
  pointwise
variable (x0 : FVec Ideal S8704x6144 .f32) (x1 : FVec Ideal S2x8x2048x32x64 .f32) (x2 : FVec Ideal S2x8x2048x16x128 .f32)
  (x3 x4 x5 x6 : FVec Ideal S2x64 .f32) (x7 : FVec Ideal S2x128 .f32)

/-- The masked scores are the scores. -/
theorem v46_at (b : Fin 8) (H : Fin 32) (q : Fin 64) (k : Fin 2112) :
    val_main_v46 (F := Ideal) x0 x1 (ix4 b H q k) = val_main_v44 (F := Ideal) x0 x1 (ix4 b H q k) := by
  unfold val_main_v46
  generalize val_main_v44 (F := Ideal) x0 x1 = y
  unfold val_main_call2_v1 val_main_v45
  pointwise
  rw [mask_at]
  rfl
/-- The row maximum. -/
theorem v49_at (b : Fin 8) (H : Fin 32) (q : Fin 64) : val_main_v49 (F := Ideal) x0 x1 (ix3 b H q)
    = max bottom (rowMax fun x => val_main_v46 (F := Ideal) x0 x1 (ix4 b H q x)) := by
  rw [val_main_v49_apply, val_main_v48_apply]
  unfold val_main_v47 val_main_cst_6
  rw [maxRow_at]
  rfl

/-- The row maximum spread over the keys. -/
theorem v51_at (b : Fin 8) (H : Fin 32) (q : Fin 64) (k : Fin 2112) :
    val_main_v51 (F := Ideal) x0 x1 (ix4 b H q k) = val_main_v49 (F := Ideal) x0 x1 (ix3 b H q) := by
  unfold val_main_v51 val_main_v50
  exact spread_at _ b H q k

/-- The exponentials. -/
theorem v53_at (b : Fin 8) (H : Fin 32) (q : Fin 64) (k : Fin 2112) : val_main_v53 (F := Ideal) x0 x1 (ix4 b H q k)
    = Ideal.exp (val_main_v46 (F := Ideal) x0 x1 (ix4 b H q k) - val_main_v49 (F := Ideal) x0 x1 (ix3 b H q)) := by
  rw [val_main_v53_apply, val_main_v52_apply, v51_at]
  rfl

/-- The denominators spread over the keys. -/
theorem v56_at (b : Fin 8) (H : Fin 32) (q : Fin 64) (k : Fin 2112) : val_main_v56 (F := Ideal) x0 x1 (ix4 b H q k)
    = ∑ x, val_main_v53 (F := Ideal) x0 x1 (ix4 b H q x) := by
  unfold val_main_v56 val_main_v55 val_main_v54 val_main_cst_8
  rw [spread_at, sumRow_at]

/-- A reference weight is the softmax weight of its row of scores. -/
theorem v57_at (b : Fin 8) (H : Fin 32) (q : Fin 64) (k : Fin 2112) : val_main_v57 (F := Ideal) x0 x1 (ix4 b H q k)
    = weight (val_main_v46 (F := Ideal) x0 x1 (ix4 b H q k)) (max bottom (rowMax fun x => val_main_v46 (F := Ideal) x0 x1 (ix4 b H q x)))
      (∑ x, Ideal.exp (val_main_v46 (F := Ideal) x0 x1 (ix4 b H q x) - max bottom (rowMax fun x => val_main_v46 (F := Ideal) x0 x1 (ix4 b H q x)))) := by
  rw [val_main_v57_apply, v56_at, v53_at]
  simp only [v53_at, v49_at]
  rfl
/-- The first map's weights. -/
theorem v60_at (b : Fin 8) (h : Fin 16) (q : Fin 64) (k : Fin 2112) : val_main_v60 (F := Ideal) x0 x1 (ix4 b h q k)
    = val_main_v57 (F := Ideal) x0 x1 (ix4 b ⟨h.val * 2, by have := h.isLt; omega⟩ q k) := by
  unfold val_main_v60 val_main_v59 val_main_v58
  exact first_at _ b h q k

/-- The second map's weights. -/
theorem v62_at (b : Fin 8) (h : Fin 16) (q : Fin 64) (k : Fin 2112) : val_main_v62 (F := Ideal) x0 x1 (ix4 b h q k)
    = val_main_v57 (F := Ideal) x0 x1 (ix4 b ⟨h.val * 2 + 1, by have := h.isLt; omega⟩ q k) := by
  unfold val_main_v62 val_main_v61 val_main_v58
  exact second_at _ b h q k

/-- The difference of the two maps' weights. -/
theorem v65_at (b : Fin 8) (h : Fin 16) (q : Fin 64) (k : Fin 2112) : val_main_v65 (F := Ideal) x0 x1 x3 x4 x5 x6 (ix4 b h q k)
    = val_main_v57 (F := Ideal) x0 x1 (ix4 b ⟨h.val * 2, by have := h.isLt; omega⟩ q k)
      - val_main_v34 (F := Ideal) x3 x4 x5 x6 ix0 * val_main_v57 (F := Ideal) x0 x1 (ix4 b ⟨h.val * 2 + 1, by have := h.isLt; omega⟩ q k) := by
  rw [val_main_v65_apply, val_main_v64_apply, val_main_v63_apply, Subsingleton.elim (idx_main_v63 _) ix0, v60_at, v62_at]
  rfl

/-- A reference output before its norm: the values weighted with the difference of the two maps' weights. -/
theorem v67_at (b : Fin 8) (q : Fin 64) (h : Fin 16) (e : Fin 128) : val_main_v67 (F := Ideal) x0 x1 x2 x3 x4 x5 x6 (ix4 b q h e)
   =  ∑ x, val_main_v16 (F := Ideal) x0 x2 (ix4 b x h e) *
        (val_main_v57 (F := Ideal) x0 x1 (ix4 b ⟨h.val * 2, by have := h.isLt; omega⟩ q x) -
          val_main_v34 (F := Ideal) x3 x4 x5 x6 ix0 * val_main_v57 (F := Ideal) x0 x1 (ix4 b ⟨h.val * 2 + 1, by have := h.isLt; omega⟩ q x)) := by
  unfold val_main_v67 val_main_v66
  rw [product_at]
  simp only [v65_at]

/-- A score: query and key over 64 lanes, the key a cached one below 2048 and a new one from there on. -/
theorem v44_at (b : Fin 8) (H : Fin 32) (q : Fin 64) (k : Fin 2112) : val_main_v44 (F := Ideal) x0 x1 (ix4 b H q k)
    = score (fun x => x0 (ix2 ⟨8192 + (b.val * 64 + q.val), by have := b.isLt; have := q.isLt; omega⟩ ⟨H.val * 64 + x.val, by have := H.isLt; have := x.isLt; omega⟩))
      (fun x => if h : k.val < 2048 then x1 (ix5 0 b ⟨k.val, h⟩ H x)
        else x0 (ix2 ⟨8192 + (b.val * 64 + (k.val - 2048)), by have := b.isLt; have := k.isLt; omega⟩ ⟨2048 + (H.val * 64 + x.val), by have := H.isLt; have := x.isLt; omega⟩)) := by
  pointwise [val_main_v44, val_main_v43, val_main_cst_4, val_main_v42, val_main_v13, val_main_v12, val_main_v11, val_main_v5, val_main_v4, val_main_v3, val_main_v2, val_main_v1, val_main_v0]
  rfl

/-- A value: a cached one below 2048 and a new one from there on. -/
theorem v16_at (b : Fin 8) (k : Fin 2112) (h : Fin 16) (e : Fin 128) : val_main_v16 (F := Ideal) x0 x2 (ix4 b k h e)
    = if h' : k.val < 2048 then x2 (ix5 0 b ⟨k.val, h'⟩ h e)
      else x0 (ix2 ⟨8192 + (b.val * 64 + (k.val - 2048)), by have := b.isLt; have := k.isLt; omega⟩ ⟨4096 + (h.val * 128 + e.val), by have := h.isLt; have := e.isLt; omega⟩) := by
  pointwise [val_main_v16, val_main_v15, val_main_v14, val_main_v7, val_main_v6, val_main_v1, val_main_v0]

/-- The second map's share. -/
theorem v34_at : val_main_v34 (F := Ideal) x3 x4 x5 x6 ix0
    = lambda (fun x => x3 (ix2 0 x)) (fun x => x4 (ix2 0 x)) (fun x => x5 (ix2 0 x)) (fun x => x6 (ix2 0 x)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst, val_main_cst_0, val_main_cst_1]
  rfl

/-- The new tokens' rows of the result: the normed outputs. -/
theorem v86_at (i : Fin 512) (j : Fin 2048) : val_main_v86 (F := Ideal) x0 x1 x2 x3 x4 x5 x6 x7 (ix2 i j)
    = normed (fun x => val_main_v67 (F := Ideal) x0 x1 x2 x3 x4 x5 x6 (ix4 ⟨i.val / 64, by have := i.isLt; omega⟩ ⟨i.val % 64, by have := i.isLt; omega⟩ ⟨j.val / 128, by have := j.isLt; omega⟩ x))
        (fun x => x7 (ix2 0 x)) ⟨j.val % 128, by have := j.isLt; omega⟩ := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_9, val_main_cst_10, val_main_cst_11, val_main_cst_12]
  rfl

/-- The result: the rows handed in below row 8192, the new tokens' rows from there on. -/
theorem v88_at (x8 : FVec Ideal S8704x2048 .bf16) (i : Fin 8704) (j : Fin 2048) : val_main_v88 (F := Ideal) x0 x1 x2 x3 x4 x5 x6 x7 x8 (ix2 i j)
    = if h : 8192 ≤ i.val then val_main_v86 (F := Ideal) x0 x1 x2 x3 x4 x5 x6 x7 (ix2 ⟨i.val - 8192, by have := i.isLt; omega⟩ j) else x8 (ix2 i j) := by
  pointwise [val_main_v88, val_main_v87]
  split <;> split <;> first | rfl | omega

/-- THE REFERENCE'S RESULT in a new token's row and a head's lane: the normed weighted sum of values over the row of all keys. -/
theorem v88_new (x8 : FVec Ideal S8704x2048 .bf16) (b : Fin 8) (q : Fin 64) (h : Fin 16) (e : Fin 128) (i : Fin 8704) (j : Fin 2048)
    (hi : i.val = 8192 + (b.val * 64 + q.val)) (hj : j.val = h.val * 128 + e.val) :
    val_main_v88 (F := Ideal) x0 x1 x2 x3 x4 x5 x6 x7 x8 (ix2 i j)
    = normed (fun e => sum1
        (fun k => val_main_v44 (F := Ideal) x0 x1 (ix4 b ⟨h.val * 2, by have := h.isLt; omega⟩ q k))
        (fun k => val_main_v44 (F := Ideal) x0 x1 (ix4 b ⟨h.val * 2 + 1, by have := h.isLt; omega⟩ q k))
        (fun k => val_main_v16 (F := Ideal) x0 x2 (ix4 b k h e))
        (lambda (fun x => x3 (ix2 0 x)) (fun x => x4 (ix2 0 x)) (fun x => x5 (ix2 0 x)) (fun x => x6 (ix2 0 x))))
      (fun e => x7 (ix2 0 e)) e := by
  have := b.isLt; have := q.isLt; have := h.isLt; have := e.isLt
  have e1 : (⟨(i.val - 8192) / 64, by omega⟩ : Fin 8) = b := Fin.ext (by show (i.val - 8192) / 64 = b.val; omega)
  have e2 : (⟨(i.val - 8192) % 64, by omega⟩ : Fin 64) = q := Fin.ext (by show (i.val - 8192) % 64 = q.val; omega)
  have e3 : (⟨j.val / 128, by omega⟩ : Fin 16) = h := Fin.ext (by show j.val / 128 = h.val; omega)
  have e4 : (⟨j.val % 128, by omega⟩ : Fin 128) = e := Fin.ext (by show j.val % 128 = e.val; omega)
  rw [v88_at, dif_pos (by omega), v86_at, e1, e2, e3, e4]
  simp only [v67_at, v57_at, v46_at, v34_at]
  rfl

end Cert.ReferenceIdeal.Attn

end
-- ==== Proof.Attn.Tile.lean ====
/- One tile of the kernel's result: a head's term at its loads is the reference's result at the head's lanes. -/
module

public import proofs.«01_k».proof.Proof.Gen.KernelIdeal.Value
public import proofs.«01_k».proof.Proof.Attn.Head
public import proofs.«01_k».proof.Proof.Attn.Ref
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ)

/-- The windows' blocks, point by point. -/
theorem idx : ∀ t : Fin cfg0.N, win0_0.index t = ![128 + t.val / 4, t.val % 4] ∧ win0_1.index t = ![0, t.val / 4, 0, t.val % 4]
    ∧ win0_2.index t = ![0, t.val / 4, 0, t.val % 4] ∧ win0_3.index t = ![128 + t.val / 4, 4 + t.val % 4]
    ∧ win0_4.index t = ![128 + t.val / 4, 8 + t.val % 4] ∧ win0_5.index t = ![0, 0] ∧ win0_6.index t = ![0, 0]
    ∧ win0_7.index t = ![128 + t.val / 4, t.val % 4] ∧ t.val / 4 < 8 :=
  (by decide +kernel : ∀ t : Fin grid0.N, _)

/-- The reference's result over the kernel's arguments. -/
abbrev REF (c : Dev nD) : FVec Ideal Cert.ReferenceIdeal.S8704x2048 .bf16 :=
  Cert.ReferenceIdeal.Read.val_main_v88 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The cached keys by lanes, the lower half of a head's 128: the first map's key. -/
theorem keys_low (c : Dev nD) (b : Fin 8) (k : Fin 2048) (h : Fin 16) (x : Fin 64) :
    (V m c main_v0 : FVec Ideal S2x8x2048x2048 .f32) (ix4 0 b k ⟨h.val * 128 + x.val, by have := h.isLt; have := x.isLt; omega⟩)
      = (m ((c : Thread nD τ).loc main_arg1) : FVec Ideal S2x8x2048x32x64 .f32) (ix5 0 b k ⟨h.val * 2, by have := h.isLt; omega⟩ x) := by
  entry_read
  pointwise
  blk_ext []

/-- The upper half: the second map's key. -/
theorem keys_high (c : Dev nD) (b : Fin 8) (k : Fin 2048) (h : Fin 16) (x : Fin 64) :
    (V m c main_v0 : FVec Ideal S2x8x2048x2048 .f32) (ix4 0 b k ⟨h.val * 128 + (64 + x.val), by have := h.isLt; have := x.isLt; omega⟩)
      = (m ((c : Thread nD τ).loc main_arg1) : FVec Ideal S2x8x2048x32x64 .f32) (ix5 0 b k ⟨h.val * 2 + 1, by have := h.isLt; omega⟩ x) := by
  entry_read
  pointwise
  blk_ext []

/-- The cached values by lanes. -/
theorem values_at (c : Dev nD) (b : Fin 8) (k : Fin 2048) (h : Fin 16) (x : Fin 128) :
    (V m c main_v1 : FVec Ideal S2x8x2048x2048 .f32) (ix4 0 b k ⟨h.val * 128 + x.val, by have := h.isLt; have := x.isLt; omega⟩)
      = (m ((c : Thread nD τ).loc main_arg2) : FVec Ideal S2x8x2048x16x128 .f32) (ix5 0 b k h x) := by
  entry_read
  pointwise
  blk_ext []

/-- Row 0 of one of the four arrays the second map's share is computed from, as one row. -/
def row (a : FVec Ideal S2x64 .f32) : FVec Ideal S1x64 .f32 :=
  broadcastInDim S1x64 ![1] bcast_S64_S1x64_1 (shapeCast S64 (extractStridedSlice S1x64 ![0, 0] a slices_S2x64_S1x64_0_0) shapeCasts_S1x64_S64)

/-- The four rows stacked. -/
theorem V_main_v14 (c : Dev nD) : V m c main_v14 = concatenate S4x64 0 [⟨S1x64, row (m ((c : Thread nD τ).loc main_arg3))⟩,
    ⟨S1x64, row (m ((c : Thread nD τ).loc main_arg4))⟩, ⟨S1x64, row (m ((c : Thread nD τ).loc main_arg5))⟩,
    ⟨S1x64, row (m ((c : Thread nD τ).loc main_arg6))⟩] concatenates_S1x64_S1x64_S1x64_S1x64_S4x64_d0 := by
  rfl

/-- The rows the second map's share is computed from. -/
theorem rows_at (c : Dev nD) (x : Fin 64) :
    (V m c main_v14 : FVec Ideal S4x64 .f32) (ix2 0 x) = (m ((c : Thread nD τ).loc main_arg3) : FVec Ideal S2x64 .f32) (ix2 0 x)
    ∧ (V m c main_v14 : FVec Ideal S4x64 .f32) (ix2 1 x) = (m ((c : Thread nD τ).loc main_arg4) : FVec Ideal S2x64 .f32) (ix2 0 x)
    ∧ (V m c main_v14 : FVec Ideal S4x64 .f32) (ix2 2 x) = (m ((c : Thread nD τ).loc main_arg5) : FVec Ideal S2x64 .f32) (ix2 0 x)
    ∧ (V m c main_v14 : FVec Ideal S4x64 .f32) (ix2 3 x) = (m ((c : Thread nD τ).loc main_arg6) : FVec Ideal S2x64 .f32) (ix2 0 x) := by
  rw [V_main_v14]
  refine ⟨?_, ?_, ?_, ?_⟩ <;> pointwise [row]

/-- The gain. -/
theorem gain_at (c : Dev nD) (x : Fin 128) :
    (V m c main_v17 : FVec Ideal S1x128 .f32) (ix2 0 x) = (m ((c : Thread nD τ).loc main_arg7) : FVec Ideal S2x128 .f32) (ix2 0 x) := by
  entry_read
  pointwise

/-- ONE TILE: a head's term at its loads is the reference's result at the head's lanes. -/
theorem tile (c : Dev nD) (q : FVec Ideal S64x128 .f32) (kh vh : FVec Ideal S1x1x2048x128 .f32) (kn vn : FVec Ideal S64x128 .f32)
    (lv : FVec Ideal S4x64 .f32) (g : FVec Ideal S1x128 .f32) (b : Fin 8) (h : Fin 16)
    (hq : ∀ i d, q (ix2 i d) = (m ((c : Thread nD τ).loc main_arg0) : FVec Ideal S8704x6144 .f32)
      (ix2 ⟨8192 + (b.val * 64 + i.val), by have := b.isLt; have := i.isLt; omega⟩ ⟨h.val * 128 + d.val, by have := h.isLt; have := d.isLt; omega⟩))
    (hkn : ∀ i d, kn (ix2 i d) = (m ((c : Thread nD τ).loc main_arg0) : FVec Ideal S8704x6144 .f32)
      (ix2 ⟨8192 + (b.val * 64 + i.val), by have := b.isLt; have := i.isLt; omega⟩ ⟨2048 + (h.val * 128 + d.val), by have := h.isLt; have := d.isLt; omega⟩))
    (hvn : ∀ i d, vn (ix2 i d) = (m ((c : Thread nD τ).loc main_arg0) : FVec Ideal S8704x6144 .f32)
      (ix2 ⟨8192 + (b.val * 64 + i.val), by have := b.isLt; have := i.isLt; omega⟩ ⟨4096 + (h.val * 128 + d.val), by have := h.isLt; have := d.isLt; omega⟩))
    (hkh : ∀ k d, kh (ix4 0 0 k d) = (V m c main_v0 : FVec Ideal S2x8x2048x2048 .f32) (ix4 0 b k ⟨h.val * 128 + d.val, by have := h.isLt; have := d.isLt; omega⟩))
    (hvh : ∀ k d, vh (ix4 0 0 k d) = (V m c main_v1 : FVec Ideal S2x8x2048x2048 .f32) (ix4 0 b k ⟨h.val * 128 + d.val, by have := h.isLt; have := d.isLt; omega⟩))
    (hlv : ∀ r d, lv (ix2 r d) = (V m c main_v14 : FVec Ideal S4x64 .f32) (ix2 r d))
    (hg : ∀ d, g (ix2 0 d) = (V m c main_v17 : FVec Ideal S1x128 .f32) (ix2 0 d))
    (i : Fin 64) (e : Fin 128) (J : S8704x2048.Idx)
    (hr : (J 0 : ℕ) = 8192 + (b.val * 64 + i.val)) (hj : (J 1 : ℕ) = h.val * 128 + e.val) :
    head (F := Ideal) q kh vh kn vn lv g (ix2 i e) = REF m c J := by
  idx_vars J
  rw [head_at]
  refine Eq.trans ?_ (Cert.ReferenceIdeal.Attn.v88_new _ _ _ _ _ _ _ _ _ b i h e J0 J1 hr hj).symm
  have hrows := rows_at m c
  simp only [sum1_eq_sum2 2048 64 rfl, hg, gain_at, hlv, (hrows _).1, (hrows _).2.1, (hrows _).2.2.1, (hrows _).2.2.2]
  have hb := b.isLt; have hh := h.isLt
  congr 1
  swap
  · exact funext fun e => gain_at m c e
  funext e
  congr 1
  · funext k
    rw [Cert.ReferenceIdeal.Attn.v44_at]
    simp only [hq, hkh, keys_low]
    have hk := k.isLt
    simp only [hk, dif_pos]
    congr 1
    · funext x
      dsimp only [low, high]
      blk_ext []
    · exact funext fun x => keys_low m c b k h x
  · funext k
    rw [Cert.ReferenceIdeal.Attn.v44_at]
    simp only [hq, hkh, keys_high]
    have hk := k.isLt
    simp only [hk, dif_pos]
    congr 1
    · funext x
      dsimp only [low, high]
      blk_ext []
    · exact funext fun x => keys_high m c b k h x
  · funext k
    rw [Cert.ReferenceIdeal.Attn.v44_at]
    simp only [hq, hkn]
    have hk : ¬ 2048 + k.val < 2048 := by omega
    simp only [hk, dif_neg, not_false_eq_true]
    congr 1
    · funext x
      dsimp only [low, high]
      blk_ext []
    · funext x
      dsimp only [low, high]
      blk_ext []
  · funext k
    rw [Cert.ReferenceIdeal.Attn.v44_at]
    simp only [hq, hkn]
    have hk : ¬ 2048 + k.val < 2048 := by omega
    simp only [hk, dif_neg, not_false_eq_true]
    congr 1
    · funext x
      dsimp only [low, high]
      blk_ext []
    · funext x
      dsimp only [low, high]
      blk_ext []
  · funext k
    rw [Cert.ReferenceIdeal.Attn.v16_at, dif_pos k.isLt, hvh, values_at]
  · funext k
    rw [Cert.ReferenceIdeal.Attn.v16_at, dif_neg (by show ¬ 2048 + k.val < 2048; omega), hvn]
    blk_ext []

end Cert.KernelIdeal.Attn

end
-- ==== Proof.Attn.Final.lean ====
/- The kernel's result array: below row 8192 what the operand handed in, from there on the reference's result. -/
module

public import proofs.«01_k».proof.Proof.Gen.KernelIdeal.Value
public import proofs.«01_k».proof.Proof.Attn.Tile
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ)

/-- A load of 128 lanes from lane `o` on, out of a block of 512. -/
theorem ld_at (X : Vec Ideal S64x512 .f32) (o : ℕ) (ho : o + 128 ≤ 512) (inb) (i : Fin 64) (d : Fin 128) :
    View.ld X (Rect.unit (s := S64x512) ![0, o] ![64, 128] inb) (ix2 i d) = X (ix2 i ⟨o + d.val, by have := d.isLt; omega⟩) := by
  pointwise

/-- A load of 128 lanes from lane `o` on, out of a cached block. -/
theorem ld4_at (X : Vec Ideal S1x1x2048x512 .f32) (o : ℕ) (ho : o + 128 ≤ 512) (inb) (k : Fin 2048) (d : Fin 128) :
    View.ld X (Rect.unit (s := S1x1x2048x512) ![0, 0, 0, o] ![1, 1, 2048, 128] inb) (ix4 0 0 k d) = X (ix4 0 0 k ⟨o + d.val, by have := d.isLt; omega⟩) := by
  pointwise

/-- One tile at point `t`: head `p` of the point's four, loaded from lane `128 p` on. -/
theorem tile_at (c : Dev nD) (t : Fin cfg0.N) (p : ℕ) (hp : p < 4) (o : ℕ) (ho : o = p * 128) (inb2) (inb4) (i : Fin 64) (e : Fin 128) (J : S8704x2048.Idx)
    (h0 : (J 0 : ℕ) = (128 + t.val / 4) * 64 + i.val) (h1 : (J 1 : ℕ) = t.val % 4 * 512 + (o + e.val)) :
    head (F := Ideal) (View.ld (iblk m c 0 t) (Rect.unit (s := S64x512) ![0, o] ![64, 128] inb2)) (View.ld (iblk m c 1 t) (Rect.unit (s := S1x1x2048x512) ![0, 0, 0, o] ![1, 1, 2048, 128] inb4))
      (View.ld (iblk m c 2 t) (Rect.unit (s := S1x1x2048x512) ![0, 0, 0, o] ![1, 1, 2048, 128] inb4)) (View.ld (iblk m c 3 t) (Rect.unit (s := S64x512) ![0, o] ![64, 128] inb2))
      (View.ld (iblk m c 4 t) (Rect.unit (s := S64x512) ![0, o] ![64, 128] inb2)) (iblk m c 5 t) (iblk m c 6 t) (ix2 i e) = REF m c J := by
  have ht := (idx t).2.2.2.2.2.2.2.2
  have ho' : o + 128 ≤ 512 := by omega
  refine tile m c _ _ _ _ _ _ _ ⟨t.val / 4, ht⟩ ⟨t.val % 4 * 4 + p, by omega⟩ ?_ ?_ ?_ ?_ ?_ ?_ ?_ i e J ?_ ?_
  · intro i d; rw [ld_at _ o ho']; blk_ext [iblk, V_main_arg0, idx t]
  · intro i d; rw [ld_at _ o ho']; blk_ext [iblk, V_main_arg0, idx t]
  · intro i d; rw [ld_at _ o ho']; blk_ext [iblk, V_main_arg0, idx t]
  · intro k d; rw [ld4_at _ o ho']; blk_ext [iblk, idx t]
  · intro k d; rw [ld4_at _ o ho']; blk_ext [iblk, idx t]
  · intro r d; blk_ext [iblk, idx t]
  · intro d; blk_ext [iblk, idx t]
  · rw [h0]; dsimp only; omega
  · rw [h1]; dsimp only; omega

/-- The result array after the last grid point: the rows from 8192 on hold the reference's result, the rows below what the
    aliased operand handed in. -/
theorem final (c : Dev nD) : (dats m 0 c).arrAt 7 cfg0.N
    = fun i => if 128 * 64 ≤ (i 0 : ℕ) then REF m c i else V m c main_v18 i := by
  refine (dats m 0 c).arrAt_eq_of_coversWhere 7 _ (fun β => 128 ≤ β 0) (by decide +kernel) (fun t hf y => ?_)
    (fun j => by blk_simp [Pipeline.Window.cell_apply]; omega)
  blk_simp
  rw [after0_7]; unfold outsAt0
  frame_out
  canon_tiles x h
  case piece0 =>
    idx_vars x
    exact tile_at m c t 3 (by decide) 384 (by decide) inb_S64x512_S64x128_0_384 inb_S1x1x2048x512_S1x1x2048x128_0_0_0_384 _ _ _
      (by blk_simp [idx t]; omega) (by blk_simp [idx t]; omega)
  case piece1 =>
    idx_vars x
    exact tile_at m c t 2 (by decide) 256 (by decide) inb_S64x512_S64x128_0_256 inb_S1x1x2048x512_S1x1x2048x128_0_0_0_256 _ _ _
      (by blk_simp [idx t]; omega) (by blk_simp [idx t]; omega)
  case piece2 =>
    idx_vars x
    exact tile_at m c t 1 (by decide) 128 (by decide) inb_S64x512_S64x128_0_128 inb_S1x1x2048x512_S1x1x2048x128_0_0_0_128 _ _ _
      (by blk_simp [idx t]; omega) (by blk_simp [idx t]; omega)
  case piece3 =>
    idx_vars x
    exact tile_at m c t 0 (by decide) 0 (by decide) inb_S64x512_S64x128_0_0 inb_S1x1x2048x512_S1x1x2048x128_0_0_0_0 _ _ _
      (by blk_simp [idx t]; omega) (by blk_simp [idx t]; omega)

end Cert.KernelIdeal.Attn

end
-- ==== Proof.Gmm1.Body.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Claim
public import Idealize.ShloMosaic.Lib.VecWindow
public import Idealize.ShloMosaic.Lib.WholeRead

@[expose] public section

set_option maxRecDepth 16384

noncomputable section

namespace Cert.Kernel2Ideal.Gmm

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-word table. -/
abbrev one0 : S1.Idx := fun | 0 => (⟨0, by decide⟩ : Fin 1)

/-- The index of a point's row block in a table of one word per row block. -/
abbrev rowAt (i : grid0.Coords) : S168.Idx := fun | 0 => (⟨(i 1).val, (i 1).isLt⟩ : Fin 168)

/-- Whether the row block of the point is one of the `n` blocks in use. -/
abbrev Active (i : grid0.Coords) (n : BitVec 32) : Prop := k0_cond2 i n = 1#1

/-- Whether the point takes its weight block into the scratch buffers: in use, and the first block of its expert. -/
abbrev Loads (i : grid0.Coords) (n w : BitVec 32) : Prop :=
  Scalar.cmpi .ne (Scalar.extui (Scalar.andi (Scalar.cmpi .slt (BitVec.ofNat 32 (i 1).val) n) (Scalar.cmpi .eq w 1#32)) : BitVec 32) 0#32 = 1#1

/-- What the first scratch buffer holds after the body: the point's gate weights rounded where it takes them in, else what it held. -/
def held1 (i : grid0.Coords) (n w : BitVec 32) (x1 : Vec F S1x1x2048x1024 .f32) (x6 : Vec F S2048x1024 .bf16) : Vec F S2048x1024 .bf16 :=
  if Loads i n w then k0_pay1 x1 else x6

/-- and the second: the point's up weights. -/
def held2 (i : grid0.Coords) (n w : BitVec 32) (x2 : Vec F S1x1x2048x1024 .f32) (x7 : Vec F S2048x1024 .bf16) : Vec F S2048x1024 .bf16 :=
  if Loads i n w then k0_pay2 x2 else x7

/-- What the output's staging buffer holds after the body: the gated product for a block in use, zeros for another. -/
def outAt (i : grid0.Coords) (n : BitVec 32) (x0 : Vec F S256x2048 .f32) (w1 w2 : Vec F S2048x1024 .bf16) (x3 x4 : Vec F S1x1x1x1024 .f32) :
    Vec F S256x1024 .bf16 :=
  if Active i n then k0_pay4 x0 w1 x3 w2 x4 else k0_pay3

/-- The table's index of a point is its row block. -/
theorem off1_val (i : grid0.Coords) : k0_off1 i 0 = (i 1).val := by
  have h : (i 1).val < 168 := (i 1).isLt
  show (Scalar.indexCast (BitVec.ofNat 32 (i 1).val)).toNat = _
  unfold Scalar.indexCast
  simp
  omega

/-- A whole buffer that one store may have filled reads the payload where it was stored, and what it held elsewhere. -/
theorem read_store_if {κ : Kind} {sp : Space} {s : Shape} {e : EltTy} (v : View sig κ sp s e) {P P' : Prop} [Decidable P] [Decidable P']
    (h : P ↔ P') {f f' : v.ty.Contents (Elt F)} {off : Fin s.rank → ℕ} (inb : ∀ a, off a + s.size a ≤ s.size a)
    (w : (Rect.unit off s.size inb).shape.Idx → Elt F e) :
    v.read (Elt F) (if _ : P then v.writes (Elt F) f [⟨Rect.unit off s.size inb, w⟩] else f') = if P' then w else v.read (Elt F) f' := by
  by_cases hp : P
  · rw [dif_pos hp, if_pos (h.mp hp), View.read_writes_full]
  · rw [dif_neg hp, if_neg (fun k => hp (h.mpr k))]

set_option maxHeartbeats 1000000 in
theorem body_run (c : Dev nD) (i : grid0.Coords) (q1 q2 : PosShare TreeShare)
    (arg2 : Memref sig .tc .smem S168 .i32) (harg2 : arg2.IsWhole)
    (arg3 : Memref sig .tc .smem S168 .i32) (harg3 : arg3.IsWhole)
    (arg4 : Memref sig .tc .smem S1 .i32) (harg4 : arg4.IsWhole)
    (arg5 : Memref sig .tc .vmem S256x2048 .f32) (harg5 : arg5.IsWhole)
    (arg6 : Memref sig .tc .vmem S1x1x2048x1024 .f32) (harg6 : arg6.IsWhole)
    (arg7 : Memref sig .tc .vmem S1x1x2048x1024 .f32) (harg7 : arg7.IsWhole)
    (arg8 : Memref sig .tc .vmem S1x1x1x1024 .f32) (harg8 : arg8.IsWhole)
    (arg9 : Memref sig .tc .vmem S1x1x1x1024 .f32) (harg9 : arg9.IsWhole)
    (arg10 : Memref sig .tc .vmem S256x1024 .bf16) (harg10 : arg10.IsWhole)
    (arg11 : Memref sig .tc .vmem S2048x1024 .bf16) (harg11 : arg11.IsWhole)
    (arg12 : Memref sig .tc .vmem S2048x1024 .bf16) (harg12 : arg12.IsWhole)
    (y1 : Vec F S168 .i32) (y2 : Vec F S1 .i32)
    (x0 : Vec F S256x2048 .f32) (x1 x2 : Vec F S1x1x2048x1024 .f32) (x3 x4 : Vec F S1x1x1x1024 .f32) (x6 x7 : Vec F S2048x1024 .bf16) :
      ∀ (E : Set ℕ) (K : PUnit → sProp 𝕄),
        iprop(owns (c : Thread nD τ) arg3 q1 y1
            ∗ owns (c : Thread nD τ) arg4 q2 y2
            ∗ owns (c : Thread nD τ) arg5 fullShare x0 ∗ owns (c : Thread nD τ) arg6 fullShare x1 ∗ owns (c : Thread nD τ) arg7 fullShare x2
            ∗ owns (c : Thread nD τ) arg8 fullShare x3 ∗ owns (c : Thread nD τ) arg9 fullShare x4
            ∗ (∃ d, owns (c : Thread nD τ) arg10 fullShare d) ∗ owns (c : Thread nD τ) arg11 fullShare x6 ∗ owns (c : Thread nD τ) arg12 fullShare x7
            ∗ (iprop(owns (c : Thread nD τ) arg3 q1 y1
            ∗ owns (c : Thread nD τ) arg4 q2 y2
            ∗ owns (c : Thread nD τ) arg5 fullShare x0 ∗ owns (c : Thread nD τ) arg6 fullShare x1 ∗ owns (c : Thread nD τ) arg7 fullShare x2
            ∗ owns (c : Thread nD τ) arg8 fullShare x3 ∗ owns (c : Thread nD τ) arg9 fullShare x4
            ∗ owns (c : Thread nD τ) arg10 fullShare (outAt i (y2 one0) x0 (held1 i (y2 one0) (y1 (rowAt i)) x1 x6) (held2 i (y2 one0) (y1 (rowAt i)) x2 x7) x3 x4)
            ∗ owns (c : Thread nD τ) arg11 fullShare (held1 i (y2 one0) (y1 (rowAt i)) x1 x6) ∗ owns (c : Thread nD τ) arg12 fullShare (held2 i (y2 one0) (y1 (rowAt i)) x2 x7)) -∗ K ⟨⟩))
          ⊢ wp frame (wpE (defs₀ (F := F)) Variants.none c none) E (cc0_gmm_gate_up i arg2 harg2 arg3 harg3 arg4 harg4 arg5 harg5 arg6 harg6 arg7 harg7 arg8 harg8 arg9 harg9 arg10 harg10 arg11 harg11 arg12 harg12) K := by
    intro E K
    simp only [cc0_gmm_gate_up_eq_skeleton]; unfold cc0_gmm_gate_up_skel
    unfold owns
    iintro ⟨⟨%g1, %hg1, HT1⟩, ⟨%g2, %hg2, HT2⟩, ⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg3.eq_unread hg1; obtain rfl := harg4.eq_unread hg2
    obtain rfl := harg5.eq_unread hf0; obtain rfl := harg6.eq_unread hf1; obtain rfl := harg7.eq_unread hf2; obtain rfl := harg8.eq_unread hf3; obtain rfl := harg9.eq_unread hf4; obtain rfl := harg11.eq_unread hf6; obtain rfl := harg12.eq_unread hf7
    sl_exec
    sl_step
    iapply Hk
    isplitl [HT1]
    · iexists _; isplitr; · ipureintro; exact harg3.read_unread _
      iexact HT1
    isplitl [HT2]
    · iexists _; isplitr; · ipureintro; exact harg4.read_unread _
      iexact HT2
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    have e2 : body_run.sl.r c arg4 harg4 y2 = y2 one0 := by
      refine (Memref.IsWhole.readAt_unread harg4 y2 _ _).trans (congrArg y2 ?_)
      funext a; fin_cases a; exact Subsingleton.elim (α := Fin 1) _ _
    have e1 : body_run.sl.r_1 c i arg3 harg3 y1 = y1 (rowAt i) := by
      refine (Memref.IsWhole.readAt_unread harg3 y1 _ _).trans (congrArg y1 ?_)
      funext a; fin_cases a; refine Fin.ext ?_
      have h1 : ((Rect.unit (s := S168) (k0_off1 i) S1.size (k0_off1_inb i)).toLoadRect.idx (Shape.Idx.first (s := S1) (by decide)) 0).val
          = k0_off1 i 0 + 1 * ((Shape.Idx.first (s := S1) (by decide)) 0).val := rfl
      have h2 : ((Shape.Idx.first (s := S1) (by decide)) 0).val < 1 := ((Shape.Idx.first (s := S1) (by decide)) 0).isLt
      have h3 := off1_val i
      refine h1.trans ?_
      show _ = (i 1).val
      omega
    have e7 : body_run.sl.v7 c i arg3 harg3 arg4 harg4 y1 y2 = 1#1 ↔ Loads i (y2 one0) (y1 (rowAt i)) := by
      rw [← e1, ← e2]; exact Iff.rfl
    have h1 : body_run.sl.v15 c i arg3 harg3 arg4 harg4 arg6 harg6 arg11 harg11 y1 y2 x1 x6 = held1 i (y2 one0) (y1 (rowAt i)) x1 x6 := by
      delta body_run.sl.v15
      rw [View.readAt_full, read_store_if arg11.view e7, View.readAt_full, hf1, hf6]
      rfl
    have h2 : body_run.sl.v23 c i arg3 harg3 arg4 harg4 arg7 harg7 arg12 harg12 y1 y2 x2 x7 = held2 i (y2 one0) (y1 (rowAt i)) x2 x7 := by
      delta body_run.sl.v23
      rw [View.readAt_full, read_store_if arg12.view e7, View.readAt_full, hf2, hf7]
      rfl
    isplitl [H5]
    · iexists _; isplitr; swap; · iexact H5
      ipureintro
      rw [e2]
      have e3 : k0_cond3 i (y2 one0) = 1#1 ↔ ¬ Active i (y2 one0) := by
        unfold Active k0_cond2 k0_cond3
        exact (by decide : ∀ b : BitVec 1, Scalar.cmpi .ne (Scalar.extui (Scalar.xori b 1#1) : BitVec 32) 0#32 = 1#1 ↔ ¬ Scalar.cmpi .ne (Scalar.extui b : BitVec 32) 0#32 = 1#1) _
      rw [read_store_if arg10.view e3]
      delta body_run.sl.r_2
      rw [h1, h2, View.readAt_full, View.readAt_full, View.readAt_full, hf0, hf3, hf4, read_store_if arg10.view Iff.rfl]
      unfold outAt
      by_cases h : Active i (y2 one0)
      · rw [if_neg (not_not_intro h), if_pos h, if_pos h]
      · rw [if_pos h, if_neg h]
    isplitl [H6]
    · iexists _; isplitr; swap; · iexact H6
      ipureintro
      rw [read_store_if arg11.view e7, View.readAt_full, hf1, hf6]; rfl
    iexists _; isplitr; swap; · iexact H7
    ipureintro
    rw [read_store_if arg12.view e7, View.readAt_full, hf2, hf7]; rfl

end Cert.Kernel2Ideal.Gmm
-- ==== Proof.Gmm1.Tables.lean ====
module

public import proofs.«01_k».proof.Proof.Gmm1.Body
public import Idealize.ShloMosaic.Lib.Pipeline.FrameBody
public import Idealize.ShloMosaic.Lib.WordCmp
public import Idealize.ShloMosaic.Lib.Pointwise

@[expose] public section

set_option maxRecDepth 16384

noncomputable section

namespace Cert.Kernel2Ideal.Gmm

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold where the region is entered: the launch memory after the host's operations. -/
abbrev V (c : Dev nD) (b : Ref sig .tc) : Buf (Elt F) ((c : Thread nD τ).loc b) := StableHlo.after hostOps0 (fun b => m (c, b)) b

/-- No host operation before the region leaves a buffer fresh. -/
theorem hostOps0_fresh : (hostOps0 : List (HloOp τ sig (Elt F))).Forall fun op => op.fresh = ∅ := by
  simp only [List.Forall]; repeat' constructor

set_option maxHeartbeats 800000 in
/-- The program is the host's operations followed by the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is as launched where the region is entered. -/
theorem V_kept (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  V_kept m c main_arg0 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  V_kept m c main_arg1 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  V_kept m c main_arg2 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  V_kept m c main_arg3 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  V_kept m c main_arg4 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))

/-! ## The tables -/

/-- The index of row block `r` in a table of one word per row block. -/
abbrev at168 (r : Fin 168) : S168.Idx := fun | 0 => (r : Fin 168)

/-- The word naming row block `r`'s expert. -/
def expert (r : Fin 168) : BitVec 32 := m (((0 : Dev nD) : Thread nD τ).loc main_arg3) (at168 r)

/-- The word counting the row blocks in use. -/
def count : BitVec 32 := m (((0 : Dev nD) : Thread nD τ).loc main_arg4) one0

/-- What the call asks of its tables: every row block names one of the 32 experts, and at least one row block is in use. -/
structure Named : Prop where
  expert_lt : ∀ r, (expert m r).toNat < 32
  count_pos : 0 < (count m).toInt

/-- The tables' contents where the region is entered. -/
def tab : pre0.Contents (Elt F) := fun k => V m 0 (pre0.ref k)

theorem tab_expert (i : grid0.Coords) :
    (tab m).at 0 (Rect.unit (s := S168) (k0_off1 i) S1.size (k0_off1_inb i)) numel1_S1 = expert m (i 1) := by
  show V m 0 main_arg3 _ = _
  rw [V_main_arg3]
  refine congrArg (m _) ?_
  funext a; fin_cases a; refine Fin.ext ?_
  have h1 : ((Rect.unit (s := S168) (k0_off1 i) S1.size (k0_off1_inb i)).emb (Shape.Idx.first (s := S1) (by decide)) 0).val
      = k0_off1 i 0 + 1 * ((Shape.Idx.first (s := S1) (by decide)) 0).val := rfl
  have h2 : ((Shape.Idx.first (s := S1) (by decide)) 0).val < 1 := ((Shape.Idx.first (s := S1) (by decide)) 0).isLt
  have h3 := off1_val i
  refine h1.trans ?_
  show _ = (i 1).val
  omega

theorem tab_count : (tab m).at 2 (Rect.unit (s := S1) ![0] S1.size inb_S1_S1_0) numel1_S1 = count m := by
  show V m 0 main_arg4 _ = _
  rw [V_main_arg4]
  refine congrArg (m _) ?_
  funext a; fin_cases a; exact Subsingleton.elim (α := Fin 1) _ _

/-- The block of the rows a point reads: its own row block, or the last one in use. -/
def rowOf (i : grid0.Coords) : Nat := (Scalar.minsi (BitVec.ofNat 32 (i 1).val) (Scalar.subi (count m) 1#32)).toNat

theorem rowOf_le (h : Named m) (i : grid0.Coords) : rowOf m i ≤ (i 1).val := by
  have h1 : (i 1).val < 168 := (i 1).isLt
  have h2 := h.count_pos
  unfold rowOf
  revert h2
  generalize count m = n
  intro h2
  have e : (BitVec.ofNat 32 (i 1).val).toNat = (i 1).val := by rw [BitVec.toNat_ofNat]; omega
  have h3 := n.toInt_eq_toNat_cond
  have h4 := n.isLt
  have e' : (Scalar.subi n 1#32).toNat = n.toNat - 1 := by
    show (n - 1#32).toNat = _
    rw [BitVec.toNat_sub]; simp; split at h3 <;> omega
  simp only [Scalar.minsi, IntOp.minsi, BitVec.slt_eq_decide, decide_eq_true_eq]
  split <;> rename_i hh
  · omega
  · rw [e']
    rw [BitVec.toInt_eq_toNat_cond, BitVec.toInt_eq_toNat_cond, e, e'] at hh
    split at hh <;> split at hh <;> split at h3 <;> omega

theorem trans0_at (pf : pre0.Contents (Elt F)) (i : grid0.Coords) : cc0_transform_0 inb_S1_S1_0 numel1_S1 pf i
    = ![(Scalar.minsi (BitVec.ofNat 32 (i 1).val) (Scalar.subi (pf.at 2 (Rect.unit (s := S1) ![0] S1.size inb_S1_S1_0) numel1_S1) 1#32)).toNat, 0] := rfl
theorem trans1_at (pf : pre0.Contents (Elt F)) (i : grid0.Coords) : cc0_transform_1 k0_off1_inb numel1_S1 pf i
    = ![0, (pf.at 0 (Rect.unit (s := S168) (k0_off1 i) S1.size (k0_off1_inb i)) numel1_S1 : BitVec 32).toNat, 0, (BitVec.ofNat 32 (i 0).val).toNat] := rfl
theorem trans2_at (pf : pre0.Contents (Elt F)) (i : grid0.Coords) : cc0_transform_2 k0_off1_inb numel1_S1 pf i
    = ![0, (pf.at 0 (Rect.unit (s := S168) (k0_off1 i) S1.size (k0_off1_inb i)) numel1_S1 : BitVec 32).toNat, 0, (Scalar.addi 2#32 (BitVec.ofNat 32 (i 0).val)).toNat] := rfl
theorem trans3_at (pf : pre0.Contents (Elt F)) (i : grid0.Coords) : cc0_transform_3 k0_off1_inb numel1_S1 pf i
    = ![0, (pf.at 0 (Rect.unit (s := S168) (k0_off1 i) S1.size (k0_off1_inb i)) numel1_S1 : BitVec 32).toNat, 0, (BitVec.ofNat 32 (i 0).val).toNat] := rfl
theorem trans4_at (pf : pre0.Contents (Elt F)) (i : grid0.Coords) : cc0_transform_4 k0_off1_inb numel1_S1 pf i
    = ![0, (pf.at 0 (Rect.unit (s := S168) (k0_off1 i) S1.size (k0_off1_inb i)) numel1_S1 : BitVec 32).toNat, 0, (Scalar.addi 2#32 (BitVec.ofNat 32 (i 0).val)).toNat] := rfl

theorem word_j (i : grid0.Coords) : (BitVec.ofNat 32 (i 0).val).toNat = (i 0).val := by
  have h0 : (i 0).val < 2 := (i 0).isLt
  rw [BitVec.toNat_ofNat]; omega
theorem word_j2 (i : grid0.Coords) : (Scalar.addi 2#32 (BitVec.ofNat 32 (i 0).val)).toNat = 2 + (i 0).val := by
  have h0 : (i 0).val < 2 := (i 0).isLt
  show (2#32 + BitVec.ofNat 32 (i 0).val).toNat = _
  rw [BitVec.toNat_add, word_j]
  show (2 + (i 0).val) % 2 ^ 32 = _
  omega

theorem trans0_eq (i : grid0.Coords) : cc0_transform_0 inb_S1_S1_0 numel1_S1 (tab m) i = ![rowOf m i, 0] := by
  rw [trans0_at, tab_count, rowOf]
theorem trans1_eq (i : grid0.Coords) : cc0_transform_1 k0_off1_inb numel1_S1 (tab m) i = ![0, (expert m (i 1)).toNat, 0, (i 0).val] := by
  rw [trans1_at, tab_expert, word_j]
theorem trans2_eq (i : grid0.Coords) : cc0_transform_2 k0_off1_inb numel1_S1 (tab m) i = ![0, (expert m (i 1)).toNat, 0, 2 + (i 0).val] := by
  rw [trans2_at, tab_expert, word_j2]
theorem trans3_eq (i : grid0.Coords) : cc0_transform_3 k0_off1_inb numel1_S1 (tab m) i = ![0, (expert m (i 1)).toNat, 0, (i 0).val] := by
  rw [trans3_at, tab_expert, word_j]
theorem trans4_eq (i : grid0.Coords) : cc0_transform_4 k0_off1_inb numel1_S1 (tab m) i = ![0, (expert m (i 1)).toNat, 0, 2 + (i 0).val] := by
  rw [trans4_at, tab_expert, word_j2]

/-- At tables as the call asks, every window's block is inside its array. -/
theorem ok_tab (h : Named m) : ok0 (tab m) := by
  refine ⟨fun i => ?_, fun i => ?_, fun i => ?_, fun i => ?_, fun i => ?_⟩
  all_goals
    have h0 : (i 0).val < 2 := (i 0).isLt
    have h1 : (i 1).val < 168 := (i 1).isLt
    have he := h.expert_lt (i 1)
    have hr := rowOf_le m h i
    refine ⟨fun a => ?_, .inl rfl⟩
  · rw [trans0_eq]
    match a with
    | 0 => show (rowOf m i + 1) * 256 ≤ 43008; omega
    | 1 => show (0 + 1) * 2048 ≤ 2048; omega
  · rw [trans1_eq]
    match a with
    | 0 => show (0 + 1) * 1 ≤ 4; omega
    | 1 => show ((expert m (i 1)).toNat + 1) * 1 ≤ 32; omega
    | 2 => show (0 + 1) * 2048 ≤ 2048; omega
    | 3 => show ((i 0).val + 1) * 1024 ≤ 4096; omega
  · rw [trans2_eq]
    match a with
    | 0 => show (0 + 1) * 1 ≤ 4; omega
    | 1 => show ((expert m (i 1)).toNat + 1) * 1 ≤ 32; omega
    | 2 => show (0 + 1) * 2048 ≤ 2048; omega
    | 3 => show (2 + (i 0).val + 1) * 1024 ≤ 4096; omega
  · rw [trans3_eq]
    match a with
    | 0 => show (0 + 1) * 1 ≤ 4; omega
    | 1 => show ((expert m (i 1)).toNat + 1) * 1 ≤ 32; omega
    | 2 => show (0 + 1) * 1 ≤ 1; omega
    | 3 => show ((i 0).val + 1) * 1024 ≤ 4096; omega
  · rw [trans4_eq]
    match a with
    | 0 => show (0 + 1) * 1 ≤ 4; omega
    | 1 => show ((expert m (i 1)).toNat + 1) * 1 ≤ 32; omega
    | 2 => show (0 + 1) * 1 ≤ 1; omega
    | 3 => show (2 + (i 0).val + 1) * 1024 ≤ 4096; omega

/-- The tables as the region takes them. -/
abbrev adm (h : Named m) : (pcfg0 (F := F)).Adm := ⟨tab m, ok_tab m h⟩

/-! ## Which points take their weights in -/

/-- The table of first blocks, at a row block. -/
def firstW (r : Fin 168) : BitVec 32 := V m 0 main_v5 (at168 r)

/-- The bit of two different words, widened. -/
theorem setWidth_ne {a b : BitVec 32} (h : a ≠ b) : BitVec.setWidth 32 (IntOp.cmpi CmpIPredicate.ne a b) = 1#32 := by
  show BitVec.setWidth 32 (BitVec.ofBool (a != b)) = 1#32
  rw [show (a != b) = true from bne_iff_ne.mpr h]
  rfl

/-- The table the host's operations leave, of the experts' table. -/
def firstTable (e : (⟨S168, .i32⟩ : BufTy).Contents (Elt F)) : (⟨S168, .i32⟩ : BufTy).Contents (Elt F) :=
  concatenate S168 0 [⟨S1, broadcastInDim S1 ![] bcast_S_S1 (constantI S_ 32 1#32)⟩,
    ⟨S167, extui 32 (cmpi .ne (extractStridedSlice S167 ![1] e slices_S168_S167_1) (extractStridedSlice S167 ![0] e slices_S168_S167_0)) natLt_1_32⟩]
    concatenates_S1_S167_S168_d0

theorem V_main_v5 (c : Dev nD) : V m c main_v5 = firstTable (m ((c : Thread nD τ).loc main_arg3)) := rfl

/-- The first row block starts an expert, and so does one whose expert differs from the block's before it. -/
theorem firstW_eq (r : Fin 168) (h : r.val = 0 ∨ expert m r ≠ expert m ⟨r.val - 1, by omega⟩) : firstW m r = 1#32 := by
  unfold firstW
  rw [V_main_v5]
  revert h
  unfold expert
  generalize m (((0 : Dev nD) : Thread nD τ).loc main_arg3) = e
  intro h
  unfold firstTable
  pointwise
  have ha : (at168 r 0).val = r.val := rfl
  split <;> rename_i h1
  · rfl
  · rcases h with h | h
    · exact absurd h (by omega)
    · have e1 : (ix1 ⟨1 + ((at168 r 0).val - 1), by omega⟩ : S168.Idx) = at168 r := by
        funext a; fin_cases a; exact Fin.ext (by show 1 + ((at168 r 0).val - 1) = r.val; omega)
      have e2 : (ix1 ⟨(at168 r 0).val - 1, by omega⟩ : S168.Idx) = at168 ⟨r.val - 1, by omega⟩ := by
        funext a; fin_cases a; rfl
      rw [e1, e2]
      exact setWidth_ne h

end Cert.Kernel2Ideal.Gmm
-- ==== Proof.Gmm1.Frame.lean ====
module

public import proofs.«01_k».proof.Proof.Gmm1.Tables
public import Idealize.ShloMosaic.Lib.Pipeline.FrameBody

@[expose] public section

set_option maxRecDepth 16384

noncomputable section

namespace Cert.Kernel2Ideal.Gmm

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hn : Named m)

/-! ## The blocks -/

/-- Window `w`'s block at point `t`, read off its array as the region finds it. -/
def iblk (c : Dev nD) (w : Fin (cfg0 (adm m hn)).W) (t : Fin (cfg0 (adm m hn)).N) :
    (((cfg0 (adm m hn)).win w).xblock ((cfg0 (adm m hn)).grid.coords t)).Idx → Elt F ((cfg0 (adm m hn)).win w).elt :=
  (((cfg0 (adm m hn)).win w).blk t).view.read (Elt F) (V m c (Pipeline.arrRef spec0 w))

/-- Whether point `t`'s row block is in use. -/
abbrev InUse (t : Fin (cfg0 (adm m hn)).N) : Prop := Active (grid0.coords t) (count m)

/-- What the output's staging buffer holds after point `t`. -/
def outBlk (c : Dev nD) (t : Fin (cfg0 (adm m hn)).N) : Vec F S256x1024 .bf16 :=
  outAt (grid0.coords t) (count m) (iblk m hn c 0 t) (k0_pay1 (iblk m hn c 1 t)) (k0_pay2 (iblk m hn c 2 t)) (iblk m hn c 3 t) (iblk m hn c 4 t)

/-- The scratch buffers' contents before point `n`: where the point before is in use, the weights of its block, rounded. -/
def Held (c : Dev nD) (n : ℕ) (d6 d7 : Vec F S2048x1024 .bf16) : Prop :=
  ∀ t : Fin (cfg0 (adm m hn)).N, t.val + 1 = n → InUse m hn t → d6 = k0_pay1 (iblk m hn c 1 t) ∧ d7 = k0_pay2 (iblk m hn c 2 t)

abbrev scM0 : Memref sig .tc .vmem S2048x1024 .bf16 := Memref.whole cc0_scratch0
abbrev scM1 : Memref sig .tc .vmem S2048x1024 .bf16 := Memref.whole cc0_scratch1

/-- What holds before point `n`: the scratch buffers at such contents, the generator register and the tables. -/
def Inv (c : Dev nD) (n : ℕ) : sProp 𝕄 :=
  iprop((∃ d6 d7, ⌜Held m hn c n d6 d7⌝ ∗ owns (c : Thread nD τ) scM0 fullShare d6 ∗ owns (c : Thread nD τ) scM1 fullShare d7)
    ∗ (∃ r, prngReg c r) ∗ Pipeline.ΦT pre0 (tab m) c)

/-- The tables as the body holds them. -/
theorem tables_eq (c : Dev nD) : (Pipeline.ΦT pre0 (tab m) c : sProp 𝕄)
    = iprop(owns (c : Thread nD τ) (Memref.whole main_arg3) fullShare.right (V m 0 main_arg3)
      ∗ owns (c : Thread nD τ) (Memref.whole main_v5) fullShare.right (V m 0 main_v5)
      ∗ owns (c : Thread nD τ) (Memref.whole main_arg4) fullShare.right (V m 0 main_arg4)) := by
  rw [owns_whole, owns_whole, owns_whole]
  unfold Pipeline.ΦT Pipeline.prefHeld
  rw [show (Finset.univ : Finset (Fin 3)) = insert 0 (insert 1 {2}) from by decide, bigSep_insert (by decide), bigSep_insert (by decide), bigSep_singleton]
  rfl

/-- The proof data: the arrays as the region finds them; after the body each input's buffer at its block and the output's at `outBlk`; the invariant `Inv`. -/
def dats (p : Fin 1) (c : Dev nD) : Dat τ (Elt F) Unit ℕ (UR sig nD τ) ℕ (Pipeline.pin (pcfgs (F := F)) (fun _ => adm m hn) p) c where
  A w := V m c (Pipeline.arrRef spec0 w)
  after w t := match w with
    | ⟨0, _⟩ => iblk m hn c 0 t
    | ⟨1, _⟩ => iblk m hn c 1 t
    | ⟨2, _⟩ => iblk m hn c 2 t
    | ⟨3, _⟩ => iblk m hn c 3 t
    | ⟨4, _⟩ => iblk m hn c 4 t
    | ⟨5, _⟩ => outBlk m hn c t
  Φ t := Inv m hn c t.val
  q := Pipeline.shareOf spec0
  owed _ := 0

theorem A_eq (c : Dev nD) (w : Fin (cfg0 (adm m hn)).W) : (dats m hn 0 c).A w = V m c (Pipeline.arrRef spec0 w) := by dsimp only [dats]
theorem after0 (c : Dev nD) (t) : (dats m hn 0 c).after 0 t = iblk m hn c 0 t := rfl
theorem after1 (c : Dev nD) (t) : (dats m hn 0 c).after 1 t = iblk m hn c 1 t := rfl
theorem after2 (c : Dev nD) (t) : (dats m hn 0 c).after 2 t = iblk m hn c 2 t := rfl
theorem after3 (c : Dev nD) (t) : (dats m hn 0 c).after 3 t = iblk m hn c 3 t := rfl
theorem after4 (c : Dev nD) (t) : (dats m hn 0 c).after 4 t = iblk m hn c 4 t := rfl
theorem after5 (c : Dev nD) (t) : (dats m hn 0 c).after 5 t = outBlk m hn c t := rfl

theorem before0 (c : Dev nD) (t) (d) : (dats m hn 0 c).before 0 t d = iblk m hn c 0 t :=
  ((dats m hn 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m hn 0 c).before 1 t d = iblk m hn c 1 t :=
  ((dats m hn 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m hn 0 c).before 2 t d = iblk m hn c 2 t :=
  ((dats m hn 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t) (d) : (dats m hn 0 c).before 3 t d = iblk m hn c 3 t :=
  ((dats m hn 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t) (d) : (dats m hn 0 c).before 4 t d = iblk m hn c 4 t :=
  ((dats m hn 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## What the scratch buffers hold -/

/-- Where two points read their weights at one index, they read one block. -/
theorem iblk_congr1 (c : Dev nD) {t t' : Fin (cfg0 (adm m hn)).N} (h : ((cfg0 (adm m hn)).win 1).index t = ((cfg0 (adm m hn)).win 1).index t') :
    iblk m hn c 1 t = iblk m hn c 1 t' :=
  (dats m hn 0 c).fetched_congr 1 h rfl (fun _ => Classical.arbitrary _)
theorem iblk_congr2 (c : Dev nD) {t t' : Fin (cfg0 (adm m hn)).N} (h : ((cfg0 (adm m hn)).win 2).index t = ((cfg0 (adm m hn)).win 2).index t') :
    iblk m hn c 2 t = iblk m hn c 2 t' :=
  (dats m hn 0 c).fetched_congr 2 h rfl (fun _ => Classical.arbitrary _)

theorem coord0 (t : Fin grid0.N) : (grid0.coords t 0).val = t.val / 168 % 2 := Pipeline.Grid.coords_val t 0 (by decide) rfl
theorem coord1 (t : Fin grid0.N) : (grid0.coords t 1).val = t.val / 1 % 168 := Pipeline.Grid.coords_val t 1 (by decide) rfl

/-- The bit of a comparison, widened and compared with zero, is the comparison. -/
theorem ne_zero_iff (b : BitVec 1) : Scalar.cmpi .ne (Scalar.extui b : BitVec 32) 0#32 = 1#1 ↔ b = 1#1 := by
  revert b; decide

/-- A row block is in use where its number is below the count. -/
theorem active_iff (i : grid0.Coords) (n : BitVec 32) : Active i n ↔ ((i 1).val : Int) < n.toInt := by
  have h1 : (i 1).val < 168 := (i 1).isLt
  refine (ne_zero_iff (Scalar.cmpi .slt (BitVec.ofNat 32 (i 1).val) n)).trans ?_
  have e : (BitVec.ofNat 32 (i 1).val).toInt = ((i 1).val : Int) := by
    rw [BitVec.toInt_eq_toNat_cond, BitVec.toNat_ofNat]; split <;> omega
  show BitVec.ofBool (BitVec.slt (BitVec.ofNat 32 (i 1).val) n) = 1#1 ↔ _
  rw [BitVec.slt_eq_decide, e]
  by_cases h : ((i 1).val : Int) < n.toInt <;> simp [h]

/-- A point in use takes its weights in where its block starts an expert. -/
theorem loads_of (i : grid0.Coords) (n w : BitVec 32) (h : Active i n) (hw : w = 1#32) : Loads i n w := by
  subst hw
  refine (ne_zero_iff _).mpr ?_
  rw [(ne_zero_iff (Scalar.cmpi .slt (BitVec.ofNat 32 (i 1).val) n)).mp h]
  decide

/-- After a point in use the scratch buffers hold its weights, rounded: it takes them in, or the point before held the same ones. -/
theorem held_step (c : Dev nD) (t : Fin (cfg0 (adm m hn)).N) (d6 d7 : Vec F S2048x1024 .bf16) (h : Held m hn c t.val d6 d7) (ha : InUse m hn t) :
    held1 (grid0.coords t) (count m) (firstW m (grid0.coords t 1)) (iblk m hn c 1 t) d6 = k0_pay1 (iblk m hn c 1 t)
      ∧ held2 (grid0.coords t) (count m) (firstW m (grid0.coords t 1)) (iblk m hn c 2 t) d7 = k0_pay2 (iblk m hn c 2 t) := by
  unfold held1 held2
  by_cases hl : Loads (grid0.coords t) (count m) (firstW m (grid0.coords t 1))
  · rw [if_pos hl, if_pos hl]; exact ⟨rfl, rfl⟩
  rw [if_neg hl, if_neg hl]
  have hw : firstW m (grid0.coords t 1) ≠ 1#32 := fun e => hl (loads_of _ _ _ ha e)
  have hr : ¬ ((grid0.coords t 1).val = 0 ∨ expert m (grid0.coords t 1) ≠ expert m ⟨(grid0.coords t 1).val - 1, by have h : (grid0.coords t 1).val < 168 := (grid0.coords t 1).isLt; show _ < 168; omega⟩) :=
    fun k => hw (firstW_eq m _ k)
  rw [not_or, not_not] at hr
  obtain ⟨h0, he⟩ := hr
  have c0 := coord0 t
  have c1 := coord1 t
  have hN : t.val < 336 := lt_of_lt_of_eq t.isLt N_0
  have ht : t.val - 1 < grid0.N := lt_of_lt_of_eq (by omega : t.val - 1 < 336) N_0.symm
  let t' : Fin (cfg0 (adm m hn)).N := ⟨t.val - 1, ht⟩
  have c0' : (grid0.coords t' 0).val = (t.val - 1) / 168 % 2 := coord0 t'
  have c1' : (grid0.coords t' 1).val = (t.val - 1) / 1 % 168 := coord1 t'
  have e0 : (grid0.coords t' 0).val = (grid0.coords t 0).val := by omega
  have e1 : (grid0.coords t' 1).val = (grid0.coords t 1).val - 1 := by omega
  have ha' : InUse m hn t' := by
    rw [InUse, active_iff] at ha ⊢
    rw [e1]; omega
  have hx : expert m (grid0.coords t' 1) = expert m (grid0.coords t 1) := by
    rw [he]; exact congrArg (expert m) (Fin.ext e1)
  obtain ⟨k1, k2⟩ := h t' (by show t.val - 1 + 1 = t.val; omega) ha'
  refine ⟨k1.trans (congrArg k0_pay1 (iblk_congr1 m hn c ?_)), k2.trans (congrArg k0_pay2 (iblk_congr2 m hn c ?_))⟩
  · show cc0_transform_1 k0_off1_inb numel1_S1 (tab m) (grid0.coords t') = cc0_transform_1 k0_off1_inb numel1_S1 (tab m) (grid0.coords t)
    rw [trans1_eq, trans1_eq, hx, e0]
  · show cc0_transform_2 k0_off1_inb numel1_S1 (tab m) (grid0.coords t') = cc0_transform_2 k0_off1_inb numel1_S1 (tab m) (grid0.coords t)
    rw [trans2_eq, trans2_eq, hx, e0]

/-! ## The body obligation -/

abbrev ms0 (t : Fin (cfg0 (adm m hn)).N) : Memref sig .tc .vmem S256x2048 .f32 := spec0_0.stage ((cfg0 (adm m hn)).slots t 0)
abbrev ms1 (t : Fin (cfg0 (adm m hn)).N) : Memref sig .tc .vmem S1x1x2048x1024 .f32 := spec0_1.stage ((cfg0 (adm m hn)).slots t 1)
abbrev ms2 (t : Fin (cfg0 (adm m hn)).N) : Memref sig .tc .vmem S1x1x2048x1024 .f32 := spec0_2.stage ((cfg0 (adm m hn)).slots t 2)
abbrev ms3 (t : Fin (cfg0 (adm m hn)).N) : Memref sig .tc .vmem S1x1x1x1024 .f32 := spec0_3.stage ((cfg0 (adm m hn)).slots t 3)
abbrev ms4 (t : Fin (cfg0 (adm m hn)).N) : Memref sig .tc .vmem S1x1x1x1024 .f32 := spec0_4.stage ((cfg0 (adm m hn)).slots t 4)
abbrev ms5 (t : Fin (cfg0 (adm m hn)).N) : Memref sig .tc .vmem S256x1024 .bf16 := spec0_5.stage ((cfg0 (adm m hn)).slots t 5)

/-- The body at point `t`, on the staging buffers the point uses. -/
def bodyAt (t : Fin (cfg0 (adm m hn)).N) : Prog (TpuEff nD τ sig (Elt F) Λ₀ .tc) PUnit :=
  cc0_gmm_gate_up (grid0.coords t) (Memref.whole main_arg3) (Memref.isWhole_whole _) (Memref.whole main_v5) (Memref.isWhole_whole _)
    (Memref.whole main_arg4) (Memref.isWhole_whole _)
    (ms0 m hn t) (hstage0_0 (((cfg0 (adm m hn)).slots t 0).cast nbuf0_0)) (ms1 m hn t) (hstage0_1 (((cfg0 (adm m hn)).slots t 1).cast nbuf0_1))
    (ms2 m hn t) (hstage0_2 (((cfg0 (adm m hn)).slots t 2).cast nbuf0_2)) (ms3 m hn t) (hstage0_3 (((cfg0 (adm m hn)).slots t 3).cast nbuf0_3))
    (ms4 m hn t) (hstage0_4 (((cfg0 (adm m hn)).slots t 4).cast nbuf0_4)) (ms5 m hn t) (hstage0_5 (((cfg0 (adm m hn)).slots t 5).cast nbuf0_5))
    scM0 (Memref.isWhole_whole _) scM1 (Memref.isWhole_whole _)

theorem defs₀_row (t : Fin (cfg0 (adm m hn)).N) :
    defs₀ (F := F) .tc (cfg0 (adm m hn)).body ((cfg0 (adm m hn)).bodyArgs t ((cfg0 (adm m hn)).slots t)) = bodyAt m hn t := by
  unfold defs₀ bodyAt; rw [Defs.onTc_tc]

/-- What the body is called with at point `t`, -/
def bodyPre (c : Dev nD) (t : Fin (cfg0 (adm m hn)).N) : sProp 𝕄 :=
  iprop((dats m hn 0 c).Φ t.castSucc ∗ (dats m hn 0 c).owesAt () t.castSucc
    ∗ (∃ d, owns (c : Thread nD τ) (ms0 m hn t) fullShare ((dats m hn 0 c).before 0 t d))
    ∗ (∃ d, owns (c : Thread nD τ) (ms1 m hn t) fullShare ((dats m hn 0 c).before 1 t d))
    ∗ (∃ d, owns (c : Thread nD τ) (ms2 m hn t) fullShare ((dats m hn 0 c).before 2 t d))
    ∗ (∃ d, owns (c : Thread nD τ) (ms3 m hn t) fullShare ((dats m hn 0 c).before 3 t d))
    ∗ (∃ d, owns (c : Thread nD τ) (ms4 m hn t) fullShare ((dats m hn 0 c).before 4 t d))
    ∗ (∃ d, owns (c : Thread nD τ) (ms5 m hn t) fullShare ((dats m hn 0 c).before 5 t d)))

/-- and what it returns. -/
def bodyPost (c : Dev nD) (t : Fin (cfg0 (adm m hn)).N) : sProp 𝕄 :=
  iprop((dats m hn 0 c).Φ t.succ ∗ (dats m hn 0 c).owesAt () t.succ
    ∗ (dats m hn 0 c).leavesExact 0 t
    ∗ (dats m hn 0 c).leavesExact 1 t
    ∗ (dats m hn 0 c).leavesExact 2 t
    ∗ (dats m hn 0 c).leavesExact 3 t
    ∗ (dats m hn 0 c).leavesExact 4 t
    ∗ (dats m hn 0 c).leavesExact 5 t)

/-- A statement of a number, at a point's start and at its end. -/
theorem at_start {α : Sort _} {N : Nat} (S : ℕ → α) (t : Fin N) : S t.castSucc.val = S t.val := rfl
theorem at_end {α : Sort _} {N : Nat} (S : ℕ → α) (t : Fin N) : S t.succ.val = S (t.val + 1) := rfl

theorem phi_start (c : Dev nD) (t : Fin (cfg0 (adm m hn)).N) : (dats m hn 0 c).Φ t.castSucc = Inv m hn c t.val := by
  dsimp only [dats]; exact at_start (Inv m hn c) t
theorem phi_end (c : Dev nD) (t : Fin (cfg0 (adm m hn)).N) : (dats m hn 0 c).Φ t.succ = Inv m hn c (t.val + 1) := by
  dsimp only [dats]; exact at_end (Inv m hn c) t

theorem at_zero (N : Nat) : (0 : Fin (N + 1)).val = 0 := rfl

theorem phi_any (c : Dev nD) (k : Fin ((cfg0 (adm m hn)).N + 1)) : (dats m hn 0 c).Φ k = Inv m hn c k.val := by
  dsimp only [dats]

/-- The two stores of the output are under a condition and its negation, whatever the table reads. -/
theorem live_at (i : grid0.Coords) (n : BitVec 32) : (!(k0_cond2 i n == 1#1) && !(k0_cond3 i n == 1#1)) = false := by
  unfold k0_cond2 k0_cond3
  exact (by decide : ∀ b : BitVec 1, (!(Scalar.cmpi .ne (Scalar.extui b : BitVec 32) 0#32 == 1#1)
    && !(Scalar.cmpi .ne (Scalar.extui (Scalar.xori b 1#1) : BitVec 32) 0#32 == 1#1)) = false) (Scalar.cmpi .slt (BitVec.ofNat 32 (i 1).val) n)

theorem idle0_5 (pf : pre0.Contents (Elt F)) (i : grid0.Coords) : idle0 pf 5 i = false := live_at i _

set_option maxHeartbeats 2000000 in
/-- So the output's window is idle at no point. -/
theorem live5 (i : grid0.Coords) : (cfg0 (adm m hn)).idle 5 i = false := idle0_5 _ i

theorem leaves0 (c : Dev nD) (t : Fin (cfg0 (adm m hn)).N) :
    (dats m hn 0 c).leavesExact 0 t = owns (c : Thread nD τ) (ms0 m hn t) fullShare (iblk m hn c 0 t) := by
  unfold Dat.leavesExact; rw [show (cfg0 (adm m hn)).idle 0 ((cfg0 (adm m hn)).grid.coords t) = false from rfl, after0]; rfl
theorem leaves1 (c : Dev nD) (t : Fin (cfg0 (adm m hn)).N) :
    (dats m hn 0 c).leavesExact 1 t = owns (c : Thread nD τ) (ms1 m hn t) fullShare (iblk m hn c 1 t) := by
  unfold Dat.leavesExact; rw [show (cfg0 (adm m hn)).idle 1 ((cfg0 (adm m hn)).grid.coords t) = false from rfl, after1]; rfl
theorem leaves2 (c : Dev nD) (t : Fin (cfg0 (adm m hn)).N) :
    (dats m hn 0 c).leavesExact 2 t = owns (c : Thread nD τ) (ms2 m hn t) fullShare (iblk m hn c 2 t) := by
  unfold Dat.leavesExact; rw [show (cfg0 (adm m hn)).idle 2 ((cfg0 (adm m hn)).grid.coords t) = false from rfl, after2]; rfl
theorem leaves3 (c : Dev nD) (t : Fin (cfg0 (adm m hn)).N) :
    (dats m hn 0 c).leavesExact 3 t = owns (c : Thread nD τ) (ms3 m hn t) fullShare (iblk m hn c 3 t) := by
  unfold Dat.leavesExact; rw [show (cfg0 (adm m hn)).idle 3 ((cfg0 (adm m hn)).grid.coords t) = false from rfl, after3]; rfl
theorem leaves4 (c : Dev nD) (t : Fin (cfg0 (adm m hn)).N) :
    (dats m hn 0 c).leavesExact 4 t = owns (c : Thread nD τ) (ms4 m hn t) fullShare (iblk m hn c 4 t) := by
  unfold Dat.leavesExact; rw [show (cfg0 (adm m hn)).idle 4 ((cfg0 (adm m hn)).grid.coords t) = false from rfl, after4]; rfl
theorem leaves5 (c : Dev nD) (t : Fin (cfg0 (adm m hn)).N) :
    (dats m hn 0 c).leavesExact 5 t = owns (c : Thread nD τ) (ms5 m hn t) fullShare (outBlk m hn c t) := by
  unfold Dat.leavesExact; rw [show (cfg0 (adm m hn)).idle 5 ((cfg0 (adm m hn)).grid.coords t) = false from live5 m hn _, after5]; rfl

/-- What a point leaves in the output's buffer, by the point's own weights. -/
theorem out_eq (c : Dev nD) (t : Fin (cfg0 (adm m hn)).N) (d6 d7 : Vec F S2048x1024 .bf16) (h : Held m hn c t.val d6 d7) :
    outAt (grid0.coords t) (count m) (iblk m hn c 0 t) (held1 (grid0.coords t) (count m) (firstW m (grid0.coords t 1)) (iblk m hn c 1 t) d6)
      (held2 (grid0.coords t) (count m) (firstW m (grid0.coords t 1)) (iblk m hn c 2 t) d7) (iblk m hn c 3 t) (iblk m hn c 4 t) = outBlk m hn c t := by
  unfold outBlk outAt
  by_cases ha : Active (grid0.coords t) (count m)
  · obtain ⟨e1, e2⟩ := held_step m hn c t d6 d7 h ha
    rw [e1, e2]
  · rw [if_neg ha, if_neg ha]

theorem held_next (c : Dev nD) (t : Fin (cfg0 (adm m hn)).N) (d6 d7 : Vec F S2048x1024 .bf16) (h : Held m hn c t.val d6 d7) :
    Held m hn c (t.val + 1) (held1 (grid0.coords t) (count m) (firstW m (grid0.coords t 1)) (iblk m hn c 1 t) d6)
      (held2 (grid0.coords t) (count m) (firstW m (grid0.coords t 1)) (iblk m hn c 2 t) d7) := by
  intro t' ht ha
  obtain rfl : t' = t := Fin.ext (by omega)
  exact held_step m hn c t' d6 d7 h ha

theorem count_eq : (V m 0 main_arg4 : Vec F S1 .i32) one0 = count m := by
  rw [V_main_arg4]; rfl
theorem first_eq (i : grid0.Coords) : (V m 0 main_v5 : Vec F S168 .i32) (rowAt i) = firstW m (i 1) := rfl

set_option maxHeartbeats 400000 in
/-- The body at any point takes the blocks and the invariant and returns them with the output's block. -/
theorem sound_body (c : Dev nD) (t : Fin (cfg0 (adm m hn)).N) :
    bodyPre m hn c t ⊢ wp frame (wpE (defs₀ (F := F)) Variants.none c none) Set.univ (bodyAt m hn t) (fun _ => bodyPost m hn c t) := by
  unfold bodyPre bodyPost bodyAt
  simp only [before0, before1, before2, before3, before4]
  rw [show (dats m hn 0 c).owesAt () t.succ = (dats m hn 0 c).owesAt () t.castSucc from rfl, phi_start, phi_end]
  rw [leaves0, leaves1, leaves2, leaves3, leaves4, leaves5]
  unfold Inv
  rw [tables_eq]
  iintro ⟨⟨⟨%d6, %d7, %hd, HS0, HS1⟩, Hg, HT0, HT1, HT2⟩, Ho, ⟨%d0, H0⟩, ⟨%d1, H1⟩, ⟨%d2, H2⟩, ⟨%d3, H3⟩, ⟨%d4, H4⟩, ⟨%d5, H5⟩⟩
  iapply ((body_run c (grid0.coords t) fullShare.right fullShare.right _ _ _ _ _ _ _ _ _ _ _ _ _ _ _ _ _ _ _ _ _ _
    (V m 0 main_v5) (V m 0 main_arg4) (iblk m hn c 0 t) (iblk m hn c 1 t) (iblk m hn c 2 t) (iblk m hn c 3 t) (iblk m hn c 4 t) d6 d7) Set.univ _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  rw [count_eq, first_eq, out_eq m hn c t d6 d7 hd]
  iintro ⟨HT1, HT2, H0, H1, H2, H3, H4, H5, HS0, HS1⟩
  isplitl [HS0 HS1 Hg HT0 HT1 HT2]
  · isplitl [HS0 HS1]
    · iexists _; iexists _
      isplitr; · ipureintro; exact held_next m hn c t d6 d7 hd
      isplitl [HS0]; · iexact HS0
      iexact HS1
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The library's body obligation, at every point. -/
theorem body_obligation (c : Dev nD) : BodyObligation (dats m hn 0 c) (defs₀ (F := F)) Variants.none () Set.univ := fun t => by
  rw [bigSep_W0, bigSep_W0, defs₀_row]
  refine triple_restated (sound_body m hn c t) rfl .rfl fun _ => ?_
  unfold bodyPost Dat.leavesExact
  exact .rfl

/-! ## The run -/

theorem invariant_in (c : Dev nD) : iprop(Pipeline.ΦA spec0 c ∗ Pipeline.ΦT pre0 (tab m) c) ⊢ (dats m hn 0 c).Φ 0 := by
  rw [phi_any]
  unfold Inv Pipeline.ΦA
  rw [scopedRest0_eq]
  simp only [owns_whole]
  iintro ⟨⟨⟨⟨%f0, H0⟩, ⟨%f1, H1⟩⟩, Hg⟩, HT⟩
  isplitl [H0 H1]
  · iexists f0; iexists f1
    isplitr; · ipureintro; exact fun t ht => absurd ht (by rw [at_zero]; omega)
    isplitl [H0]; · iexact H0
    iexact H1
  isplitl [Hg]; · iexact Hg
  iexact HT

theorem invariant_out (c : Dev nD) : (dats m hn 0 c).Φ (Fin.last (cfg0 (adm m hn)).N) ⊢ Pipeline.ΦA spec0 c := by
  rw [phi_any]
  unfold Inv Pipeline.ΦA
  rw [scopedRest0_eq]
  simp only [owns_whole]
  iintro ⟨⟨%f0, %f1, -, H0, H1⟩, Hg, -⟩
  isplitl [H0 H1]
  · isplitl [H0]; · iexists f0; iexact H0
    iexists f1; iexact H1
  iexact Hg

set_option backward.isDefEq.respectTransparency.types false in
/-- The launch: every array ends at what the proof data say, every other buffer as the region found it, every counter at zero. -/
theorem run_main_quiescent : θ_run defs (onTc (τ := τ) (main (F := F))) (s₀ m ρ)
    (fun r => Pipeline.FramePost (Pipeline.pin (pcfgs (F := F)) (fun _ => adm m hn)) (dats m hn) 0 (V m) r ∧ r.2.sem = fun _ => 0) :=
  Pipeline.θ_run_frameP_track_shared (Q' := _) pcfgs (fun _ => adm m hn) (dats m hn) (0 : Fin 1) launch₀0 defs₀ Variants.none m ρ main
    (hbody := fun c => (body_obligation m hn c).loose) (hq := fun _ _ _ => rfl) (howed := fun _ _ => rfl) (V := V m)
    (hmain := hmain m Variants.none) (hA := A_eq m hn) (hpf := fun c k => by obtain rfl : c = 0 := Subsingleton.elim _ _; rfl)
    (hin := invariant_in m hn) (hout := invariant_out m hn)

/-- The arguments no window stages are among the buffers the region leaves as it found them. -/
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)

/-- The run with the result named, the arguments unchanged. -/
theorem run_blocks : θ_run defs (onTc (τ := τ) (main (F := F))) ⟨m, fun _ => 0, ρ⟩ fun r => ∀ c : Dev nD,
      r.2.mem ((c : Thread nD τ).loc main_v7) = (dats m hn 0 c).arrAt 5 (cfg0 (adm m hn)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 5,
      ((h.1 c).1 0).trans (((dats m hn 0 c).arrAt_in 0 rfl _).trans ((A_eq m hn c 0).trans (V_main_arg0 m c))),
      ((h.1 c).1 1).trans (((dats m hn 0 c).arrAt_in 1 rfl _).trans ((A_eq m hn c 1).trans (V_main_arg1 m c))),
      ((h.1 c).2 main_arg2 rest2).trans (V_main_arg2 m c),
      ((h.1 c).2 main_arg3 rest3).trans (V_main_arg3 m c),
      ((h.1 c).2 main_arg4 rest4).trans (V_main_arg4 m c)⟩)
    (run_main_quiescent m ρ hn)

include hn in
/-- The program ends without a fault, its arguments unchanged and every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  θ_run_and ((θ_run defs _ _).mono (fun _ h c => (h c).2) (run_blocks m ρ hn)) ((θ_run defs _ _).mono (fun _ h => h.2) (run_main_quiescent m ρ hn))

end Cert.Kernel2Ideal.Gmm
-- ==== Proof.Gmm1.Ref.lean ====
/- The reference read at an index: a row block in use gives, with the weights of the expert it names, the gated product of its
   rows; a row block beyond gives zeros. -/
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Gmm

/-- The gated product of the two linear parts `s` (gate) and `t` (up): the gate cut above at 7, the part up cut to [-7, 7], and
    (up + 1) · gate · 1 / (1 + exp (-1.702 gate)). -/
def gated (s t : EReal) : EReal :=
  let g := min s (Ideal.ofBits .f32 0x40E00000#32)
  (min (Ideal.ofBits .f32 0x40E00000#32) (max (Ideal.ofBits .f32 0xC0E00000#32) t) + Ideal.ofBits .f32 0x3F800000#32) * g
    * Ideal.div (Ideal.ofBits .f32 0x3F800000#32) (Ideal.ofBits .f32 0x3F800000#32 + Ideal.exp (-(Ideal.ofBits .f32 0x3FD9DB23#32 * g)))

end Cert.Gmm

namespace Cert.Reference2Ideal.Gmm

open Cert.Reference2Ideal Cert.Reference2Ideal.Gen Cert.Reference2Ideal.Read Cert.Gmm

/-- A word below 32, read signed and cut at 31, is itself. -/
theorem cut_word (w : BitVec 32) (h : w.toNat < 32) : min w.toInt.toNat 31 = w.toNat := by
  have h1 : w.toInt = (w.toNat : ℤ) := by rw [BitVec.toInt_eq_toNat_of_lt (by omega)]
  rw [h1]; omega

/-- The weights taken by expert, at an index: those of the expert the row block names. -/
theorem takeW_at (x : FVec Ideal S32x2048x4096 .f32) (e : IVec S168x1 32) (r : Fin 168) (h : (e (ix2 r 0)).toNat < 32) (k : Fin 2048) (f : Fin 4096) :
    Host.gather gather_S32x2048x4096_S168x1_S168x2048x4096_12_0_n_n_0_1_120484096 x e (ix3 r k f) = x (ix3 ⟨(e (ix2 r 0)).toNat, h⟩ k f) := by
  unfold Host.gather
  congr 1
  funext a
  refine Fin.ext ?_
  show GatherDims.start _ _ e a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun z => min (e z).toInt.toNat 31) (?_ : _ = (ix2 r 0 : S168x1.Idx))).trans (cut_word _ h)
    funext b; refine Fin.ext ?_
    match b with
    | ⟨0, _⟩ => rfl
    | ⟨1, _⟩ => rfl
  | ⟨1, _⟩ =>
    rw [GatherDims.batchCoord_eq_zero _ _ _ List.not_mem_nil]
    unfold GatherDims.start
    refine (congrArg (· + 0 + _) (dif_neg (by exact (by decide : (1 : Fin 3) ∉ gather_S32x2048x4096_S168x1_S168x2048x4096_12_0_n_n_0_1_120484096.startIndexMap)))).trans ?_
    simp only [Nat.zero_add]
    rfl
  | ⟨2, _⟩ =>
    rw [GatherDims.batchCoord_eq_zero _ _ _ List.not_mem_nil]
    unfold GatherDims.start
    refine (congrArg (· + 0 + _) (dif_neg (by exact (by decide : (2 : Fin 3) ∉ gather_S32x2048x4096_S168x1_S168x2048x4096_12_0_n_n_0_1_120484096.startIndexMap)))).trans ?_
    simp only [Nat.zero_add]
    rfl

/-- The biases taken by expert, at an index. -/
theorem takeB_at (x : FVec Ideal S32x4096 .f32) (e : IVec S168x1 32) (r : Fin 168) (h : (e (ix2 r 0)).toNat < 32) (f : Fin 4096) :
    Host.gather gather_S32x4096_S168x1_S168x4096_1_0_n_n_0_1_14096 x e (ix2 r f) = x (ix2 ⟨(e (ix2 r 0)).toNat, h⟩ f) := by
  unfold Host.gather
  congr 1
  funext a
  refine Fin.ext ?_
  show GatherDims.start _ _ e a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun z => min (e z).toInt.toNat 31) (?_ : _ = (ix2 r 0 : S168x1.Idx))).trans (cut_word _ h)
    funext b; refine Fin.ext ?_
    match b with
    | ⟨0, _⟩ => rfl
    | ⟨1, _⟩ => rfl
  | ⟨1, _⟩ =>
    rw [GatherDims.batchCoord_eq_zero _ _ _ List.not_mem_nil]
    unfold GatherDims.start
    refine (congrArg (· + 0 + _) (dif_neg (by exact (by decide : (1 : Fin 2) ∉ gather_S32x4096_S168x1_S168x4096_1_0_n_n_0_1_14096.startIndexMap)))).trans ?_
    simp only [Nat.zero_add]
    rfl

variable (x0 : FVec Ideal S43008x2048 .f32) (x1 : FVec Ideal S4x32x2048x4096 .f32) (x2 : FVec Ideal S4x32x4096 .f32)
  (x3 : IVec S168 32) (x4 : IVec S1 32) (hx : ∀ r : Fin 168, (x3 (ix1 r)).toNat < 32)

/-- The linear part of row `n` of row block `r` at lane `f`: the row times the expert's column, plus the bias. -/
def linear (r : Fin 168) (n : Fin 256) (f : Fin 4096) : EReal :=
  ∑ k : Fin 2048, x0 (ix2 ⟨r.val * 256 + n.val, by have := r.isLt; have := n.isLt; omega⟩ k) * x1 (ix4 0 ⟨(x3 (ix1 r)).toNat, hx r⟩ k f)
    + x2 (ix3 0 ⟨(x3 (ix1 r)).toNat, hx r⟩ f)

theorem rows_at (r : Fin 168) (n : Fin 256) (k : Fin 2048) :
    val_main_v0 (F := Ideal) x0 (ix3 r n k) = x0 (ix2 ⟨r.val * 256 + n.val, by have := r.isLt; have := n.isLt; omega⟩ k) := by
  unfold val_main_v0
  pointwise

theorem weights_at (y : Fin 32) (k : Fin 2048) (f : Fin 4096) : val_main_v2 (F := Ideal) x1 (ix3 y k f) = x1 (ix4 0 y k f) := by
  unfold val_main_v2 val_main_v1
  pointwise

theorem biases_at (y : Fin 32) (f : Fin 4096) : val_main_v5 (F := Ideal) x2 (ix2 y f) = x2 (ix3 0 y f) := by
  unfold val_main_v5 val_main_v4
  pointwise

theorem named0_at (r : Fin 168) : val_main_call0_v0 (F := Ideal) x3 (ix2 r 0) = x3 (ix1 r) := by
  unfold val_main_call0_v0
  pointwise

theorem named1_at (r : Fin 168) : val_main_call1_v0 (F := Ideal) x3 (ix2 r 0) = x3 (ix1 r) := by
  unfold val_main_call1_v0
  pointwise

theorem v3_at (r : Fin 168) (k : Fin 2048) (f : Fin 4096) :
    val_main_v3 (F := Ideal) x1 x3 (ix3 r k f) = x1 (ix4 0 ⟨(x3 (ix1 r)).toNat, hx r⟩ k f) := by
  unfold val_main_v3
  rw [takeW_at _ _ r (by rw [named0_at]; exact hx r), weights_at]
  congr 2
  exact Fin.ext (congrArg BitVec.toNat (named0_at x3 r))

theorem v6_at (r : Fin 168) (f : Fin 4096) :
    val_main_v6 (F := Ideal) x2 x3 (ix2 r f) = x2 (ix3 0 ⟨(x3 (ix1 r)).toNat, hx r⟩ f) := by
  unfold val_main_v6
  rw [takeB_at _ _ r (by rw [named1_at]; exact hx r), biases_at]
  congr 2
  exact Fin.ext (congrArg BitVec.toNat (named1_at x3 r))

/-- The linear part, at an index. -/
theorem v10_at (r : Fin 168) (n : Fin 256) (f : Fin 4096) : val_main_v10 (F := Ideal) x0 x1 x2 x3 (ix3 r n f) = linear x0 x1 x2 x3 hx r n f := by
  rw [val_main_v10_apply, val_main_v7_apply, val_main_v9_apply, val_main_v8_apply]
  unfold linear
  refine congrArg₂ (· + ·) (Finset.sum_congr rfl fun k _ => congrArg₂ (· * ·) ?_ ?_) ?_
  · refine Eq.trans (congrArg _ ?_) (rows_at x0 r n k)
    funext a; match a with
    | ⟨0, _⟩ => rfl
    | ⟨1, _⟩ => rfl
    | ⟨2, _⟩ => rfl
  · refine Eq.trans (congrArg _ ?_) (v3_at x1 x3 hx r k f)
    funext a; match a with
    | ⟨0, _⟩ => rfl
    | ⟨1, _⟩ => rfl
    | ⟨2, _⟩ => rfl
  · refine Eq.trans (congrArg _ ?_) (v6_at x2 x3 hx r f)
    funext a; match a with
    | ⟨0, _⟩ => rfl
    | ⟨1, _⟩ => rfl

/-- The gated product, at an index. -/
theorem v27_at (r : Fin 168) (n : Fin 256) (f : Fin 2048) : val_main_v27 (F := Ideal) x0 x1 x2 x3 (ix3 r n f)
    = gated (linear x0 x1 x2 x3 hx r n ⟨f.val, by have := f.isLt; omega⟩) (linear x0 x1 x2 x3 hx r n ⟨2048 + f.val, by have := f.isLt; omega⟩) := by
  have h11 : val_main_v11 (F := Ideal) x0 x1 x2 x3 (ix3 r n f) = linear x0 x1 x2 x3 hx r n ⟨f.val, by have := f.isLt; omega⟩ := by
    rw [val_main_v11_apply]
    refine Eq.trans (congrArg _ ?_) (v10_at x0 x1 x2 x3 hx r n ⟨f.val, by have := f.isLt; omega⟩)
    funext a; match a with
    | ⟨0, _⟩ => rfl
    | ⟨1, _⟩ => rfl
    | ⟨2, _⟩ => rfl
  have h14 : val_main_v14 (F := Ideal) x0 x1 x2 x3 (ix3 r n f) = linear x0 x1 x2 x3 hx r n ⟨2048 + f.val, by have := f.isLt; omega⟩ := by
    rw [val_main_v14_apply]
    refine Eq.trans (congrArg _ ?_) (v10_at x0 x1 x2 x3 hx r n ⟨2048 + f.val, by have := f.isLt; omega⟩)
    funext a; match a with
    | ⟨0, _⟩ => rfl
    | ⟨1, _⟩ => rfl
    | ⟨2, _⟩ => rfl
  have h13 : val_main_v13 (F := Ideal) x0 x1 x2 x3 (ix3 r n f) = min (linear x0 x1 x2 x3 hx r n ⟨f.val, by have := f.isLt; omega⟩) (Ideal.ofBits .f32 0x40E00000#32) := by
    rw [val_main_v13_apply, h11]; rfl
  have h15 : val_main_v15 (F := Ideal) x0 x1 x2 x3 (ix3 r n f)
      = min (Ideal.ofBits .f32 0x40E00000#32) (max (Ideal.ofBits .f32 0xC0E00000#32) (linear x0 x1 x2 x3 hx r n ⟨2048 + f.val, by have := f.isLt; omega⟩)) := by
    rw [val_main_v15_apply, val_main_call2_v2_apply, h14]; rfl
  rw [val_main_v27_apply, val_main_v18_apply, val_main_v17_apply, val_main_v26_apply, val_main_v24_apply, val_main_v22_apply, val_main_v21_apply,
    val_main_v20_apply, h13, h15]
  rfl

/-- Whether the reference keeps row block `r`: its number is below the count of blocks in use. -/
theorem mask_at (r : Fin 168) (n : Fin 256) (f : Fin 2048) :
    val_main_call3_v1 (F := Ideal) x4 (ix3 r n f) = IntOp.cmpi .slt (BitVec.ofNat 32 r.val) (x4 (ix1 0)) := by
  rw [val_main_call3_v1_apply, val_main_v32_apply, val_main_v31_apply, val_main_v28_apply, val_main_v30_apply]
  refine congrArg₂ (IntOp.cmpi .slt) rfl ?_
  unfold val_main_v29
  pointwise

/-- The result, at an index. -/
theorem result_at (r : Fin 168) (n : Fin 256) (f : Fin 2048) :
    val_main_v35 (F := Ideal) x0 x1 x2 x3 x4 (ix2 ⟨r.val * 256 + n.val, by have := r.isLt; have := n.isLt; omega⟩ f)
      = if IntOp.cmpi .slt (BitVec.ofNat 32 r.val) (x4 (ix1 0)) = 1#1
        then gated (linear x0 x1 x2 x3 hx r n ⟨f.val, by have := f.isLt; omega⟩) (linear x0 x1 x2 x3 hx r n ⟨2048 + f.val, by have := f.isLt; omega⟩)
        else Ideal.ofBits .f32 0x00000000#32 := by
  have hr := r.isLt; have hn := n.isLt; have hf := f.isLt
  rw [val_main_v35_apply, val_main_v34_apply]
  have e : idx_main_v34 (ix2 ⟨r.val * 256 + n.val, by omega⟩ f) = ix3 r n f := by
    funext a; match a with
    | ⟨0, _⟩ => exact Fin.ext (by show ((r.val * 256 + n.val) * 2048 + f.val) / 524288 = r.val; omega)
    | ⟨1, _⟩ => exact Fin.ext (by show ((r.val * 256 + n.val) * 2048 + f.val) / 2048 % 256 = n.val; omega)
    | ⟨2, _⟩ => exact Fin.ext (by show ((r.val * 256 + n.val) * 2048 + f.val) % 2048 = f.val; omega)
  rw [e, val_main_v33_apply, mask_at, v27_at x0 x1 x2 x3 hx]
  rfl

end Cert.Reference2Ideal.Gmm

end
-- ==== Proof.Gmm1.Payload.lean ====
/- The kernel's terms read at an index, over the extended reals. -/
module

public import proofs.«01_k».proof.Proof.Gen.Kernel2Ideal.Skeleton
public import proofs.«01_k».proof.Proof.Gmm1.Ref
public import Idealize.ShloMosaic.Lib.Pipeline.ValueKit

@[expose] public section

set_option maxRecDepth 16384

noncomputable section

open Idealize.ShloMosaic Idealize.ShloMosaic.TcCoe Idealize.SL.Sem

namespace Cert.Kernel2Ideal.Gmm

open Cert.Kernel2Ideal Cert.Kernel2Ideal.Gen Cert.Gmm

/-- The weights as the scratch buffers hold them are the block's, rounding being exact. -/
theorem pay1_at (x : FVec Ideal S1x1x2048x1024 .f32) (k : Fin 2048) (f : Fin 1024) : k0_pay1 (F := Ideal) x (ix2 k f) = x (ix4 0 0 k f) := by
  unfold k0_pay1
  pointwise
theorem pay2_at (x : FVec Ideal S1x1x2048x1024 .f32) (k : Fin 2048) (f : Fin 1024) : k0_pay2 (F := Ideal) x (ix2 k f) = x (ix4 0 0 k f) := by
  unfold k0_pay2
  pointwise

theorem pay3_at (n : Fin 256) (f : Fin 1024) : k0_pay3 (F := Ideal) (ix2 n f) = Ideal.ofBits .bf16 0x0000#16 := rfl

/-- The tile's term, at an index: the gated product of the two linear parts. -/
theorem pay4_at (x : FVec Ideal S256x2048 .f32) (w : FVec Ideal S2048x1024 .bf16) (b : FVec Ideal S1x1x1x1024 .f32) (w' : FVec Ideal S2048x1024 .bf16)
    (b' : FVec Ideal S1x1x1x1024 .f32) (n : Fin 256) (f : Fin 1024) : k0_pay4 (F := Ideal) x w b w' b' (ix2 n f)
      = gated (∑ k : Fin 2048, x (ix2 n k) * w (ix2 k f) + b (ix4 0 0 0 f)) (∑ k : Fin 2048, x (ix2 n k) * w' (ix2 k f) + b' (ix4 0 0 0 f)) := by
  unfold k0_pay4 gated
  pointwise
  rw [zero_sub]

end Cert.Kernel2Ideal.Gmm

end
-- ==== Proof.Gmm1.Value.lean ====
/- The result of the gate and up products: each block the call leaves is the reference's, so the whole array is. -/
module

public import proofs.«01_k».proof.Proof.Gmm1.Frame
public import proofs.«01_k».proof.Proof.Gmm1.Payload
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem

namespace Cert.Kernel2Ideal.Gmm

open Cert.Kernel2Ideal Cert.Kernel2Ideal.Gen Cert.Gmm
open Idealize.ShloMosaic.Pipeline (Dat Cfg Window)

variable (m : (ℓ : Loc nD τ sig) → Buf (Elt Ideal) ℓ) (hn : Named m)

/-- The reference's result over the kernel's arguments. -/
abbrev REF (c : Dev nD) : FVec Ideal Cert.Reference2Ideal.S43008x2048 .bf16 :=
  Cert.Reference2Ideal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-! ## The windows' blocks, point by point -/

theorem index0 (t : Fin (cfg0 (adm m hn)).N) : ((cfg0 (adm m hn)).win 0).index t = ![rowOf m (grid0.coords t), 0] := trans0_eq m (grid0.coords t)
theorem index1 (t : Fin (cfg0 (adm m hn)).N) : ((cfg0 (adm m hn)).win 1).index t
    = ![0, (expert m (grid0.coords t 1)).toNat, 0, (grid0.coords t 0).val] := trans1_eq m (grid0.coords t)
theorem index2 (t : Fin (cfg0 (adm m hn)).N) : ((cfg0 (adm m hn)).win 2).index t
    = ![0, (expert m (grid0.coords t 1)).toNat, 0, 2 + (grid0.coords t 0).val] := trans2_eq m (grid0.coords t)
theorem index3 (t : Fin (cfg0 (adm m hn)).N) : ((cfg0 (adm m hn)).win 3).index t
    = ![0, (expert m (grid0.coords t 1)).toNat, 0, (grid0.coords t 0).val] := trans3_eq m (grid0.coords t)
theorem index4 (t : Fin (cfg0 (adm m hn)).N) : ((cfg0 (adm m hn)).win 4).index t
    = ![0, (expert m (grid0.coords t 1)).toNat, 0, 2 + (grid0.coords t 0).val] := trans4_eq m (grid0.coords t)

theorem trans5_eq (i : grid0.Coords) : cc0_transform_5 i = ![(i 1).val, (i 0).val] := by
  have h0 : (i 0).val < 2 := (i 0).isLt
  have h1 : (i 1).val < 168 := (i 1).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]
theorem index5 (t : Fin (cfg0 (adm m hn)).N) : ((cfg0 (adm m hn)).win 5).index t = ![(grid0.coords t 1).val, (grid0.coords t 0).val] :=
  trans5_eq (grid0.coords t)

/-! ## The blocks read at an index -/

theorem bias_cast (x : FVec Ideal S4x32x4096 .f32) (e : Fin 32) (f : Fin 4096) :
    shapeCast S4x32x1x4096 x shapeCasts_S4x32x4096_S4x32x1x4096 (ix4 0 e 0 f) = x (ix3 0 e f) := by
  pointwise

/-- The bias as the region finds it: the argument with a unit axis. -/
theorem bias_at (c : Dev nD) (e : Fin 32) (f : Fin 4096) :
    (V m c main_v6 : FVec Ideal S4x32x1x4096 .f32) (ix4 0 e 0 f) = (m ((c : Thread nD τ).loc main_arg2) : FVec Ideal S4x32x4096 .f32) (ix3 0 e f) := by
  have h : V m c main_v6 = shapeCast S4x32x1x4096 (m ((c : Thread nD τ).loc main_arg2) : FVec Ideal S4x32x4096 .f32) shapeCasts_S4x32x4096_S4x32x1x4096 := rfl
  rw [h]
  generalize (m ((c : Thread nD τ).loc main_arg2) : FVec Ideal S4x32x4096 .f32) = x
  exact bias_cast x e f

/-- The rows a point reads: those of its row block. -/
theorem rows_at (c : Dev nD) (t : Fin (cfg0 (adm m hn)).N) (n : Fin 256) (k : Fin 2048) (hr : rowOf m (grid0.coords t) * 256 + n.val < 43008) :
    (iblk m hn c 0 t : FVec Ideal S256x2048 .f32) (ix2 n k)
      = (m ((c : Thread nD τ).loc main_arg0) : FVec Ideal S43008x2048 .f32) (ix2 ⟨rowOf m (grid0.coords t) * 256 + n.val, hr⟩ k) := by
  show V m c main_arg0 ((((cfg0 (adm m hn)).win 0).rect t).emb (ix2 n k)) = _
  rw [V_main_arg0]
  refine congrArg (m _) ?_
  funext a
  refine Fin.ext ((Pipeline.Window.rect_emb_val _ t (ix2 n k) a rfl).trans ?_)
  rw [index0]
  match a with
  | ⟨0, _⟩ => rfl
  | ⟨1, _⟩ => show 0 * 2048 + k.val = k.val; omega

/-- The gate weights a point reads: its expert's, of its half. -/
theorem gateW_at (c : Dev nD) (t : Fin (cfg0 (adm m hn)).N) (k : Fin 2048) (f : Fin 1024) (hf : (grid0.coords t 0).val * 1024 + f.val < 4096) :
    (iblk m hn c 1 t : FVec Ideal S1x1x2048x1024 .f32) (ix4 0 0 k f)
      = (m ((c : Thread nD τ).loc main_arg1) : FVec Ideal S4x32x2048x4096 .f32)
        (ix4 0 ⟨(expert m (grid0.coords t 1)).toNat, hn.expert_lt _⟩ k ⟨(grid0.coords t 0).val * 1024 + f.val, hf⟩) := by
  show V m c main_arg1 ((((cfg0 (adm m hn)).win 1).rect t).emb (ix4 0 0 k f)) = _
  rw [V_main_arg1]
  refine congrArg (m _) ?_
  funext a
  refine Fin.ext ((Pipeline.Window.rect_emb_val _ t (ix4 0 0 k f) a rfl).trans ?_)
  rw [index1]
  match a with
  | ⟨0, _⟩ => rfl
  | ⟨1, _⟩ => show (expert m (grid0.coords t 1)).toNat * 1 + 0 = (expert m (grid0.coords t 1)).toNat; omega
  | ⟨2, _⟩ => show 0 * 2048 + k.val = k.val; omega
  | ⟨3, _⟩ => rfl

/-- The up weights a point reads. -/
theorem upW_at (c : Dev nD) (t : Fin (cfg0 (adm m hn)).N) (k : Fin 2048) (f : Fin 1024) (hf : (2 + (grid0.coords t 0).val) * 1024 + f.val < 4096) :
    (iblk m hn c 2 t : FVec Ideal S1x1x2048x1024 .f32) (ix4 0 0 k f)
      = (m ((c : Thread nD τ).loc main_arg1) : FVec Ideal S4x32x2048x4096 .f32)
        (ix4 0 ⟨(expert m (grid0.coords t 1)).toNat, hn.expert_lt _⟩ k ⟨(2 + (grid0.coords t 0).val) * 1024 + f.val, hf⟩) := by
  show V m c main_arg1 ((((cfg0 (adm m hn)).win 2).rect t).emb (ix4 0 0 k f)) = _
  rw [V_main_arg1]
  refine congrArg (m _) ?_
  funext a
  refine Fin.ext ((Pipeline.Window.rect_emb_val _ t (ix4 0 0 k f) a rfl).trans ?_)
  rw [index2]
  match a with
  | ⟨0, _⟩ => rfl
  | ⟨1, _⟩ => show (expert m (grid0.coords t 1)).toNat * 1 + 0 = (expert m (grid0.coords t 1)).toNat; omega
  | ⟨2, _⟩ => show 0 * 2048 + k.val = k.val; omega
  | ⟨3, _⟩ => rfl

/-- The gate bias a point reads. -/
theorem gateB_at (c : Dev nD) (t : Fin (cfg0 (adm m hn)).N) (f : Fin 1024) (hf : (grid0.coords t 0).val * 1024 + f.val < 4096) :
    (iblk m hn c 3 t : FVec Ideal S1x1x1x1024 .f32) (ix4 0 0 0 f)
      = (m ((c : Thread nD τ).loc main_arg2) : FVec Ideal S4x32x4096 .f32)
        (ix3 0 ⟨(expert m (grid0.coords t 1)).toNat, hn.expert_lt _⟩ ⟨(grid0.coords t 0).val * 1024 + f.val, hf⟩) := by
  refine Eq.trans (?_ : _ = V m c main_v6 (ix4 0 ⟨(expert m (grid0.coords t 1)).toNat, hn.expert_lt _⟩ 0 ⟨(grid0.coords t 0).val * 1024 + f.val, hf⟩))
    (bias_at m c _ _)
  show V m c main_v6 ((((cfg0 (adm m hn)).win 3).rect t).emb (ix4 0 0 0 f)) = _
  refine congrArg (V m c main_v6) ?_
  funext a
  refine Fin.ext ((Pipeline.Window.rect_emb_val _ t (ix4 0 0 0 f) a rfl).trans ?_)
  rw [index3]
  match a with
  | ⟨0, _⟩ => rfl
  | ⟨1, _⟩ => show (expert m (grid0.coords t 1)).toNat * 1 + 0 = (expert m (grid0.coords t 1)).toNat; omega
  | ⟨2, _⟩ => rfl
  | ⟨3, _⟩ => rfl

/-- The up bias a point reads. -/
theorem upB_at (c : Dev nD) (t : Fin (cfg0 (adm m hn)).N) (f : Fin 1024) (hf : (2 + (grid0.coords t 0).val) * 1024 + f.val < 4096) :
    (iblk m hn c 4 t : FVec Ideal S1x1x1x1024 .f32) (ix4 0 0 0 f)
      = (m ((c : Thread nD τ).loc main_arg2) : FVec Ideal S4x32x4096 .f32)
        (ix3 0 ⟨(expert m (grid0.coords t 1)).toNat, hn.expert_lt _⟩ ⟨(2 + (grid0.coords t 0).val) * 1024 + f.val, hf⟩) := by
  refine Eq.trans (?_ : _ = V m c main_v6 (ix4 0 ⟨(expert m (grid0.coords t 1)).toNat, hn.expert_lt _⟩ 0 ⟨(2 + (grid0.coords t 0).val) * 1024 + f.val, hf⟩))
    (bias_at m c _ _)
  show V m c main_v6 ((((cfg0 (adm m hn)).win 4).rect t).emb (ix4 0 0 0 f)) = _
  refine congrArg (V m c main_v6) ?_
  funext a
  refine Fin.ext ((Pipeline.Window.rect_emb_val _ t (ix4 0 0 0 f) a rfl).trans ?_)
  rw [index4]
  match a with
  | ⟨0, _⟩ => rfl
  | ⟨1, _⟩ => show (expert m (grid0.coords t 1)).toNat * 1 + 0 = (expert m (grid0.coords t 1)).toNat; omega
  | ⟨2, _⟩ => rfl
  | ⟨3, _⟩ => rfl

/-- A row block in use reads its own rows. -/
theorem rowOf_active (i : grid0.Coords) (h : Active i (count m)) : rowOf m i = (i 1).val := by
  have h1 : (i 1).val < 168 := (i 1).isLt
  have ha := (active_iff i (count m)).mp h
  unfold rowOf
  revert ha
  generalize count m = n
  intro ha
  have e : (BitVec.ofNat 32 (i 1).val).toNat = (i 1).val := by rw [BitVec.toNat_ofNat]; omega
  have h3 := n.toInt_eq_toNat_cond
  have h4 := n.isLt
  have e' : (Scalar.subi n 1#32).toNat = n.toNat - 1 := by
    show (n - 1#32).toNat = _
    rw [BitVec.toNat_sub]; simp; split at h3 <;> omega
  simp only [Scalar.minsi, IntOp.minsi, BitVec.slt_eq_decide, decide_eq_true_eq]
  split <;> rename_i hh
  · exact e
  · rw [e']
    rw [BitVec.toInt_eq_toNat_cond, BitVec.toInt_eq_toNat_cond, e, e'] at hh
    split at hh <;> split at hh <;> split at h3 <;> omega

/-- The reference keeps the row blocks in use. -/
theorem mask_iff (i : grid0.Coords) : IntOp.cmpi .slt (BitVec.ofNat 32 (i 1).val) (count m) = 1#1 ↔ Active i (count m) :=
  (ne_zero_iff (Scalar.cmpi .slt (BitVec.ofNat 32 (i 1).val) (count m))).symm

theorem zero_bits : Ideal.ofBits .bf16 0x0000#16 = Ideal.ofBits .f32 0x00000000#32 := by
  rw [show Ideal.ofBits .bf16 0x0000#16 = 0 from by pointwise, show Ideal.ofBits .f32 0x00000000#32 = 0 from by pointwise]

/-- A point's row of its tile is a row of the reference's. -/
theorem tile_lt (i : grid0.Coords) (n : Fin 256) : (i 1).val * 256 + n.val < 43008 := by
  have h1 : (i 1).val < 168 := (i 1).isLt
  have := n.isLt
  omega

theorem lane_lt (i : grid0.Coords) (f : Fin 1024) : (i 0).val * 1024 + f.val < 2048 := by
  have h1 : (i 0).val < 2 := (i 0).isLt
  have := f.isLt
  omega

theorem block_lt (i : grid0.Coords) : (i 1).val < 168 := (i 1).isLt

theorem expert_at (c : Dev nD) (r : Fin 168) : (m ((c : Thread nD τ).loc main_arg3) : IVec S168 32) (ix1 r) = expert m r := by
  obtain rfl : c = 0 := Subsingleton.elim (α := Fin 1) c 0
  unfold expert
  refine congrArg (m _) ?_
  funext a; fin_cases a; rfl

theorem count_at (c : Dev nD) : (m ((c : Thread nD τ).loc main_arg4) : IVec S1 32) (ix1 0) = count m := by
  obtain rfl : c = 0 := Subsingleton.elim (α := Fin 1) c 0
  unfold count
  refine congrArg (m _) ?_
  funext a; fin_cases a; rfl

include hn in
theorem named_at (c : Dev nD) (r : Fin 168) : ((m ((c : Thread nD τ).loc main_arg3) : IVec S168 32) (ix1 r)).toNat < 32 := by
  rw [expert_at m c]; exact hn.expert_lt r

/-- A tile of the result, at an index: the reference's result there. -/
theorem tile_at (c : Dev nD) (t : Fin (cfg0 (adm m hn)).N) (n : Fin 256) (f : Fin 1024) :
    (outBlk m hn c t : FVec Ideal S256x1024 .bf16) (ix2 n f)
      = REF m c (ix2 ⟨(grid0.coords t 1).val * 256 + n.val, tile_lt _ n⟩ ⟨(grid0.coords t 0).val * 1024 + f.val, lane_lt _ f⟩) := by
  have hl := lane_lt (grid0.coords t) f
  refine Eq.trans ?_ (Cert.Reference2Ideal.Gmm.result_at _ _ _ _ _ (named_at m hn c) ⟨(grid0.coords t 1).val, block_lt _⟩ n
    ⟨(grid0.coords t 0).val * 1024 + f.val, hl⟩).symm
  rw [count_at m c]
  unfold outBlk outAt
  by_cases ha : Active (grid0.coords t) (count m)
  · rw [if_pos ha, if_pos ((mask_iff m (grid0.coords t)).mpr ha)]
    refine (pay4_at _ _ _ _ _ n f).trans ?_
    have hr := rowOf_active m _ ha
    have hb := tile_lt (grid0.coords t) n
    have e : (⟨((m ((c : Thread nD τ).loc main_arg3) : IVec S168 32) (ix1 ⟨(grid0.coords t 1).val, block_lt _⟩)).toNat, named_at m hn c _⟩ : Fin 32)
        = ⟨(expert m (grid0.coords t 1)).toNat, hn.expert_lt _⟩ := Fin.ext (congrArg BitVec.toNat (expert_at m c _))
    unfold Cert.Reference2Ideal.Gmm.linear
    rw [e]
    refine congrArg₂ gated (congrArg₂ (· + ·) (Finset.sum_congr rfl fun k _ => congrArg₂ (· * ·) ?_ ?_) ?_)
      (congrArg₂ (· + ·) (Finset.sum_congr rfl fun k _ => congrArg₂ (· * ·) ?_ ?_) ?_)
    · rw [rows_at m hn c t n k (by omega)]
      refine congrArg _ (congrArg (ix2 · k) (Fin.ext ?_)); show rowOf m _ * 256 + n.val = _; rw [hr]
    · exact (pay1_at _ k f).trans (gateW_at m hn c t k f (by omega))
    · rw [gateB_at m hn c t f (by omega)]
    · rw [rows_at m hn c t n k (by omega)]
      refine congrArg _ (congrArg (ix2 · k) (Fin.ext ?_)); show rowOf m _ * 256 + n.val = _; rw [hr]
    · refine ((pay2_at _ k f).trans (upW_at m hn c t k f (by omega))).trans ?_
      refine congrArg _ (congrArg (ix4 0 _ k ·) (Fin.ext ?_)); show (2 + (grid0.coords t 0).val) * 1024 + f.val = 2048 + ((grid0.coords t 0).val * 1024 + f.val); omega
    · rw [upB_at m hn c t f (by omega)]
      refine congrArg _ (congrArg (ix3 0 _ ·) (Fin.ext ?_)); show (2 + (grid0.coords t 0).val) * 1024 + f.val = 2048 + ((grid0.coords t 0).val * 1024 + f.val); omega
  · rw [if_neg ha, if_neg (fun h => ha ((mask_iff m (grid0.coords t)).mp h)), pay3_at, zero_bits]

/-- Every block of the result is some point's. -/
theorem covers5 : ((cfg0 (adm m hn)).win 5).Covers := by
  refine Pipeline.Window.covers_of_index_surj _ rfl (fun a => ?_) (fun β => ?_)
  · match a with
    | ⟨0, _⟩ => exact (by decide : 0 < 256)
    | ⟨1, _⟩ => exact (by decide : 0 < 1024)
  · have h0 : (β (0 : Fin 2)).val < 168 := lt_of_lt_of_eq (β (0 : Fin 2)).isLt (by decide : (43008 + 256 - 1) / 256 = 168)
    have h1 : (β (1 : Fin 2)).val < 2 := lt_of_lt_of_eq (β (1 : Fin 2)).isLt (by decide : (2048 + 1024 - 1) / 1024 = 2)
    refine ⟨⟨(β (1 : Fin 2)).val * 168 + (β (0 : Fin 2)).val, by show _ < 336; omega⟩, fun a => ?_⟩
    rw [index5]
    match a with
    | ⟨0, _⟩ => show (grid0.coords _ 1).val = (β (0 : Fin 2)).val; rw [coord1]; show ((β (1 : Fin 2)).val * 168 + (β (0 : Fin 2)).val) / 1 % 168 = _; omega
    | ⟨1, _⟩ => show (grid0.coords _ 0).val = (β (1 : Fin 2)).val; rw [coord0]; show ((β (1 : Fin 2)).val * 168 + (β (0 : Fin 2)).val) / 168 % 2 = _; omega

/-- The result after the run is the reference's. -/
theorem final (c : Dev nD) : (dats m hn 0 c).arrAt 5 (cfg0 (adm m hn)).N = REF m c := by
  refine (dats m hn 0 c).arrAt_eq_of_covers 5 _ (covers5 m hn) fun t _ y => ?_
  rw [after5]
  change S256x1024.Idx at y
  obtain ⟨n, f, rfl⟩ : ∃ (n : Fin 256) (f : Fin 1024), y = ix2 n f := ⟨y 0, y 1, by
    funext a; match a with
    | ⟨0, _⟩ => rfl
    | ⟨1, _⟩ => rfl⟩
  refine (tile_at m hn c t n f).trans (congrArg (REF m c) ?_)
  funext a
  refine Fin.ext (Eq.symm ((Pipeline.Window.rect_emb_val ((cfg0 (adm m hn)).win 5) t (ix2 n f) a rfl).trans ?_))
  rw [index5]
  match a with
  | ⟨0, _⟩ => rfl
  | ⟨1, _⟩ => rfl

end Cert.Kernel2Ideal.Gmm

end
-- ==== Proof.Gmm1.Pre.lean ====
/- The precondition on the tables, decoded: every row block names one of the 32 experts, and at least one row block is in use. -/
module

public import proofs.«01_k».proof.Proof.Gen.Pre_experts_named
public import Idealize.ShloMosaic.Lib.Pointwise

@[expose] public section

set_option maxRecDepth 16384

noncomputable section

open Idealize.ShloMosaic

namespace Cert.Gmm

variable {F : FTy → Type} [FloatOps F]

/-- A word between 0 and 31, compared signed, is below 32. -/
theorem word_lt (w : BitVec 32) (h : IntOp.andi (IntOp.cmpi .sge w 0#32) (IntOp.cmpi .sle w 31#32) = 1#1) : w.toNat < 32 := by
  have h0 : (0#32 : BitVec 32).toInt = 0 := by decide
  have h31 : (31#32 : BitVec 32).toInt = 31 := by decide
  have hw := w.toInt_eq_toNat_cond
  have hl := w.isLt
  change BitVec.ofBool (BitVec.sle 0#32 w) &&& BitVec.ofBool (BitVec.sle w 31#32) = 1#1 at h
  rw [BitVec.sle_eq_decide, BitVec.sle_eq_decide, h0, h31] at h
  by_cases h1 : (0 : Int) ≤ w.toInt
  · by_cases h2 : w.toInt ≤ 31
    · split at hw <;> omega
    · simp [h2] at h
  · simp [h1] at h

/-- A word at least 1, compared signed, is positive. -/
theorem word_pos (w : BitVec 32) (h : IntOp.cmpi .sge w 1#32 = 1#1) : 0 < w.toInt := by
  have h1 : (1#32 : BitVec 32).toInt = 1 := by decide
  change BitVec.ofBool (BitVec.sle 1#32 w) = 1#1 at h
  rw [BitVec.sle_eq_decide, h1] at h
  by_cases h2 : (1 : Int) ≤ w.toInt
  · omega
  · simp [h2] at h

theorem named_of [Cert.Pre_experts_named.Facts] (x0 x1 x2 x3 x4)
    (h : (Cert.Pre_experts_named.fn (F := F) x0 x1 x2 x3 x4).1 = (fun _ => 1#1) ∧ (Cert.Pre_experts_named.fn (F := F) x0 x1 x2 x3 x4).2 = (fun _ => 1#1)) :
    (∀ j, (x3 j).toNat < 32) ∧ ∀ j, 0 < (x4 j).toInt :=
  ⟨fun j => word_lt _ (congrFun h.1 j), fun j => word_pos _ (congrFun h.2 j)⟩

end Cert.Gmm

end
-- ==== Proof.Gmm2.Body.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Claim
public import Idealize.ShloMosaic.Lib.VecWindow
public import Idealize.ShloMosaic.Lib.WholeRead

@[expose] public section

set_option maxRecDepth 16384

noncomputable section

namespace Cert.Kernel3Ideal.Gmm

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-word table. -/
abbrev one0 : S1.Idx := fun | 0 => (⟨0, by decide⟩ : Fin 1)

/-- The index of a point's row block in a table of one word per row block. -/
abbrev rowAt (i : grid0.Coords) : S168.Idx := fun | 0 => (⟨(i 1).val, (i 1).isLt⟩ : Fin 168)

/-- Whether the row block of the point is one of the `n` blocks in use. -/
abbrev Active (i : grid0.Coords) (n : BitVec 32) : Prop := k0_cond2 i n = 1#1

/-- Whether the point takes its weight block into the scratch buffer: in use, and the first block of its expert. -/
abbrev Loads (i : grid0.Coords) (n w : BitVec 32) : Prop :=
  Scalar.cmpi .ne (Scalar.extui (Scalar.andi (Scalar.cmpi .slt (BitVec.ofNat 32 (i 1).val) n) (Scalar.cmpi .eq w 1#32)) : BitVec 32) 0#32 = 1#1

/-- What the scratch buffer holds after the body: the point's weights rounded where it takes them in, else what it held. -/
def held (i : grid0.Coords) (n w : BitVec 32) (x1 : Vec F S1x1x2048x2048 .f32) (x4 : Vec F S2048x2048 .bf16) : Vec F S2048x2048 .bf16 :=
  if Loads i n w then k0_pay1 x1 else x4

/-- What the output's staging buffer holds after the body: the product for a block in use, zeros for another. -/
def outAt (i : grid0.Coords) (n : BitVec 32) (x0 : Vec F S256x2048 .bf16) (w1 : Vec F S2048x2048 .bf16) (x2 : Vec F S1x1x1x2048 .f32) :
    Vec F S256x2048 .f32 :=
  if Active i n then k0_pay2 x0 w1 x2 else k0_pay3

/-- The table's index of a point is its row block. -/
theorem off1_val (i : grid0.Coords) : k0_off1 i 0 = (i 1).val := by
  have h : (i 1).val < 168 := (i 1).isLt
  show (Scalar.indexCast (BitVec.ofNat 32 (i 1).val)).toNat = _
  unfold Scalar.indexCast
  simp
  omega

/-- A whole buffer that one store may have filled reads the payload where it was stored, and what it held elsewhere. -/
theorem read_store_if {κ : Kind} {sp : Space} {s : Shape} {e : EltTy} (v : View sig κ sp s e) {P P' : Prop} [Decidable P] [Decidable P']
    (h : P ↔ P') {f f' : v.ty.Contents (Elt F)} {off : Fin s.rank → ℕ} (inb : ∀ a, off a + s.size a ≤ s.size a)
    (w : (Rect.unit off s.size inb).shape.Idx → Elt F e) :
    v.read (Elt F) (if _ : P then v.writes (Elt F) f [⟨Rect.unit off s.size inb, w⟩] else f') = if P' then w else v.read (Elt F) f' := by
  by_cases hp : P
  · rw [dif_pos hp, if_pos (h.mp hp), View.read_writes_full]
  · rw [dif_neg hp, if_neg (fun k => hp (h.mpr k))]

set_option maxHeartbeats 1000000 in
theorem body_run (c : Dev nD) (i : grid0.Coords) (q1 q2 : PosShare TreeShare)
    (arg2 : Memref sig .tc .smem S168 .i32) (harg2 : arg2.IsWhole)
    (arg3 : Memref sig .tc .smem S168 .i32) (harg3 : arg3.IsWhole)
    (arg4 : Memref sig .tc .smem S1 .i32) (harg4 : arg4.IsWhole)
    (arg5 : Memref sig .tc .vmem S256x2048 .bf16) (harg5 : arg5.IsWhole)
    (arg6 : Memref sig .tc .vmem S1x1x2048x2048 .f32) (harg6 : arg6.IsWhole)
    (arg7 : Memref sig .tc .vmem S1x1x1x2048 .f32) (harg7 : arg7.IsWhole)
    (arg8 : Memref sig .tc .vmem S256x2048 .f32) (harg8 : arg8.IsWhole)
    (arg9 : Memref sig .tc .vmem S2048x2048 .bf16) (harg9 : arg9.IsWhole)
    (y1 : Vec F S168 .i32) (y2 : Vec F S1 .i32)
    (x0 : Vec F S256x2048 .bf16) (x1 : Vec F S1x1x2048x2048 .f32) (x2 : Vec F S1x1x1x2048 .f32) (x4 : Vec F S2048x2048 .bf16) :
      ∀ (E : Set ℕ) (K : PUnit → sProp 𝕄),
        iprop(owns (c : Thread nD τ) arg3 q1 y1
            ∗ owns (c : Thread nD τ) arg4 q2 y2
            ∗ owns (c : Thread nD τ) arg5 fullShare x0 ∗ owns (c : Thread nD τ) arg6 fullShare x1 ∗ owns (c : Thread nD τ) arg7 fullShare x2
            ∗ (∃ d, owns (c : Thread nD τ) arg8 fullShare d) ∗ owns (c : Thread nD τ) arg9 fullShare x4
            ∗ (iprop(owns (c : Thread nD τ) arg3 q1 y1
            ∗ owns (c : Thread nD τ) arg4 q2 y2
            ∗ owns (c : Thread nD τ) arg5 fullShare x0 ∗ owns (c : Thread nD τ) arg6 fullShare x1 ∗ owns (c : Thread nD τ) arg7 fullShare x2
            ∗ owns (c : Thread nD τ) arg8 fullShare (outAt i (y2 one0) x0 (held i (y2 one0) (y1 (rowAt i)) x1 x4) x2)
            ∗ owns (c : Thread nD τ) arg9 fullShare (held i (y2 one0) (y1 (rowAt i)) x1 x4)) -∗ K ⟨⟩))
          ⊢ wp frame (wpE (defs₀ (F := F)) Variants.none c none) E (cc0_gmm_down i arg2 harg2 arg3 harg3 arg4 harg4 arg5 harg5 arg6 harg6 arg7 harg7 arg8 harg8 arg9 harg9) K := by
    intro E K
    simp only [cc0_gmm_down_eq_skeleton]; unfold cc0_gmm_down_skel
    unfold owns
    iintro ⟨⟨%g1, %hg1, HT1⟩, ⟨%g2, %hg2, HT2⟩, ⟨%f0, %hf0, H0⟩, ⟨%f1, %hf1, H1⟩, ⟨%f2, %hf2, H2⟩, ⟨%d3, %f3, -, H3⟩, ⟨%f4, %hf4, H4⟩, Hk⟩
    obtain rfl := harg3.eq_unread hg1; obtain rfl := harg4.eq_unread hg2
    obtain rfl := harg5.eq_unread hf0; obtain rfl := harg6.eq_unread hf1; obtain rfl := harg7.eq_unread hf2; obtain rfl := harg9.eq_unread hf4
    sl_exec
    sl_step
    iapply Hk
    isplitl [HT1]
    · iexists _; isplitr; · ipureintro; exact harg3.read_unread _
      iexact HT1
    isplitl [HT2]
    · iexists _; isplitr; · ipureintro; exact harg4.read_unread _
      iexact HT2
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    have e2 : body_run.sl.r c arg4 harg4 y2 = y2 one0 := by
      refine (Memref.IsWhole.readAt_unread harg4 y2 _ _).trans (congrArg y2 ?_)
      funext a; fin_cases a; exact Subsingleton.elim (α := Fin 1) _ _
    have e1 : body_run.sl.r_1 c i arg3 harg3 y1 = y1 (rowAt i) := by
      refine (Memref.IsWhole.readAt_unread harg3 y1 _ _).trans (congrArg y1 ?_)
      funext a; fin_cases a; refine Fin.ext ?_
      have h1 : ((Rect.unit (s := S168) (k0_off1 i) S1.size (k0_off1_inb i)).toLoadRect.idx (Shape.Idx.first (s := S1) (by decide)) 0).val
          = k0_off1 i 0 + 1 * ((Shape.Idx.first (s := S1) (by decide)) 0).val := rfl
      have h2 : ((Shape.Idx.first (s := S1) (by decide)) 0).val < 1 := ((Shape.Idx.first (s := S1) (by decide)) 0).isLt
      have h3 := off1_val i
      refine h1.trans ?_
      show _ = (i 1).val
      omega
    have e7 : body_run.sl.v7 c i arg3 harg3 arg4 harg4 y1 y2 = 1#1 ↔ Loads i (y2 one0) (y1 (rowAt i)) := by
      rw [← e1, ← e2]; exact Iff.rfl
    have h1 : body_run.sl.v14 c i arg3 harg3 arg4 harg4 arg6 harg6 arg9 harg9 y1 y2 x1 x4 = held i (y2 one0) (y1 (rowAt i)) x1 x4 := by
      delta body_run.sl.v14
      rw [View.readAt_full, read_store_if arg9.view e7, View.readAt_full, hf1, hf4]
      rfl
    isplitl [H3]
    · iexists _; isplitr; swap; · iexact H3
      ipureintro
      rw [e2]
      have e3 : k0_cond3 i (y2 one0) = 1#1 ↔ ¬ Active i (y2 one0) := by
        unfold Active k0_cond2 k0_cond3
        exact (by decide : ∀ b : BitVec 1, Scalar.cmpi .ne (Scalar.extui (Scalar.xori b 1#1) : BitVec 32) 0#32 = 1#1 ↔ ¬ Scalar.cmpi .ne (Scalar.extui b : BitVec 32) 0#32 = 1#1) _
      rw [read_store_if arg8.view e3]
      rw [h1, View.readAt_full, View.readAt_full, hf0, hf2, read_store_if arg8.view Iff.rfl]
      unfold outAt
      by_cases h : Active i (y2 one0)
      · rw [if_neg (not_not_intro h), if_pos h, if_pos h]
      · rw [if_pos h, if_neg h]
    iexists _; isplitr; swap; · iexact H4
    ipureintro
    rw [read_store_if arg9.view e7, View.readAt_full, hf1, hf4]; rfl

end Cert.Kernel3Ideal.Gmm
-- ==== Proof.Gmm2.Tables.lean ====
module

public import proofs.«01_k».proof.Proof.Gmm2.Body
public import Idealize.ShloMosaic.Lib.Pipeline.FrameBody
public import Idealize.ShloMosaic.Lib.WordCmp
public import Idealize.ShloMosaic.Lib.Pointwise

@[expose] public section

set_option maxRecDepth 16384

noncomputable section

namespace Cert.Kernel3Ideal.Gmm

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold where the region is entered: the launch memory after the host's operations. -/
abbrev V (c : Dev nD) (b : Ref sig .tc) : Buf (Elt F) ((c : Thread nD τ).loc b) := StableHlo.after hostOps0 (fun b => m (c, b)) b

/-- No host operation before the region leaves a buffer fresh. -/
theorem hostOps0_fresh : (hostOps0 : List (HloOp τ sig (Elt F))).Forall fun op => op.fresh = ∅ := by
  simp only [List.Forall]; repeat' constructor

set_option maxHeartbeats 800000 in
/-- The program is the host's operations followed by the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is as launched where the region is entered. -/
theorem V_kept (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  V_kept m c main_arg0 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  V_kept m c main_arg1 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  V_kept m c main_arg2 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  V_kept m c main_arg3 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  V_kept m c main_arg4 (List.forall_iff_forall_mem.mp (by
    simp only [List.Forall, StableHlo.nullary_writes, StableHlo.unary_writes, StableHlo.binary_writes, StableHlo.reshape_writes, Finset.mem_singleton]
    repeat' apply And.intro
    all_goals exact StableHlo.devRef_ne_of_ne (by decide)))

/-! ## The tables -/

/-- The index of row block `r` in a table of one word per row block. -/
abbrev at168 (r : Fin 168) : S168.Idx := fun | 0 => (r : Fin 168)

/-- The word naming row block `r`'s expert. -/
def expert (r : Fin 168) : BitVec 32 := m (((0 : Dev nD) : Thread nD τ).loc main_arg3) (at168 r)

/-- The word counting the row blocks in use. -/
def count : BitVec 32 := m (((0 : Dev nD) : Thread nD τ).loc main_arg4) one0

/-- What the call asks of its tables: every row block names one of the 32 experts, and at least one row block is in use. -/
structure Named : Prop where
  expert_lt : ∀ r, (expert m r).toNat < 32
  count_pos : 0 < (count m).toInt

/-- The tables' contents where the region is entered. -/
def tab : pre0.Contents (Elt F) := fun k => V m 0 (pre0.ref k)

theorem tab_expert (i : grid0.Coords) :
    (tab m).at 0 (Rect.unit (s := S168) (k0_off1 i) S1.size (k0_off1_inb i)) numel1_S1 = expert m (i 1) := by
  show V m 0 main_arg3 _ = _
  rw [V_main_arg3]
  refine congrArg (m _) ?_
  funext a; fin_cases a; refine Fin.ext ?_
  have h1 : ((Rect.unit (s := S168) (k0_off1 i) S1.size (k0_off1_inb i)).emb (Shape.Idx.first (s := S1) (by decide)) 0).val
      = k0_off1 i 0 + 1 * ((Shape.Idx.first (s := S1) (by decide)) 0).val := rfl
  have h2 : ((Shape.Idx.first (s := S1) (by decide)) 0).val < 1 := ((Shape.Idx.first (s := S1) (by decide)) 0).isLt
  have h3 := off1_val i
  refine h1.trans ?_
  show _ = (i 1).val
  omega

theorem tab_count : (tab m).at 2 (Rect.unit (s := S1) ![0] S1.size inb_S1_S1_0) numel1_S1 = count m := by
  show V m 0 main_arg4 _ = _
  rw [V_main_arg4]
  refine congrArg (m _) ?_
  funext a; fin_cases a; exact Subsingleton.elim (α := Fin 1) _ _

/-- The block of the rows a point reads: its own row block, or the last one in use. -/
def rowOf (i : grid0.Coords) : Nat := (Scalar.minsi (BitVec.ofNat 32 (i 1).val) (Scalar.subi (count m) 1#32)).toNat

theorem rowOf_le (h : Named m) (i : grid0.Coords) : rowOf m i ≤ (i 1).val := by
  have h1 : (i 1).val < 168 := (i 1).isLt
  have h2 := h.count_pos
  unfold rowOf
  revert h2
  generalize count m = n
  intro h2
  have e : (BitVec.ofNat 32 (i 1).val).toNat = (i 1).val := by rw [BitVec.toNat_ofNat]; omega
  have h3 := n.toInt_eq_toNat_cond
  have h4 := n.isLt
  have e' : (Scalar.subi n 1#32).toNat = n.toNat - 1 := by
    show (n - 1#32).toNat = _
    rw [BitVec.toNat_sub]; simp; split at h3 <;> omega
  simp only [Scalar.minsi, IntOp.minsi, BitVec.slt_eq_decide, decide_eq_true_eq]
  split <;> rename_i hh
  · omega
  · rw [e']
    rw [BitVec.toInt_eq_toNat_cond, BitVec.toInt_eq_toNat_cond, e, e'] at hh
    split at hh <;> split at hh <;> split at h3 <;> omega

theorem trans0_at (pf : pre0.Contents (Elt F)) (i : grid0.Coords) : cc0_transform_0 inb_S1_S1_0 numel1_S1 pf i
    = ![(Scalar.minsi (BitVec.ofNat 32 (i 1).val) (Scalar.subi (pf.at 2 (Rect.unit (s := S1) ![0] S1.size inb_S1_S1_0) numel1_S1) 1#32)).toNat, 0] := rfl
theorem trans1_at (pf : pre0.Contents (Elt F)) (i : grid0.Coords) : cc0_transform_1 k0_off1_inb numel1_S1 pf i
    = ![0, (pf.at 0 (Rect.unit (s := S168) (k0_off1 i) S1.size (k0_off1_inb i)) numel1_S1 : BitVec 32).toNat, 0, (BitVec.ofNat 32 (i 0).val).toNat] := rfl
theorem trans2_at (pf : pre0.Contents (Elt F)) (i : grid0.Coords) : cc0_transform_2 k0_off1_inb numel1_S1 pf i
    = ![0, (pf.at 0 (Rect.unit (s := S168) (k0_off1 i) S1.size (k0_off1_inb i)) numel1_S1 : BitVec 32).toNat, 0, (BitVec.ofNat 32 (i 0).val).toNat] := rfl
theorem word_j (i : grid0.Coords) : (BitVec.ofNat 32 (i 0).val).toNat = (i 0).val := by
  have h0 : (i 0).val < 1 := (i 0).isLt
  rw [BitVec.toNat_ofNat]; omega
theorem trans0_eq (i : grid0.Coords) : cc0_transform_0 inb_S1_S1_0 numel1_S1 (tab m) i = ![rowOf m i, 0] := by
  rw [trans0_at, tab_count, rowOf]
theorem trans1_eq (i : grid0.Coords) : cc0_transform_1 k0_off1_inb numel1_S1 (tab m) i = ![0, (expert m (i 1)).toNat, 0, (i 0).val] := by
  rw [trans1_at, tab_expert, word_j]
theorem trans2_eq (i : grid0.Coords) : cc0_transform_2 k0_off1_inb numel1_S1 (tab m) i = ![0, (expert m (i 1)).toNat, 0, (i 0).val] := by
  rw [trans2_at, tab_expert, word_j]

/-- At tables as the call asks, every window's block is inside its array. -/
theorem ok_tab (h : Named m) : ok0 (tab m) := by
  refine ⟨fun i => ?_, fun i => ?_, fun i => ?_⟩
  case refine_1 =>
    have h1 : (i 1).val < 168 := (i 1).isLt
    have hr := rowOf_le m h i
    refine ⟨fun a => ?_, .inr ?_⟩
    · rw [trans0_eq]
      match a with
      | 0 => show (rowOf m i + 1) * 256 ≤ 43008; omega
      | 1 => show (0 + 1) * 2048 ≤ 2048; omega
    · have h2 : 2 ≤ S43008x2048.rank := by decide
      refine .inl (.inr ⟨h2, rfl, .inl ⟨?_, ?_⟩⟩)
      · show 2 ∣ cc0_transform_0 inb_S1_S1_0 numel1_S1 (tab m) i 0 * 256
        exact Dvd.dvd.mul_left (by decide) _
      · show 2 ∣ 256
        decide
  all_goals
    have h0 : (i 0).val < 1 := (i 0).isLt
    have h1 : (i 1).val < 168 := (i 1).isLt
    have he := h.expert_lt (i 1)
    refine ⟨fun a => ?_, .inl rfl⟩
  · rw [trans1_eq]
    match a with
    | 0 => show (0 + 1) * 1 ≤ 4; omega
    | 1 => show ((expert m (i 1)).toNat + 1) * 1 ≤ 32; omega
    | 2 => show (0 + 1) * 2048 ≤ 2048; omega
    | 3 => show ((i 0).val + 1) * 2048 ≤ 2048; omega
  · rw [trans2_eq]
    match a with
    | 0 => show (0 + 1) * 1 ≤ 4; omega
    | 1 => show ((expert m (i 1)).toNat + 1) * 1 ≤ 32; omega
    | 2 => show (0 + 1) * 1 ≤ 1; omega
    | 3 => show ((i 0).val + 1) * 2048 ≤ 2048; omega

/-- The tables as the region takes them. -/
abbrev adm (h : Named m) : (pcfg0 (F := F)).Adm := ⟨tab m, ok_tab m h⟩

/-! ## Which points take their weights in -/

/-- The table of first blocks, at a row block. -/
def firstW (r : Fin 168) : BitVec 32 := V m 0 main_v5 (at168 r)

/-- The bit of two different words, widened. -/
theorem setWidth_ne {a b : BitVec 32} (h : a ≠ b) : BitVec.setWidth 32 (IntOp.cmpi CmpIPredicate.ne a b) = 1#32 := by
  show BitVec.setWidth 32 (BitVec.ofBool (a != b)) = 1#32
  rw [show (a != b) = true from bne_iff_ne.mpr h]
  rfl

/-- The table the host's operations leave, of the experts' table. -/
def firstTable (e : (⟨S168, .i32⟩ : BufTy).Contents (Elt F)) : (⟨S168, .i32⟩ : BufTy).Contents (Elt F) :=
  concatenate S168 0 [⟨S1, broadcastInDim S1 ![] bcast_S_S1 (constantI S_ 32 1#32)⟩,
    ⟨S167, extui 32 (cmpi .ne (extractStridedSlice S167 ![1] e slices_S168_S167_1) (extractStridedSlice S167 ![0] e slices_S168_S167_0)) natLt_1_32⟩]
    concatenates_S1_S167_S168_d0

theorem V_main_v5 (c : Dev nD) : V m c main_v5 = firstTable (m ((c : Thread nD τ).loc main_arg3)) := rfl

/-- The first row block starts an expert, and so does one whose expert differs from the block's before it. -/
theorem firstW_eq (r : Fin 168) (h : r.val = 0 ∨ expert m r ≠ expert m ⟨r.val - 1, by omega⟩) : firstW m r = 1#32 := by
  unfold firstW
  rw [V_main_v5]
  revert h
  unfold expert
  generalize m (((0 : Dev nD) : Thread nD τ).loc main_arg3) = e
  intro h
  unfold firstTable
  pointwise
  have ha : (at168 r 0).val = r.val := rfl
  split <;> rename_i h1
  · rfl
  · rcases h with h | h
    · exact absurd h (by omega)
    · have e1 : (ix1 ⟨1 + ((at168 r 0).val - 1), by omega⟩ : S168.Idx) = at168 r := by
        funext a; fin_cases a; exact Fin.ext (by show 1 + ((at168 r 0).val - 1) = r.val; omega)
      have e2 : (ix1 ⟨(at168 r 0).val - 1, by omega⟩ : S168.Idx) = at168 ⟨r.val - 1, by omega⟩ := by
        funext a; fin_cases a; rfl
      rw [e1, e2]
      exact setWidth_ne h

end Cert.Kernel3Ideal.Gmm
-- ==== Proof.Gmm2.Frame.lean ====
module

public import proofs.«01_k».proof.Proof.Gmm2.Tables
public import Idealize.ShloMosaic.Lib.Pipeline.FrameBody

@[expose] public section

set_option maxRecDepth 16384

noncomputable section

namespace Cert.Kernel3Ideal.Gmm

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hn : Named m)

/-! ## The blocks -/

/-- Window `w`'s block at point `t`, read off its array as the region finds it. -/
def iblk (c : Dev nD) (w : Fin (cfg0 (adm m hn)).W) (t : Fin (cfg0 (adm m hn)).N) :
    (((cfg0 (adm m hn)).win w).xblock ((cfg0 (adm m hn)).grid.coords t)).Idx → Elt F ((cfg0 (adm m hn)).win w).elt :=
  (((cfg0 (adm m hn)).win w).blk t).view.read (Elt F) (V m c (Pipeline.arrRef spec0 w))

/-- Whether point `t`'s row block is in use. -/
abbrev InUse (t : Fin (cfg0 (adm m hn)).N) : Prop := Active (grid0.coords t) (count m)

/-- What the output's staging buffer holds after point `t`. -/
def outBlk (c : Dev nD) (t : Fin (cfg0 (adm m hn)).N) : Vec F S256x2048 .f32 :=
  outAt (grid0.coords t) (count m) (iblk m hn c 0 t) (k0_pay1 (iblk m hn c 1 t)) (iblk m hn c 2 t)

/-- The scratch buffer's contents before point `n`: where the point before is in use, the weights of its block, rounded. -/
def Held (c : Dev nD) (n : ℕ) (d4 : Vec F S2048x2048 .bf16) : Prop :=
  ∀ t : Fin (cfg0 (adm m hn)).N, t.val + 1 = n → InUse m hn t → d4 = k0_pay1 (iblk m hn c 1 t)

abbrev scM0 : Memref sig .tc .vmem S2048x2048 .bf16 := Memref.whole cc0_scratch0

/-- What holds before point `n`: the scratch buffer at such contents, the generator register and the tables. -/
def Inv (c : Dev nD) (n : ℕ) : sProp 𝕄 :=
  iprop((∃ d4, ⌜Held m hn c n d4⌝ ∗ owns (c : Thread nD τ) scM0 fullShare d4)
    ∗ (∃ r, prngReg c r) ∗ Pipeline.ΦT pre0 (tab m) c)

/-- The tables as the body holds them. -/
theorem tables_eq (c : Dev nD) : (Pipeline.ΦT pre0 (tab m) c : sProp 𝕄)
    = iprop(owns (c : Thread nD τ) (Memref.whole main_arg3) fullShare.right (V m 0 main_arg3)
      ∗ owns (c : Thread nD τ) (Memref.whole main_v5) fullShare.right (V m 0 main_v5)
      ∗ owns (c : Thread nD τ) (Memref.whole main_arg4) fullShare.right (V m 0 main_arg4)) := by
  rw [owns_whole, owns_whole, owns_whole]
  unfold Pipeline.ΦT Pipeline.prefHeld
  rw [show (Finset.univ : Finset (Fin 3)) = insert 0 (insert 1 {2}) from by decide, bigSep_insert (by decide), bigSep_insert (by decide), bigSep_singleton]
  rfl

/-- The proof data: the arrays as the region finds them; after the body each input's buffer at its block and the output's at `outBlk`; the invariant `Inv`. -/
def dats (p : Fin 1) (c : Dev nD) : Dat τ (Elt F) Unit ℕ (UR sig nD τ) ℕ (Pipeline.pin (pcfgs (F := F)) (fun _ => adm m hn) p) c where
  A w := V m c (Pipeline.arrRef spec0 w)
  after w t := match w with
    | ⟨0, _⟩ => iblk m hn c 0 t
    | ⟨1, _⟩ => iblk m hn c 1 t
    | ⟨2, _⟩ => iblk m hn c 2 t
    | ⟨3, _⟩ => outBlk m hn c t
  Φ t := Inv m hn c t.val
  q := Pipeline.shareOf spec0
  owed _ := 0

theorem A_eq (c : Dev nD) (w : Fin (cfg0 (adm m hn)).W) : (dats m hn 0 c).A w = V m c (Pipeline.arrRef spec0 w) := by dsimp only [dats]
theorem after0 (c : Dev nD) (t) : (dats m hn 0 c).after 0 t = iblk m hn c 0 t := rfl
theorem after1 (c : Dev nD) (t) : (dats m hn 0 c).after 1 t = iblk m hn c 1 t := rfl
theorem after2 (c : Dev nD) (t) : (dats m hn 0 c).after 2 t = iblk m hn c 2 t := rfl
theorem after3 (c : Dev nD) (t) : (dats m hn 0 c).after 3 t = outBlk m hn c t := rfl

theorem before0 (c : Dev nD) (t) (d) : (dats m hn 0 c).before 0 t d = iblk m hn c 0 t :=
  ((dats m hn 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t) (d) : (dats m hn 0 c).before 1 t d = iblk m hn c 1 t :=
  ((dats m hn 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t) (d) : (dats m hn 0 c).before 2 t d = iblk m hn c 2 t :=
  ((dats m hn 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## What the scratch buffer holds -/

/-- Where two points read their weights at one index, they read one block. -/
theorem iblk_congr1 (c : Dev nD) {t t' : Fin (cfg0 (adm m hn)).N} (h : ((cfg0 (adm m hn)).win 1).index t = ((cfg0 (adm m hn)).win 1).index t') :
    iblk m hn c 1 t = iblk m hn c 1 t' :=
  (dats m hn 0 c).fetched_congr 1 h rfl (fun _ => Classical.arbitrary _)

theorem coord0 (t : Fin grid0.N) : (grid0.coords t 0).val = t.val / 168 % 1 := Pipeline.Grid.coords_val t 0 (by decide) rfl
theorem coord1 (t : Fin grid0.N) : (grid0.coords t 1).val = t.val / 1 % 168 := Pipeline.Grid.coords_val t 1 (by decide) rfl

/-- The bit of a comparison, widened and compared with zero, is the comparison. -/
theorem ne_zero_iff (b : BitVec 1) : Scalar.cmpi .ne (Scalar.extui b : BitVec 32) 0#32 = 1#1 ↔ b = 1#1 := by
  revert b; decide

/-- A row block is in use where its number is below the count. -/
theorem active_iff (i : grid0.Coords) (n : BitVec 32) : Active i n ↔ ((i 1).val : Int) < n.toInt := by
  have h1 : (i 1).val < 168 := (i 1).isLt
  refine (ne_zero_iff (Scalar.cmpi .slt (BitVec.ofNat 32 (i 1).val) n)).trans ?_
  have e : (BitVec.ofNat 32 (i 1).val).toInt = ((i 1).val : Int) := by
    rw [BitVec.toInt_eq_toNat_cond, BitVec.toNat_ofNat]; split <;> omega
  show BitVec.ofBool (BitVec.slt (BitVec.ofNat 32 (i 1).val) n) = 1#1 ↔ _
  rw [BitVec.slt_eq_decide, e]
  by_cases h : ((i 1).val : Int) < n.toInt <;> simp [h]

/-- A point in use takes its weights in where its block starts an expert. -/
theorem loads_of (i : grid0.Coords) (n w : BitVec 32) (h : Active i n) (hw : w = 1#32) : Loads i n w := by
  subst hw
  refine (ne_zero_iff _).mpr ?_
  rw [(ne_zero_iff (Scalar.cmpi .slt (BitVec.ofNat 32 (i 1).val) n)).mp h]
  decide

/-- After a point in use the scratch buffer holds its weights, rounded: it takes them in, or the point before held the same ones. -/
theorem held_step (c : Dev nD) (t : Fin (cfg0 (adm m hn)).N) (d4 : Vec F S2048x2048 .bf16) (h : Held m hn c t.val d4) (ha : InUse m hn t) :
    held (grid0.coords t) (count m) (firstW m (grid0.coords t 1)) (iblk m hn c 1 t) d4 = k0_pay1 (iblk m hn c 1 t) := by
  unfold held
  by_cases hl : Loads (grid0.coords t) (count m) (firstW m (grid0.coords t 1))
  · rw [if_pos hl]
  rw [if_neg hl]
  have hw : firstW m (grid0.coords t 1) ≠ 1#32 := fun e => hl (loads_of _ _ _ ha e)
  have hr : ¬ ((grid0.coords t 1).val = 0 ∨ expert m (grid0.coords t 1) ≠ expert m ⟨(grid0.coords t 1).val - 1, by have h : (grid0.coords t 1).val < 168 := (grid0.coords t 1).isLt; show _ < 168; omega⟩) :=
    fun k => hw (firstW_eq m _ k)
  rw [not_or, not_not] at hr
  obtain ⟨h0, he⟩ := hr
  have c0 := coord0 t
  have c1 := coord1 t
  have hN : t.val < 168 := lt_of_lt_of_eq t.isLt N_0
  have ht : t.val - 1 < grid0.N := lt_of_lt_of_eq (by omega : t.val - 1 < 168) N_0.symm
  let t' : Fin (cfg0 (adm m hn)).N := ⟨t.val - 1, ht⟩
  have c0' : (grid0.coords t' 0).val = (t.val - 1) / 168 % 1 := coord0 t'
  have c1' : (grid0.coords t' 1).val = (t.val - 1) / 1 % 168 := coord1 t'
  have e0 : (grid0.coords t' 0).val = (grid0.coords t 0).val := by omega
  have e1 : (grid0.coords t' 1).val = (grid0.coords t 1).val - 1 := by omega
  have ha' : InUse m hn t' := by
    rw [InUse, active_iff] at ha ⊢
    rw [e1]; omega
  have hx : expert m (grid0.coords t' 1) = expert m (grid0.coords t 1) := by
    rw [he]; exact congrArg (expert m) (Fin.ext e1)
  have k1 := h t' (by show t.val - 1 + 1 = t.val; omega) ha'
  refine k1.trans (congrArg k0_pay1 (iblk_congr1 m hn c ?_))
  show cc0_transform_1 k0_off1_inb numel1_S1 (tab m) (grid0.coords t') = cc0_transform_1 k0_off1_inb numel1_S1 (tab m) (grid0.coords t)
  rw [trans1_eq, trans1_eq, hx, e0]

/-! ## The body obligation -/

abbrev ms0 (t : Fin (cfg0 (adm m hn)).N) : Memref sig .tc .vmem S256x2048 .bf16 := spec0_0.stage ((cfg0 (adm m hn)).slots t 0)
abbrev ms1 (t : Fin (cfg0 (adm m hn)).N) : Memref sig .tc .vmem S1x1x2048x2048 .f32 := spec0_1.stage ((cfg0 (adm m hn)).slots t 1)
abbrev ms2 (t : Fin (cfg0 (adm m hn)).N) : Memref sig .tc .vmem S1x1x1x2048 .f32 := spec0_2.stage ((cfg0 (adm m hn)).slots t 2)
abbrev ms3 (t : Fin (cfg0 (adm m hn)).N) : Memref sig .tc .vmem S256x2048 .f32 := spec0_3.stage ((cfg0 (adm m hn)).slots t 3)

/-- The body at point `t`, on the staging buffers the point uses. -/
def bodyAt (t : Fin (cfg0 (adm m hn)).N) : Prog (TpuEff nD τ sig (Elt F) Λ₀ .tc) PUnit :=
  cc0_gmm_down (grid0.coords t) (Memref.whole main_arg3) (Memref.isWhole_whole _) (Memref.whole main_v5) (Memref.isWhole_whole _)
    (Memref.whole main_arg4) (Memref.isWhole_whole _)
    (ms0 m hn t) (hstage0_0 (((cfg0 (adm m hn)).slots t 0).cast nbuf0_0)) (ms1 m hn t) (hstage0_1 (((cfg0 (adm m hn)).slots t 1).cast nbuf0_1))
    (ms2 m hn t) (hstage0_2 (((cfg0 (adm m hn)).slots t 2).cast nbuf0_2)) (ms3 m hn t) (hstage0_3 (((cfg0 (adm m hn)).slots t 3).cast nbuf0_3))
    scM0 (Memref.isWhole_whole _)

theorem defs₀_row (t : Fin (cfg0 (adm m hn)).N) :
    defs₀ (F := F) .tc (cfg0 (adm m hn)).body ((cfg0 (adm m hn)).bodyArgs t ((cfg0 (adm m hn)).slots t)) = bodyAt m hn t := by
  unfold defs₀ bodyAt; rw [Defs.onTc_tc]

/-- What the body is called with at point `t`, -/
def bodyPre (c : Dev nD) (t : Fin (cfg0 (adm m hn)).N) : sProp 𝕄 :=
  iprop((dats m hn 0 c).Φ t.castSucc ∗ (dats m hn 0 c).owesAt () t.castSucc
    ∗ (∃ d, owns (c : Thread nD τ) (ms0 m hn t) fullShare ((dats m hn 0 c).before 0 t d))
    ∗ (∃ d, owns (c : Thread nD τ) (ms1 m hn t) fullShare ((dats m hn 0 c).before 1 t d))
    ∗ (∃ d, owns (c : Thread nD τ) (ms2 m hn t) fullShare ((dats m hn 0 c).before 2 t d))
    ∗ (∃ d, owns (c : Thread nD τ) (ms3 m hn t) fullShare ((dats m hn 0 c).before 3 t d)))

/-- and what it returns. -/
def bodyPost (c : Dev nD) (t : Fin (cfg0 (adm m hn)).N) : sProp 𝕄 :=
  iprop((dats m hn 0 c).Φ t.succ ∗ (dats m hn 0 c).owesAt () t.succ
    ∗ (dats m hn 0 c).leavesExact 0 t
    ∗ (dats m hn 0 c).leavesExact 1 t
    ∗ (dats m hn 0 c).leavesExact 2 t
    ∗ (dats m hn 0 c).leavesExact 3 t)

/-- A statement of a number, at a point's start and at its end. -/
theorem at_start {α : Sort _} {N : Nat} (S : ℕ → α) (t : Fin N) : S t.castSucc.val = S t.val := rfl
theorem at_end {α : Sort _} {N : Nat} (S : ℕ → α) (t : Fin N) : S t.succ.val = S (t.val + 1) := rfl

theorem phi_start (c : Dev nD) (t : Fin (cfg0 (adm m hn)).N) : (dats m hn 0 c).Φ t.castSucc = Inv m hn c t.val := by
  dsimp only [dats]; exact at_start (Inv m hn c) t
theorem phi_end (c : Dev nD) (t : Fin (cfg0 (adm m hn)).N) : (dats m hn 0 c).Φ t.succ = Inv m hn c (t.val + 1) := by
  dsimp only [dats]; exact at_end (Inv m hn c) t

theorem at_zero (N : Nat) : (0 : Fin (N + 1)).val = 0 := rfl

theorem phi_any (c : Dev nD) (k : Fin ((cfg0 (adm m hn)).N + 1)) : (dats m hn 0 c).Φ k = Inv m hn c k.val := by
  dsimp only [dats]

/-- The two stores of the output are under a condition and its negation, whatever the table reads. -/
theorem live_at (i : grid0.Coords) (n : BitVec 32) : (!(k0_cond2 i n == 1#1) && !(k0_cond3 i n == 1#1)) = false := by
  unfold k0_cond2 k0_cond3
  exact (by decide : ∀ b : BitVec 1, (!(Scalar.cmpi .ne (Scalar.extui b : BitVec 32) 0#32 == 1#1)
    && !(Scalar.cmpi .ne (Scalar.extui (Scalar.xori b 1#1) : BitVec 32) 0#32 == 1#1)) = false) (Scalar.cmpi .slt (BitVec.ofNat 32 (i 1).val) n)

theorem idle0_3 (pf : pre0.Contents (Elt F)) (i : grid0.Coords) : idle0 pf 3 i = false := live_at i _

set_option maxHeartbeats 2000000 in
/-- So the output's window is idle at no point. -/
theorem live3 (i : grid0.Coords) : (cfg0 (adm m hn)).idle 3 i = false := idle0_3 _ i

theorem leaves0 (c : Dev nD) (t : Fin (cfg0 (adm m hn)).N) :
    (dats m hn 0 c).leavesExact 0 t = owns (c : Thread nD τ) (ms0 m hn t) fullShare (iblk m hn c 0 t) := by
  unfold Dat.leavesExact; rw [show (cfg0 (adm m hn)).idle 0 ((cfg0 (adm m hn)).grid.coords t) = false from rfl, after0]; rfl
theorem leaves1 (c : Dev nD) (t : Fin (cfg0 (adm m hn)).N) :
    (dats m hn 0 c).leavesExact 1 t = owns (c : Thread nD τ) (ms1 m hn t) fullShare (iblk m hn c 1 t) := by
  unfold Dat.leavesExact; rw [show (cfg0 (adm m hn)).idle 1 ((cfg0 (adm m hn)).grid.coords t) = false from rfl, after1]; rfl
theorem leaves2 (c : Dev nD) (t : Fin (cfg0 (adm m hn)).N) :
    (dats m hn 0 c).leavesExact 2 t = owns (c : Thread nD τ) (ms2 m hn t) fullShare (iblk m hn c 2 t) := by
  unfold Dat.leavesExact; rw [show (cfg0 (adm m hn)).idle 2 ((cfg0 (adm m hn)).grid.coords t) = false from rfl, after2]; rfl
theorem leaves3 (c : Dev nD) (t : Fin (cfg0 (adm m hn)).N) :
    (dats m hn 0 c).leavesExact 3 t = owns (c : Thread nD τ) (ms3 m hn t) fullShare (outBlk m hn c t) := by
  unfold Dat.leavesExact; rw [show (cfg0 (adm m hn)).idle 3 ((cfg0 (adm m hn)).grid.coords t) = false from live3 m hn _, after3]; rfl

/-- What a point leaves in the output's buffer, by the point's own weights. -/
theorem out_eq (c : Dev nD) (t : Fin (cfg0 (adm m hn)).N) (d4 : Vec F S2048x2048 .bf16) (h : Held m hn c t.val d4) :
    outAt (grid0.coords t) (count m) (iblk m hn c 0 t) (held (grid0.coords t) (count m) (firstW m (grid0.coords t 1)) (iblk m hn c 1 t) d4)
      (iblk m hn c 2 t) = outBlk m hn c t := by
  unfold outBlk outAt
  by_cases ha : Active (grid0.coords t) (count m)
  · rw [held_step m hn c t d4 h ha]
  · rw [if_neg ha, if_neg ha]

theorem held_next (c : Dev nD) (t : Fin (cfg0 (adm m hn)).N) (d4 : Vec F S2048x2048 .bf16) (h : Held m hn c t.val d4) :
    Held m hn c (t.val + 1) (held (grid0.coords t) (count m) (firstW m (grid0.coords t 1)) (iblk m hn c 1 t) d4) := by
  intro t' ht ha
  obtain rfl : t' = t := Fin.ext (by omega)
  exact held_step m hn c t' d4 h ha

theorem count_eq : (V m 0 main_arg4 : Vec F S1 .i32) one0 = count m := by
  rw [V_main_arg4]; rfl
theorem first_eq (i : grid0.Coords) : (V m 0 main_v5 : Vec F S168 .i32) (rowAt i) = firstW m (i 1) := rfl

set_option maxHeartbeats 400000 in
/-- The body at any point takes the blocks and the invariant and returns them with the output's block. -/
theorem sound_body (c : Dev nD) (t : Fin (cfg0 (adm m hn)).N) :
    bodyPre m hn c t ⊢ wp frame (wpE (defs₀ (F := F)) Variants.none c none) Set.univ (bodyAt m hn t) (fun _ => bodyPost m hn c t) := by
  unfold bodyPre bodyPost bodyAt
  simp only [before0, before1, before2]
  rw [show (dats m hn 0 c).owesAt () t.succ = (dats m hn 0 c).owesAt () t.castSucc from rfl, phi_start, phi_end]
  rw [leaves0, leaves1, leaves2, leaves3]
  unfold Inv
  rw [tables_eq]
  iintro ⟨⟨⟨%d4, %hd, HS0⟩, Hg, HT0, HT1, HT2⟩, Ho, ⟨%d0, H0⟩, ⟨%d1, H1⟩, ⟨%d2, H2⟩, ⟨%d3, H3⟩⟩
  iapply ((body_run c (grid0.coords t) fullShare.right fullShare.right _ _ _ _ _ _ _ _ _ _ _ _ _ _ _ _
    (V m 0 main_v5) (V m 0 main_arg4) (iblk m hn c 0 t) (iblk m hn c 1 t) (iblk m hn c 2 t) d4) Set.univ _)
  isplitl [HT1]; · iexact HT1
  isplitl [HT2]; · iexact HT2
  isplitl [H0]; · iexact H0
  isplitl [H1]; · iexact H1
  isplitl [H2]; · iexact H2
  isplitl [H3]; · iexists _; iexact H3
  isplitl [HS0]; · iexact HS0
  rw [count_eq, first_eq, out_eq m hn c t d4 hd]
  iintro ⟨HT1, HT2, H0, H1, H2, H3, HS0⟩
  isplitl [HS0 Hg HT0 HT1 HT2]
  · isplitl [HS0]
    · iexists _
      isplitr; · ipureintro; exact held_next m hn c t d4 hd
      iexact HS0
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  iexact H3

set_option maxHeartbeats 2000000 in
/-- The library's body obligation, at every point. -/
theorem body_obligation (c : Dev nD) : BodyObligation (dats m hn 0 c) (defs₀ (F := F)) Variants.none () Set.univ := fun t => by
  rw [bigSep_W0, bigSep_W0, defs₀_row]
  refine triple_restated (sound_body m hn c t) rfl .rfl fun _ => ?_
  unfold bodyPost Dat.leavesExact
  exact .rfl

/-! ## The run -/

theorem invariant_in (c : Dev nD) : iprop(Pipeline.ΦA spec0 c ∗ Pipeline.ΦT pre0 (tab m) c) ⊢ (dats m hn 0 c).Φ 0 := by
  rw [phi_any]
  unfold Inv Pipeline.ΦA
  rw [scopedRest0_eq]
  simp only [owns_whole]
  iintro ⟨⟨⟨%f0, H0⟩, Hg⟩, HT⟩
  isplitl [H0]
  · iexists f0
    isplitr; · ipureintro; exact fun t ht => absurd ht (by rw [at_zero]; omega)
    iexact H0
  isplitl [Hg]; · iexact Hg
  iexact HT

theorem invariant_out (c : Dev nD) : (dats m hn 0 c).Φ (Fin.last (cfg0 (adm m hn)).N) ⊢ Pipeline.ΦA spec0 c := by
  rw [phi_any]
  unfold Inv Pipeline.ΦA
  rw [scopedRest0_eq]
  simp only [owns_whole]
  iintro ⟨⟨%f0, -, H0⟩, Hg, -⟩
  isplitl [H0]
  · iexists f0; iexact H0
  iexact Hg

set_option backward.isDefEq.respectTransparency.types false in
/-- The launch: every array ends at what the proof data say, every other buffer as the region found it, every counter at zero. -/
theorem run_main_quiescent : θ_run defs (onTc (τ := τ) (main (F := F))) (s₀ m ρ)
    (fun r => Pipeline.FramePost (Pipeline.pin (pcfgs (F := F)) (fun _ => adm m hn)) (dats m hn) 0 (V m) r ∧ r.2.sem = fun _ => 0) :=
  Pipeline.θ_run_frameP_track_shared (Q' := _) pcfgs (fun _ => adm m hn) (dats m hn) (0 : Fin 1) launch0.to₀ defs₀ Variants.none m ρ main
    (hbody := fun c => (body_obligation m hn c).loose) (hq := fun _ _ _ => rfl) (howed := fun _ _ => rfl) (V := V m)
    (hmain := hmain m Variants.none) (hA := A_eq m hn) (hpf := fun c k => by obtain rfl : c = 0 := Subsingleton.elim _ _; rfl)
    (hin := invariant_in m hn) (hout := invariant_out m hn)

/-- The arguments no window stages are among the buffers the region leaves as it found them. -/
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)

/-- The run with the result named, the arguments unchanged. -/
theorem run_blocks : θ_run defs (onTc (τ := τ) (main (F := F))) ⟨m, fun _ => 0, ρ⟩ fun r => ∀ c : Dev nD,
      r.2.mem ((c : Thread nD τ).loc main_v7) = (dats m hn 0 c).arrAt 3 (cfg0 (adm m hn)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 3,
      ((h.1 c).1 0).trans (((dats m hn 0 c).arrAt_in 0 rfl _).trans ((A_eq m hn c 0).trans (V_main_arg0 m c))),
      ((h.1 c).1 1).trans (((dats m hn 0 c).arrAt_in 1 rfl _).trans ((A_eq m hn c 1).trans (V_main_arg1 m c))),
      ((h.1 c).2 main_arg2 rest2).trans (V_main_arg2 m c),
      ((h.1 c).2 main_arg3 rest3).trans (V_main_arg3 m c),
      ((h.1 c).2 main_arg4 rest4).trans (V_main_arg4 m c)⟩)
    (run_main_quiescent m ρ hn)

include hn in
/-- The program ends without a fault, its arguments unchanged and every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  θ_run_and ((θ_run defs _ _).mono (fun _ h c => (h c).2) (run_blocks m ρ hn)) ((θ_run defs _ _).mono (fun _ h => h.2) (run_main_quiescent m ρ hn))

end Cert.Kernel3Ideal.Gmm
-- ==== Proof.Gmm2.Ref.lean ====
/- The reference read at an index: a row block in use gives, with the weights of the expert it names, its rows' product plus
   the bias; a row block beyond gives zeros. -/
module

public import proofs.«01_k».proof.Proof.Gen.Reference3Ideal.Read
public import proofs.«01_k».proof.Proof.Gmm1.Ref
public import Idealize.ShloMosaic.Lib.Pointwise

@[expose] public section

set_option maxRecDepth 16384

noncomputable section

open Idealize.ShloMosaic Idealize.ShloMosaic.TcCoe Idealize.SL.Sem

namespace Cert.Reference3Ideal.Gmm

open Cert.Reference3Ideal Cert.Reference3Ideal.Gen Cert.Reference3Ideal.Read

/-- The weights taken by expert, at an index: those of the expert the row block names. -/
theorem takeW_at (x : FVec Ideal S32x2048x2048 .f32) (e : IVec S168x1 32) (r : Fin 168) (h : (e (ix2 r 0)).toNat < 32) (k : Fin 2048) (f : Fin 2048) :
    Host.gather gather_S32x2048x2048_S168x1_S168x2048x2048_12_0_n_n_0_1_120482048 x e (ix3 r k f) = x (ix3 ⟨(e (ix2 r 0)).toNat, h⟩ k f) := by
  unfold Host.gather
  congr 1
  funext a
  refine Fin.ext ?_
  show GatherDims.start _ _ e a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun z => min (e z).toInt.toNat 31) (?_ : _ = (ix2 r 0 : S168x1.Idx))).trans (Cert.Reference2Ideal.Gmm.cut_word _ h)
    funext b; refine Fin.ext ?_
    match b with
    | ⟨0, _⟩ => rfl
    | ⟨1, _⟩ => rfl
  | ⟨1, _⟩ =>
    rw [GatherDims.batchCoord_eq_zero _ _ _ List.not_mem_nil]
    unfold GatherDims.start
    refine (congrArg (· + 0 + _) (dif_neg (by exact (by decide : (1 : Fin 3) ∉ gather_S32x2048x2048_S168x1_S168x2048x2048_12_0_n_n_0_1_120482048.startIndexMap)))).trans ?_
    simp only [Nat.zero_add]
    rfl
  | ⟨2, _⟩ =>
    rw [GatherDims.batchCoord_eq_zero _ _ _ List.not_mem_nil]
    unfold GatherDims.start
    refine (congrArg (· + 0 + _) (dif_neg (by exact (by decide : (2 : Fin 3) ∉ gather_S32x2048x2048_S168x1_S168x2048x2048_12_0_n_n_0_1_120482048.startIndexMap)))).trans ?_
    simp only [Nat.zero_add]
    rfl

/-- The biases taken by expert, at an index. -/
theorem takeB_at (x : FVec Ideal S32x2048 .f32) (e : IVec S168x1 32) (r : Fin 168) (h : (e (ix2 r 0)).toNat < 32) (f : Fin 2048) :
    Host.gather gather_S32x2048_S168x1_S168x2048_1_0_n_n_0_1_12048 x e (ix2 r f) = x (ix2 ⟨(e (ix2 r 0)).toNat, h⟩ f) := by
  unfold Host.gather
  congr 1
  funext a
  refine Fin.ext ?_
  show GatherDims.start _ _ e a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine (congrArg (fun z => min (e z).toInt.toNat 31) (?_ : _ = (ix2 r 0 : S168x1.Idx))).trans (Cert.Reference2Ideal.Gmm.cut_word _ h)
    funext b; refine Fin.ext ?_
    match b with
    | ⟨0, _⟩ => rfl
    | ⟨1, _⟩ => rfl
  | ⟨1, _⟩ =>
    rw [GatherDims.batchCoord_eq_zero _ _ _ List.not_mem_nil]
    unfold GatherDims.start
    refine (congrArg (· + 0 + _) (dif_neg (by exact (by decide : (1 : Fin 2) ∉ gather_S32x2048_S168x1_S168x2048_1_0_n_n_0_1_12048.startIndexMap)))).trans ?_
    simp only [Nat.zero_add]
    rfl

variable (x0 : FVec Ideal S43008x2048 .bf16) (x1 : FVec Ideal S4x32x2048x2048 .f32) (x2 : FVec Ideal S4x32x2048 .f32)
  (x3 : IVec S168 32) (x4 : IVec S1 32) (hx : ∀ r : Fin 168, (x3 (ix1 r)).toNat < 32)

/-- The linear part of row `n` of row block `r` at lane `f`: the row times the expert's column, plus the bias. -/
def linear (r : Fin 168) (n : Fin 256) (f : Fin 2048) : EReal :=
  ∑ k : Fin 2048, x0 (ix2 ⟨r.val * 256 + n.val, by have := r.isLt; have := n.isLt; omega⟩ k) * x1 (ix4 0 ⟨(x3 (ix1 r)).toNat, hx r⟩ k f)
    + x2 (ix3 0 ⟨(x3 (ix1 r)).toNat, hx r⟩ f)

theorem rows_at (r : Fin 168) (n : Fin 256) (k : Fin 2048) :
    val_main_v1 (F := Ideal) x0 (ix3 r n k) = x0 (ix2 ⟨r.val * 256 + n.val, by have := r.isLt; have := n.isLt; omega⟩ k) := by
  unfold val_main_v1 val_main_v0
  pointwise

theorem weights_at (y : Fin 32) (k : Fin 2048) (f : Fin 2048) : val_main_v3 (F := Ideal) x1 (ix3 y k f) = x1 (ix4 0 y k f) := by
  unfold val_main_v3 val_main_v2
  pointwise

theorem biases_at (y : Fin 32) (f : Fin 2048) : val_main_v6 (F := Ideal) x2 (ix2 y f) = x2 (ix3 0 y f) := by
  unfold val_main_v6 val_main_v5
  pointwise

theorem named0_at (r : Fin 168) : val_main_call0_v0 (F := Ideal) x3 (ix2 r 0) = x3 (ix1 r) := by
  unfold val_main_call0_v0
  pointwise

theorem named1_at (r : Fin 168) : val_main_call1_v0 (F := Ideal) x3 (ix2 r 0) = x3 (ix1 r) := by
  unfold val_main_call1_v0
  pointwise

theorem v4_at (r : Fin 168) (k : Fin 2048) (f : Fin 2048) :
    val_main_v4 (F := Ideal) x1 x3 (ix3 r k f) = x1 (ix4 0 ⟨(x3 (ix1 r)).toNat, hx r⟩ k f) := by
  unfold val_main_v4
  rw [takeW_at _ _ r (by rw [named0_at]; exact hx r), weights_at]
  congr 2
  exact Fin.ext (congrArg BitVec.toNat (named0_at x3 r))

theorem v7_at (r : Fin 168) (f : Fin 2048) :
    val_main_v7 (F := Ideal) x2 x3 (ix2 r f) = x2 (ix3 0 ⟨(x3 (ix1 r)).toNat, hx r⟩ f) := by
  unfold val_main_v7
  rw [takeB_at _ _ r (by rw [named1_at]; exact hx r), biases_at]
  congr 2
  exact Fin.ext (congrArg BitVec.toNat (named1_at x3 r))

/-- The linear part, at an index. -/
theorem v11_at (r : Fin 168) (n : Fin 256) (f : Fin 2048) : val_main_v11 (F := Ideal) x0 x1 x2 x3 (ix3 r n f) = linear x0 x1 x2 x3 hx r n f := by
  rw [val_main_v11_apply, val_main_v8_apply, val_main_v10_apply, val_main_v9_apply]
  unfold linear
  refine congrArg₂ (· + ·) (Finset.sum_congr rfl fun k _ => congrArg₂ (· * ·) ?_ ?_) ?_
  · refine Eq.trans (congrArg _ ?_) (rows_at x0 r n k)
    funext a; match a with
    | ⟨0, _⟩ => rfl
    | ⟨1, _⟩ => rfl
    | ⟨2, _⟩ => rfl
  · refine Eq.trans (congrArg _ ?_) (v4_at x1 x3 hx r k f)
    funext a; match a with
    | ⟨0, _⟩ => rfl
    | ⟨1, _⟩ => rfl
    | ⟨2, _⟩ => rfl
  · refine Eq.trans (congrArg _ ?_) (v7_at x2 x3 hx r f)
    funext a; match a with
    | ⟨0, _⟩ => rfl
    | ⟨1, _⟩ => rfl

/-- Whether the reference keeps row block `r`: its number is below the count of blocks in use. -/
theorem mask_at (r : Fin 168) (n : Fin 256) (f : Fin 2048) :
    val_main_call2_v1 (F := Ideal) x4 (ix3 r n f) = IntOp.cmpi .slt (BitVec.ofNat 32 r.val) (x4 (ix1 0)) := by
  rw [val_main_call2_v1_apply, val_main_v16_apply, val_main_v15_apply, val_main_v12_apply, val_main_v14_apply]
  refine congrArg₂ (IntOp.cmpi .slt) rfl ?_
  unfold val_main_v13
  pointwise

/-- The result, at an index. -/
theorem result_at (r : Fin 168) (n : Fin 256) (f : Fin 2048) :
    val_main_v18 (F := Ideal) x0 x1 x2 x3 x4 (ix2 ⟨r.val * 256 + n.val, by have := r.isLt; have := n.isLt; omega⟩ f)
      = if IntOp.cmpi .slt (BitVec.ofNat 32 r.val) (x4 (ix1 0)) = 1#1 then linear x0 x1 x2 x3 hx r n f else Ideal.ofBits .f32 0x00000000#32 := by
  have hr := r.isLt; have hn := n.isLt; have hf := f.isLt
  rw [val_main_v18_apply]
  have e : idx_main_v18 (ix2 ⟨r.val * 256 + n.val, by omega⟩ f) = ix3 r n f := by
    funext a; match a with
    | ⟨0, _⟩ => exact Fin.ext (by show ((r.val * 256 + n.val) * 2048 + f.val) / 524288 = r.val; omega)
    | ⟨1, _⟩ => exact Fin.ext (by show ((r.val * 256 + n.val) * 2048 + f.val) / 2048 % 256 = n.val; omega)
    | ⟨2, _⟩ => exact Fin.ext (by show ((r.val * 256 + n.val) * 2048 + f.val) % 2048 = f.val; omega)
  rw [e, val_main_v17_apply, mask_at, v11_at x0 x1 x2 x3 hx]
  rfl

end Cert.Reference3Ideal.Gmm

end
-- ==== Proof.Gmm2.Payload.lean ====
/- The kernel's terms read at an index, over the extended reals. -/
module

public import proofs.«01_k».proof.Proof.Gen.Kernel3Ideal.Skeleton
public import proofs.«01_k».proof.Proof.Gmm2.Ref
public import Idealize.ShloMosaic.Lib.Pipeline.ValueKit

@[expose] public section

set_option maxRecDepth 16384

noncomputable section

open Idealize.ShloMosaic Idealize.ShloMosaic.TcCoe Idealize.SL.Sem

namespace Cert.Kernel3Ideal.Gmm

open Cert.Kernel3Ideal Cert.Kernel3Ideal.Gen

/-- The weights as the scratch buffer holds them are the block's, rounding being exact. -/
theorem pay1_at (x : FVec Ideal S1x1x2048x2048 .f32) (k : Fin 2048) (f : Fin 2048) : k0_pay1 (F := Ideal) x (ix2 k f) = x (ix4 0 0 k f) := by
  unfold k0_pay1
  pointwise

theorem pay3_at (n : Fin 256) (f : Fin 2048) : k0_pay3 (F := Ideal) (ix2 n f) = Ideal.ofBits .f32 0x00000000#32 := rfl

/-- The tile's term, at an index: the product plus the bias. -/
theorem pay2_at (x : FVec Ideal S256x2048 .bf16) (w : FVec Ideal S2048x2048 .bf16) (b : FVec Ideal S1x1x1x2048 .f32) (n : Fin 256) (f : Fin 2048) :
    k0_pay2 (F := Ideal) x w b (ix2 n f) = ∑ k : Fin 2048, x (ix2 n k) * w (ix2 k f) + b (ix4 0 0 0 f) := by
  unfold k0_pay2
  pointwise

end Cert.Kernel3Ideal.Gmm

end
-- ==== Proof.Gmm2.Value.lean ====
/- The result of the down product: each block the call leaves is the reference's, so the whole array is. -/
module

public import proofs.«01_k».proof.Proof.Gmm2.Frame
public import proofs.«01_k».proof.Proof.Gmm2.Payload
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem

namespace Cert.Kernel3Ideal.Gmm

open Cert.Kernel3Ideal Cert.Kernel3Ideal.Gen
open Idealize.ShloMosaic.Pipeline (Dat Cfg Window)

variable (m : (ℓ : Loc nD τ sig) → Buf (Elt Ideal) ℓ) (hn : Named m)

/-- The reference's result over the kernel's arguments. -/
abbrev REF (c : Dev nD) : FVec Ideal Cert.Reference3Ideal.S43008x2048 .f32 :=
  Cert.Reference3Ideal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-! ## The windows' blocks, point by point -/

theorem index0 (t : Fin (cfg0 (adm m hn)).N) : ((cfg0 (adm m hn)).win 0).index t = ![rowOf m (grid0.coords t), 0] := trans0_eq m (grid0.coords t)
theorem index1 (t : Fin (cfg0 (adm m hn)).N) : ((cfg0 (adm m hn)).win 1).index t
    = ![0, (expert m (grid0.coords t 1)).toNat, 0, (grid0.coords t 0).val] := trans1_eq m (grid0.coords t)
theorem index2 (t : Fin (cfg0 (adm m hn)).N) : ((cfg0 (adm m hn)).win 2).index t
    = ![0, (expert m (grid0.coords t 1)).toNat, 0, (grid0.coords t 0).val] := trans2_eq m (grid0.coords t)

theorem trans3_eq (i : grid0.Coords) : cc0_transform_3 i = ![(i 1).val, (i 0).val] := by
  have h0 : (i 0).val < 1 := (i 0).isLt
  have h1 : (i 1).val < 168 := (i 1).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]
theorem index3 (t : Fin (cfg0 (adm m hn)).N) : ((cfg0 (adm m hn)).win 3).index t = ![(grid0.coords t 1).val, (grid0.coords t 0).val] :=
  trans3_eq (grid0.coords t)

/-! ## The blocks read at an index -/

theorem bias_cast (x : FVec Ideal S4x32x2048 .f32) (e : Fin 32) (f : Fin 2048) :
    shapeCast S4x32x1x2048 x shapeCasts_S4x32x2048_S4x32x1x2048 (ix4 0 e 0 f) = x (ix3 0 e f) := by
  pointwise

/-- The bias as the region finds it: the argument with a unit axis. -/
theorem bias_at (c : Dev nD) (e : Fin 32) (f : Fin 2048) :
    (V m c main_v6 : FVec Ideal S4x32x1x2048 .f32) (ix4 0 e 0 f) = (m ((c : Thread nD τ).loc main_arg2) : FVec Ideal S4x32x2048 .f32) (ix3 0 e f) := by
  have h : V m c main_v6 = shapeCast S4x32x1x2048 (m ((c : Thread nD τ).loc main_arg2) : FVec Ideal S4x32x2048 .f32) shapeCasts_S4x32x2048_S4x32x1x2048 := rfl
  rw [h]
  generalize (m ((c : Thread nD τ).loc main_arg2) : FVec Ideal S4x32x2048 .f32) = x
  exact bias_cast x e f

/-- The rows a point reads: those of its row block. -/
theorem rows_at (c : Dev nD) (t : Fin (cfg0 (adm m hn)).N) (n : Fin 256) (k : Fin 2048) (hr : rowOf m (grid0.coords t) * 256 + n.val < 43008) :
    (iblk m hn c 0 t : FVec Ideal S256x2048 .bf16) (ix2 n k)
      = (m ((c : Thread nD τ).loc main_arg0) : FVec Ideal S43008x2048 .bf16) (ix2 ⟨rowOf m (grid0.coords t) * 256 + n.val, hr⟩ k) := by
  show V m c main_arg0 ((((cfg0 (adm m hn)).win 0).rect t).emb (ix2 n k)) = _
  rw [V_main_arg0]
  refine congrArg (m _) ?_
  funext a
  refine Fin.ext ((Pipeline.Window.rect_emb_val _ t (ix2 n k) a rfl).trans ?_)
  rw [index0]
  match a with
  | ⟨0, _⟩ => rfl
  | ⟨1, _⟩ => show 0 * 2048 + k.val = k.val; omega

/-- The weights a point reads: its expert's. -/
theorem weights_at (c : Dev nD) (t : Fin (cfg0 (adm m hn)).N) (k : Fin 2048) (f : Fin 2048) (hf : (grid0.coords t 0).val * 2048 + f.val < 2048) :
    (iblk m hn c 1 t : FVec Ideal S1x1x2048x2048 .f32) (ix4 0 0 k f)
      = (m ((c : Thread nD τ).loc main_arg1) : FVec Ideal S4x32x2048x2048 .f32)
        (ix4 0 ⟨(expert m (grid0.coords t 1)).toNat, hn.expert_lt _⟩ k ⟨(grid0.coords t 0).val * 2048 + f.val, hf⟩) := by
  show V m c main_arg1 ((((cfg0 (adm m hn)).win 1).rect t).emb (ix4 0 0 k f)) = _
  rw [V_main_arg1]
  refine congrArg (m _) ?_
  funext a
  refine Fin.ext ((Pipeline.Window.rect_emb_val _ t (ix4 0 0 k f) a rfl).trans ?_)
  rw [index1]
  match a with
  | ⟨0, _⟩ => rfl
  | ⟨1, _⟩ => show (expert m (grid0.coords t 1)).toNat * 1 + 0 = (expert m (grid0.coords t 1)).toNat; omega
  | ⟨2, _⟩ => show 0 * 2048 + k.val = k.val; omega
  | ⟨3, _⟩ => rfl

/-- The bias a point reads. -/
theorem biases_at (c : Dev nD) (t : Fin (cfg0 (adm m hn)).N) (f : Fin 2048) (hf : (grid0.coords t 0).val * 2048 + f.val < 2048) :
    (iblk m hn c 2 t : FVec Ideal S1x1x1x2048 .f32) (ix4 0 0 0 f)
      = (m ((c : Thread nD τ).loc main_arg2) : FVec Ideal S4x32x2048 .f32)
        (ix3 0 ⟨(expert m (grid0.coords t 1)).toNat, hn.expert_lt _⟩ ⟨(grid0.coords t 0).val * 2048 + f.val, hf⟩) := by
  refine Eq.trans (?_ : _ = V m c main_v6 (ix4 0 ⟨(expert m (grid0.coords t 1)).toNat, hn.expert_lt _⟩ 0 ⟨(grid0.coords t 0).val * 2048 + f.val, hf⟩))
    (bias_at m c _ _)
  show V m c main_v6 ((((cfg0 (adm m hn)).win 2).rect t).emb (ix4 0 0 0 f)) = _
  refine congrArg (V m c main_v6) ?_
  funext a
  refine Fin.ext ((Pipeline.Window.rect_emb_val _ t (ix4 0 0 0 f) a rfl).trans ?_)
  rw [index2]
  match a with
  | ⟨0, _⟩ => rfl
  | ⟨1, _⟩ => show (expert m (grid0.coords t 1)).toNat * 1 + 0 = (expert m (grid0.coords t 1)).toNat; omega
  | ⟨2, _⟩ => rfl
  | ⟨3, _⟩ => rfl

/-- A row block in use reads its own rows. -/
theorem rowOf_active (i : grid0.Coords) (h : Active i (count m)) : rowOf m i = (i 1).val := by
  have h1 : (i 1).val < 168 := (i 1).isLt
  have ha := (active_iff i (count m)).mp h
  unfold rowOf
  revert ha
  generalize count m = n
  intro ha
  have e : (BitVec.ofNat 32 (i 1).val).toNat = (i 1).val := by rw [BitVec.toNat_ofNat]; omega
  have h3 := n.toInt_eq_toNat_cond
  have h4 := n.isLt
  have e' : (Scalar.subi n 1#32).toNat = n.toNat - 1 := by
    show (n - 1#32).toNat = _
    rw [BitVec.toNat_sub]; simp; split at h3 <;> omega
  simp only [Scalar.minsi, IntOp.minsi, BitVec.slt_eq_decide, decide_eq_true_eq]
  split <;> rename_i hh
  · exact e
  · rw [e']
    rw [BitVec.toInt_eq_toNat_cond, BitVec.toInt_eq_toNat_cond, e, e'] at hh
    split at hh <;> split at hh <;> split at h3 <;> omega

/-- The reference keeps the row blocks in use. -/
theorem mask_iff (i : grid0.Coords) : IntOp.cmpi .slt (BitVec.ofNat 32 (i 1).val) (count m) = 1#1 ↔ Active i (count m) :=
  (ne_zero_iff (Scalar.cmpi .slt (BitVec.ofNat 32 (i 1).val) (count m))).symm

/-- A point's row of its tile is a row of the reference's. -/
theorem tile_lt (i : grid0.Coords) (n : Fin 256) : (i 1).val * 256 + n.val < 43008 := by
  have h1 : (i 1).val < 168 := (i 1).isLt
  have := n.isLt
  omega

theorem lane_lt (i : grid0.Coords) (f : Fin 2048) : (i 0).val * 2048 + f.val < 2048 := by
  have h1 : (i 0).val < 1 := (i 0).isLt
  have := f.isLt
  omega

theorem block_lt (i : grid0.Coords) : (i 1).val < 168 := (i 1).isLt

theorem expert_at (c : Dev nD) (r : Fin 168) : (m ((c : Thread nD τ).loc main_arg3) : IVec S168 32) (ix1 r) = expert m r := by
  obtain rfl : c = 0 := Subsingleton.elim (α := Fin 1) c 0
  unfold expert
  refine congrArg (m _) ?_
  funext a; fin_cases a; rfl

theorem count_at (c : Dev nD) : (m ((c : Thread nD τ).loc main_arg4) : IVec S1 32) (ix1 0) = count m := by
  obtain rfl : c = 0 := Subsingleton.elim (α := Fin 1) c 0
  unfold count
  refine congrArg (m _) ?_
  funext a; fin_cases a; rfl

include hn in
theorem named_at (c : Dev nD) (r : Fin 168) : ((m ((c : Thread nD τ).loc main_arg3) : IVec S168 32) (ix1 r)).toNat < 32 := by
  rw [expert_at m c]; exact hn.expert_lt r

/-- A tile of the result, at an index: the reference's result there. -/
theorem tile_at (c : Dev nD) (t : Fin (cfg0 (adm m hn)).N) (n : Fin 256) (f : Fin 2048) :
    (outBlk m hn c t : FVec Ideal S256x2048 .f32) (ix2 n f)
      = REF m c (ix2 ⟨(grid0.coords t 1).val * 256 + n.val, tile_lt _ n⟩ ⟨(grid0.coords t 0).val * 2048 + f.val, lane_lt _ f⟩) := by
  have hl := lane_lt (grid0.coords t) f
  refine Eq.trans ?_ (Cert.Reference3Ideal.Gmm.result_at _ _ _ _ _ (named_at m hn c) ⟨(grid0.coords t 1).val, block_lt _⟩ n
    ⟨(grid0.coords t 0).val * 2048 + f.val, hl⟩).symm
  rw [count_at m c]
  unfold outBlk outAt
  by_cases ha : Active (grid0.coords t) (count m)
  · rw [if_pos ha, if_pos ((mask_iff m (grid0.coords t)).mpr ha)]
    refine (pay2_at _ _ _ n f).trans ?_
    have hr := rowOf_active m _ ha
    have hb := tile_lt (grid0.coords t) n
    have e : (⟨((m ((c : Thread nD τ).loc main_arg3) : IVec S168 32) (ix1 ⟨(grid0.coords t 1).val, block_lt _⟩)).toNat, named_at m hn c _⟩ : Fin 32)
        = ⟨(expert m (grid0.coords t 1)).toNat, hn.expert_lt _⟩ := Fin.ext (congrArg BitVec.toNat (expert_at m c _))
    unfold Cert.Reference3Ideal.Gmm.linear
    rw [e]
    refine congrArg₂ (· + ·) (Finset.sum_congr rfl fun k _ => congrArg₂ (· * ·) ?_ ?_) ?_
    · rw [rows_at m hn c t n k (by omega)]
      refine congrArg _ (congrArg (ix2 · k) (Fin.ext ?_)); show rowOf m _ * 256 + n.val = _; rw [hr]
    · exact (pay1_at _ k f).trans (weights_at m hn c t k f (by omega))
    · rw [biases_at m hn c t f (by omega)]
  · rw [if_neg ha, if_neg (fun h => ha ((mask_iff m (grid0.coords t)).mp h)), pay3_at]

/-- Every block of the result is some point's. -/
theorem covers3 : ((cfg0 (adm m hn)).win 3).Covers := by
  refine Pipeline.Window.covers_of_index_surj _ rfl (fun a => ?_) (fun β => ?_)
  · match a with
    | ⟨0, _⟩ => exact (by decide : 0 < 256)
    | ⟨1, _⟩ => exact (by decide : 0 < 2048)
  · have h0 : (β (0 : Fin 2)).val < 168 := lt_of_lt_of_eq (β (0 : Fin 2)).isLt (by decide : (43008 + 256 - 1) / 256 = 168)
    have h1 : (β (1 : Fin 2)).val < 1 := lt_of_lt_of_eq (β (1 : Fin 2)).isLt (by decide : (2048 + 2048 - 1) / 2048 = 1)
    refine ⟨⟨(β (1 : Fin 2)).val * 168 + (β (0 : Fin 2)).val, by show _ < 168; omega⟩, fun a => ?_⟩
    rw [index3]
    match a with
    | ⟨0, _⟩ => show (grid0.coords _ 1).val = (β (0 : Fin 2)).val; rw [coord1]; show ((β (1 : Fin 2)).val * 168 + (β (0 : Fin 2)).val) / 1 % 168 = _; omega
    | ⟨1, _⟩ => show (grid0.coords _ 0).val = (β (1 : Fin 2)).val; rw [coord0]; show ((β (1 : Fin 2)).val * 168 + (β (0 : Fin 2)).val) / 168 % 1 = _; omega

/-- The result after the run is the reference's. -/
theorem final (c : Dev nD) : (dats m hn 0 c).arrAt 3 (cfg0 (adm m hn)).N = REF m c := by
  refine (dats m hn 0 c).arrAt_eq_of_covers 3 _ (covers3 m hn) fun t _ y => ?_
  rw [after3]
  change S256x2048.Idx at y
  obtain ⟨n, f, rfl⟩ : ∃ (n : Fin 256) (f : Fin 2048), y = ix2 n f := ⟨y 0, y 1, by
    funext a; match a with
    | ⟨0, _⟩ => rfl
    | ⟨1, _⟩ => rfl⟩
  refine (tile_at m hn c t n f).trans (congrArg (REF m c) ?_)
  funext a
  refine Fin.ext (Eq.symm ((Pipeline.Window.rect_emb_val ((cfg0 (adm m hn)).win 3) t (ix2 n f) a rfl).trans ?_))
  rw [index3]
  match a with
  | ⟨0, _⟩ => rfl
  | ⟨1, _⟩ => rfl

end Cert.Kernel3Ideal.Gmm

end
-- ==== Proof.Gmm2.Pre.lean ====
/- The precondition on the tables, decoded: every row block names one of the 32 experts, and at least one row block is in use. -/
module

public import proofs.«01_k».proof.Proof.Gen.Pre_experts_named_down
public import proofs.«01_k».proof.Proof.Gmm1.Pre

@[expose] public section

set_option maxRecDepth 16384

noncomputable section

open Idealize.ShloMosaic

namespace Cert.Gmm

variable {F : FTy → Type} [FloatOps F]

theorem named_down_of [Cert.Pre_experts_named_down.Facts] (x0 x1 x2 x3 x4)
    (h : (Cert.Pre_experts_named_down.fn (F := F) x0 x1 x2 x3 x4).1 = (fun _ => 1#1) ∧ (Cert.Pre_experts_named_down.fn (F := F) x0 x1 x2 x3 x4).2 = (fun _ => 1#1)) :
    (∀ j, (x3 j).toNat < 32) ∧ ∀ j, 0 < (x4 j).toInt :=
  ⟨fun j => word_lt _ (congrFun h.1 j), fun j => word_pos _ (congrFun h.2 j)⟩

end Cert.Gmm

end
-- ==== Proof.Proj.Value.lean ====
/- The input projection of the gated mixer: each block the call leaves is the reference's, so the whole array is. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem

namespace Cert.Kernel4Ideal.Proj

open Cert.Kernel4Ideal Cert.Kernel4Ideal.Gen

variable (m : (ℓ : Loc nD τ sig) → Buf (Elt Ideal) ℓ)

/-- The reference's result over the kernel's arguments. -/
abbrev REF (c : Dev nD) : FVec Ideal Cert.Reference4Ideal.S8704x12288 .f32 :=
  Cert.Reference4Ideal.Read.val_main_v3 (F := Ideal) (m ((c : Thread nD τ).loc main_arg0)) (m ((c : Thread nD τ).loc main_arg1))

/-- The windows' blocks, point by point: the columns' block moves slowest. -/
theorem idx : ∀ t : Fin cfg0.N, win0_0.index t = ![t.val % 17, 0] ∧ win0_1.index t = ![0, t.val / 17]
    ∧ win0_2.index t = ![t.val % 17, t.val / 17] ∧ t.val / 17 < 12 :=
  (by decide +kernel : ∀ t : Fin grid0.N, _)

/-- The weights as the region finds them: the first 12288 columns, rounding being exact. -/
theorem weights_at (c : Dev nD) (k : Fin 2048) (j : Fin 12288) :
    (V m c main_v2 : FVec Ideal S2048x12288 .bf16) (ix2 k j)
      = (m ((c : Thread nD τ).loc main_arg1) : FVec Ideal S1x2048x12352 .f32) (ix3 0 k ⟨j.val, by have := j.isLt; omega⟩) := by
  entry_read
  pointwise

/-- The product of one block of rows and one of columns, at an index. -/
theorem pay1_at (x : FVec Ideal S512x2048 .bf16) (w : FVec Ideal S2048x1024 .bf16) (n : Fin 512) (f : Fin 1024) :
    k0_pay1 (F := Ideal) x w (ix2 n f) = ∑ k : Fin 2048, x (ix2 n k) * w (ix2 k f) := by
  unfold k0_pay1
  pointwise

/-- The reference at an index. -/
theorem result_at (x0 : FVec Ideal Cert.Reference4Ideal.S8704x2048 .bf16) (x1 : FVec Ideal Cert.Reference4Ideal.S1x2048x12352 .f32) (r : Fin 8704) (j : Fin 12288) :
    Cert.Reference4Ideal.Read.val_main_v3 (F := Ideal) x0 x1 (ix2 r j) = ∑ k : Fin 2048, x0 (ix2 r k) * x1 (ix3 0 k ⟨j.val, by have := j.isLt; omega⟩) := by
  rw [Cert.Reference4Ideal.Read.val_main_v3_apply]
  refine Finset.sum_congr rfl fun k _ => congrArg₂ (· * ·) ?_ ?_
  · refine (Cert.Reference4Ideal.Read.val_main_v0_apply _ _).trans ?_
    refine congrArg x0 ?_
    funext a; match a with
    | ⟨0, _⟩ => rfl
    | ⟨1, _⟩ => rfl
  · refine Eq.trans (congrArg _ (?_ : _ = ix2 k j)) ?_
    · funext a; match a with
      | ⟨0, _⟩ => rfl
      | ⟨1, _⟩ => rfl
    · unfold Cert.Reference4Ideal.Read.val_main_v2 Cert.Reference4Ideal.Read.val_main_v1
      pointwise

/-- The rows a point reads. -/
theorem rows_at (c : Dev nD) (t : Fin cfg0.N) (n : Fin 512) (k : Fin 2048) (h : t.val % 17 * 512 + n.val < 8704) :
    (iblk m c 0 t : FVec Ideal S512x2048 .bf16) (ix2 n k) = (m ((c : Thread nD τ).loc main_arg0) : FVec Ideal S8704x2048 .bf16) (ix2 ⟨t.val % 17 * 512 + n.val, h⟩ k) := by
  blk_ext [iblk, V_main_arg0, idx t]

/-- The weights a point reads. -/
theorem cols_at (c : Dev nD) (t : Fin cfg0.N) (k : Fin 2048) (f : Fin 1024) (h : t.val / 17 * 1024 + f.val < 12288) :
    (iblk m c 1 t : FVec Ideal S2048x1024 .bf16) (ix2 k f) = (V m c main_v2 : FVec Ideal S2048x12288 .bf16) (ix2 k ⟨t.val / 17 * 1024 + f.val, h⟩) := by
  blk_ext [iblk, idx t]

/-- The result after the run is the reference's. -/
theorem final (c : Dev nD) : (dats m 0 c).arrAt 2 cfg0.N = REF m c := by
  refine (dats m 0 c).arrAt_eq_of_covers 2 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 17 := lt_of_lt_of_eq (β (0 : Fin 2)).isLt (by decide : (8704 + 512 - 1) / 512 = 17)
      have h1 : (β (1 : Fin 2)).val < 12 := lt_of_lt_of_eq (β (1 : Fin 2)).isLt (by decide : (12288 + 1024 - 1) / 1024 = 12)
      refine ⟨⟨(β (1 : Fin 2)).val * 17 + (β (0 : Fin 2)).val, by show _ < 204; omega⟩, fun a => ?_⟩
      refine (congrFun (idx _).2.2.1 a).trans ?_
      match a with
      | ⟨0, _⟩ => show ((β (1 : Fin 2)).val * 17 + (β (0 : Fin 2)).val) % 17 = (β (0 : Fin 2)).val; omega
      | ⟨1, _⟩ => show ((β (1 : Fin 2)).val * 17 + (β (0 : Fin 2)).val) / 17 = (β (1 : Fin 2)).val; omega
  · have hi := (idx t).2.2.2
    rw [after0_2]
    change S512x1024.Idx at y
    obtain ⟨n, f, rfl⟩ : ∃ (n : Fin 512) (f : Fin 1024), y = ix2 n f := ⟨y 0, y 1, by
      funext a; match a with
      | ⟨0, _⟩ => rfl
      | ⟨1, _⟩ => rfl⟩
    have hn := n.isLt
    have hf := f.isLt
    have e : (((cfg0.win 2).rect t).emb (ix2 n f) : S8704x12288.Idx) = ix2 ⟨t.val % 17 * 512 + n.val, by omega⟩ ⟨t.val / 17 * 1024 + f.val, by omega⟩ := by
      funext a
      refine Fin.ext ((Pipeline.Window.rect_emb_val (cfg0.win 2) t (ix2 n f) a rfl).trans ?_)
      refine (congrArg (· * _ + _) (congrFun (idx t).2.2.1 a)).trans ?_
      match a with
      | ⟨0, _⟩ => rfl
      | ⟨1, _⟩ => rfl
    refine Eq.trans ?_ (congrArg (REF m c) e).symm
    refine Eq.trans ?_ (result_at _ _ _ _).symm
    have hp : out0_2 (iblk m c 0 t) (iblk m c 1 t) = k0_pay1 (iblk m c 0 t) (iblk m c 1 t) := by
      frame_out
    rw [hp]
    refine (pay1_at _ _ n f).trans (Finset.sum_congr rfl fun k _ => congrArg₂ (· * ·) (rows_at m c t n k (by omega)) ?_)
    exact (cols_at m c t k f (by omega)).trans (weights_at m c _ _)

end Cert.Kernel4Ideal.Proj

end
-- ==== Proof.Mem.Value.lean ====
/- The keys and values of the cross attention's memory: each of the four calls leaves a layer's product, and the host
   operations after them split and stack the four as the reference does. -/
module

public import proofs.«01_k».proof.Proof.Gen.Kernel5Ideal.Frame
public import proofs.«01_k».proof.Proof.Gen.Reference5Ideal.Read
public import Idealize.ShloMosaic.Lib.Pipeline.RegionsLoop
public import Idealize.ShloMosaic.Lib.Pipeline.FrameSuffix
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Kernel5Ideal.Mem

open Cert.Kernel5Ideal Cert.Kernel5Ideal.Gen

/-- The product of the memory's rows and a layer's weights. -/
def PROD (x : FVec Ideal S512x2048 .bf16) (w : FVec Ideal S2048x4096 .bf16) : FVec Ideal S512x4096 .f32 :=
  fun i => ∑ k : Fin 2048, x (ix2 (i (0 : Fin 2)) k) * w (ix2 k (i (1 : Fin 2)))

section Regions

variable (V : (c : Dev nD) → (b : Ref sig .tc) → Buf (Elt Ideal) ((c : Thread nD τ).loc b))

/-- The windows' blocks of call 1: the blocks of columns advance. -/
theorem idx0 : ∀ t : Fin cfg0.N, win0_0.index t = ![0, 0] ∧ win0_1.index t = ![0, t.val]
    ∧ win0_2.index t = ![0, t.val] ∧ t.val < 4 :=
  (by decide +kernel : ∀ t : Fin grid0.N, _)

/-- Call 1's body at an index. -/
theorem pay0_at (x : FVec Ideal S512x2048 .bf16) (w : FVec Ideal S2048x1024 .bf16) (n : Fin 512) (f : Fin 1024) :
    k0_pay1 (F := Ideal) x w (ix2 n f) = ∑ k : Fin 2048, x (ix2 n k) * w (ix2 k f) := by
  unfold k0_pay1
  pointwise

/-- The rows a point of call 1 reads. -/
theorem rows0_at (c : Dev nD) (t : Fin cfg0.N) (n : Fin 512) (k : Fin 2048) :
    (iblk0 V c 0 t : FVec Ideal S512x2048 .bf16) (ix2 n k) = (V c main_v1 : FVec Ideal S512x2048 .bf16) (ix2 n k) := by
  blk_ext [iblk0, idx0 t]

/-- The weights a point of call 1 reads. -/
theorem cols0_at (c : Dev nD) (t : Fin cfg0.N) (k : Fin 2048) (f : Fin 1024) (h : t.val * 1024 + f.val < 4096) :
    (iblk0 V c 1 t : FVec Ideal S2048x1024 .bf16) (ix2 k f) = (V c main_v4 : FVec Ideal S2048x4096 .bf16) (ix2 k ⟨t.val * 1024 + f.val, h⟩) := by
  blk_ext [iblk0, idx0 t]

/-- Call 1 leaves the product of what it finds. -/
theorem final0 (c : Dev nD) : (dat0 V c).arrAt 2 cfg0.N = PROD (V c main_v1) (V c main_v4) := by
  refine (dat0 V c).arrAt_eq_of_covers 2 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 1 := lt_of_lt_of_eq (β (0 : Fin 2)).isLt (by decide : (512 + 512 - 1) / 512 = 1)
      have h1 : (β (1 : Fin 2)).val < 4 := lt_of_lt_of_eq (β (1 : Fin 2)).isLt (by decide : (4096 + 1024 - 1) / 1024 = 4)
      refine ⟨⟨(β (1 : Fin 2)).val, h1⟩, fun a => ?_⟩
      refine (congrFun (idx0 _).2.2.1 a).trans ?_
      match a with
      | ⟨0, _⟩ => show 0 = (β (0 : Fin 2)).val; omega
      | ⟨1, _⟩ => rfl
  · have hi := (idx0 t).2.2.2
    rw [after0_2]
    change S512x1024.Idx at y
    obtain ⟨n, f, rfl⟩ : ∃ (n : Fin 512) (f : Fin 1024), y = ix2 n f := ⟨y 0, y 1, by
      funext a; match a with
      | ⟨0, _⟩ => rfl
      | ⟨1, _⟩ => rfl⟩
    have hn := n.isLt
    have hf := f.isLt
    have e : (((cfg0.win 2).rect t).emb (ix2 n f) : S512x4096.Idx) = ix2 n ⟨t.val * 1024 + f.val, by omega⟩ := by
      funext a
      refine Fin.ext ((Pipeline.Window.rect_emb_val (cfg0.win 2) t (ix2 n f) a rfl).trans ?_)
      refine (congrArg (· * _ + _) (congrFun (idx0 t).2.2.1 a)).trans ?_
      match a with
      | ⟨0, _⟩ => show 0 * 512 + n.val = n.val; omega
      | ⟨1, _⟩ => rfl
    refine Eq.trans ?_ (congrArg (PROD (V c main_v1) (V c main_v4)) e).symm
    have hp : out0_2 (iblk0 V c 0 t) (iblk0 V c 1 t) = k0_pay1 (iblk0 V c 0 t) (iblk0 V c 1 t) := by
      frame_out
    rw [hp]
    exact (pay0_at _ _ n f).trans (Finset.sum_congr rfl fun k _ => congrArg₂ (· * ·) (rows0_at V c t n k) (cols0_at V c t k f (by omega)))

/-- The windows' blocks of call 2: the blocks of columns advance. -/
theorem idx1 : ∀ t : Fin cfg1.N, win1_0.index t = ![0, 0] ∧ win1_1.index t = ![0, t.val]
    ∧ win1_2.index t = ![0, t.val] ∧ t.val < 4 :=
  (by decide +kernel : ∀ t : Fin grid1.N, _)

/-- Call 2's body at an index. -/
theorem pay1_at (x : FVec Ideal S512x2048 .bf16) (w : FVec Ideal S2048x1024 .bf16) (n : Fin 512) (f : Fin 1024) :
    k1_pay1 (F := Ideal) x w (ix2 n f) = ∑ k : Fin 2048, x (ix2 n k) * w (ix2 k f) := by
  unfold k1_pay1
  pointwise

/-- The rows a point of call 2 reads. -/
theorem rows1_at (c : Dev nD) (t : Fin cfg1.N) (n : Fin 512) (k : Fin 2048) :
    (iblk1 V c 0 t : FVec Ideal S512x2048 .bf16) (ix2 n k) = (V c main_v1 : FVec Ideal S512x2048 .bf16) (ix2 n k) := by
  blk_ext [iblk1, idx1 t]

/-- The weights a point of call 2 reads. -/
theorem cols1_at (c : Dev nD) (t : Fin cfg1.N) (k : Fin 2048) (f : Fin 1024) (h : t.val * 1024 + f.val < 4096) :
    (iblk1 V c 1 t : FVec Ideal S2048x1024 .bf16) (ix2 k f) = (V c main_v8 : FVec Ideal S2048x4096 .bf16) (ix2 k ⟨t.val * 1024 + f.val, h⟩) := by
  blk_ext [iblk1, idx1 t]

/-- Call 2 leaves the product of what it finds. -/
theorem final1 (c : Dev nD) : (dat1 V c).arrAt 2 cfg1.N = PROD (V c main_v1) (V c main_v8) := by
  refine (dat1 V c).arrAt_eq_of_covers 2 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 1 := lt_of_lt_of_eq (β (0 : Fin 2)).isLt (by decide : (512 + 512 - 1) / 512 = 1)
      have h1 : (β (1 : Fin 2)).val < 4 := lt_of_lt_of_eq (β (1 : Fin 2)).isLt (by decide : (4096 + 1024 - 1) / 1024 = 4)
      refine ⟨⟨(β (1 : Fin 2)).val, h1⟩, fun a => ?_⟩
      refine (congrFun (idx1 _).2.2.1 a).trans ?_
      match a with
      | ⟨0, _⟩ => show 0 = (β (0 : Fin 2)).val; omega
      | ⟨1, _⟩ => rfl
  · have hi := (idx1 t).2.2.2
    rw [after1_2]
    change S512x1024.Idx at y
    obtain ⟨n, f, rfl⟩ : ∃ (n : Fin 512) (f : Fin 1024), y = ix2 n f := ⟨y 0, y 1, by
      funext a; match a with
      | ⟨0, _⟩ => rfl
      | ⟨1, _⟩ => rfl⟩
    have hn := n.isLt
    have hf := f.isLt
    have e : (((cfg1.win 2).rect t).emb (ix2 n f) : S512x4096.Idx) = ix2 n ⟨t.val * 1024 + f.val, by omega⟩ := by
      funext a
      refine Fin.ext ((Pipeline.Window.rect_emb_val (cfg1.win 2) t (ix2 n f) a rfl).trans ?_)
      refine (congrArg (· * _ + _) (congrFun (idx1 t).2.2.1 a)).trans ?_
      match a with
      | ⟨0, _⟩ => show 0 * 512 + n.val = n.val; omega
      | ⟨1, _⟩ => rfl
    refine Eq.trans ?_ (congrArg (PROD (V c main_v1) (V c main_v8)) e).symm
    have hp : out1_2 (iblk1 V c 0 t) (iblk1 V c 1 t) = k1_pay1 (iblk1 V c 0 t) (iblk1 V c 1 t) := by
      frame_out
    rw [hp]
    exact (pay1_at _ _ n f).trans (Finset.sum_congr rfl fun k _ => congrArg₂ (· * ·) (rows1_at V c t n k) (cols1_at V c t k f (by omega)))

/-- The windows' blocks of call 3: the blocks of columns advance. -/
theorem idx2 : ∀ t : Fin cfg2.N, win2_0.index t = ![0, 0] ∧ win2_1.index t = ![0, t.val]
    ∧ win2_2.index t = ![0, t.val] ∧ t.val < 4 :=
  (by decide +kernel : ∀ t : Fin grid2.N, _)

/-- Call 3's body at an index. -/
theorem pay2_at (x : FVec Ideal S512x2048 .bf16) (w : FVec Ideal S2048x1024 .bf16) (n : Fin 512) (f : Fin 1024) :
    k2_pay1 (F := Ideal) x w (ix2 n f) = ∑ k : Fin 2048, x (ix2 n k) * w (ix2 k f) := by
  unfold k2_pay1
  pointwise

/-- The rows a point of call 3 reads. -/
theorem rows2_at (c : Dev nD) (t : Fin cfg2.N) (n : Fin 512) (k : Fin 2048) :
    (iblk2 V c 0 t : FVec Ideal S512x2048 .bf16) (ix2 n k) = (V c main_v1 : FVec Ideal S512x2048 .bf16) (ix2 n k) := by
  blk_ext [iblk2, idx2 t]

/-- The weights a point of call 3 reads. -/
theorem cols2_at (c : Dev nD) (t : Fin cfg2.N) (k : Fin 2048) (f : Fin 1024) (h : t.val * 1024 + f.val < 4096) :
    (iblk2 V c 1 t : FVec Ideal S2048x1024 .bf16) (ix2 k f) = (V c main_v12 : FVec Ideal S2048x4096 .bf16) (ix2 k ⟨t.val * 1024 + f.val, h⟩) := by
  blk_ext [iblk2, idx2 t]

/-- Call 3 leaves the product of what it finds. -/
theorem final2 (c : Dev nD) : (dat2 V c).arrAt 2 cfg2.N = PROD (V c main_v1) (V c main_v12) := by
  refine (dat2 V c).arrAt_eq_of_covers 2 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 1 := lt_of_lt_of_eq (β (0 : Fin 2)).isLt (by decide : (512 + 512 - 1) / 512 = 1)
      have h1 : (β (1 : Fin 2)).val < 4 := lt_of_lt_of_eq (β (1 : Fin 2)).isLt (by decide : (4096 + 1024 - 1) / 1024 = 4)
      refine ⟨⟨(β (1 : Fin 2)).val, h1⟩, fun a => ?_⟩
      refine (congrFun (idx2 _).2.2.1 a).trans ?_
      match a with
      | ⟨0, _⟩ => show 0 = (β (0 : Fin 2)).val; omega
      | ⟨1, _⟩ => rfl
  · have hi := (idx2 t).2.2.2
    rw [after2_2]
    change S512x1024.Idx at y
    obtain ⟨n, f, rfl⟩ : ∃ (n : Fin 512) (f : Fin 1024), y = ix2 n f := ⟨y 0, y 1, by
      funext a; match a with
      | ⟨0, _⟩ => rfl
      | ⟨1, _⟩ => rfl⟩
    have hn := n.isLt
    have hf := f.isLt
    have e : (((cfg2.win 2).rect t).emb (ix2 n f) : S512x4096.Idx) = ix2 n ⟨t.val * 1024 + f.val, by omega⟩ := by
      funext a
      refine Fin.ext ((Pipeline.Window.rect_emb_val (cfg2.win 2) t (ix2 n f) a rfl).trans ?_)
      refine (congrArg (· * _ + _) (congrFun (idx2 t).2.2.1 a)).trans ?_
      match a with
      | ⟨0, _⟩ => show 0 * 512 + n.val = n.val; omega
      | ⟨1, _⟩ => rfl
    refine Eq.trans ?_ (congrArg (PROD (V c main_v1) (V c main_v12)) e).symm
    have hp : out2_2 (iblk2 V c 0 t) (iblk2 V c 1 t) = k2_pay1 (iblk2 V c 0 t) (iblk2 V c 1 t) := by
      frame_out
    rw [hp]
    exact (pay2_at _ _ n f).trans (Finset.sum_congr rfl fun k _ => congrArg₂ (· * ·) (rows2_at V c t n k) (cols2_at V c t k f (by omega)))

/-- The windows' blocks of call 4: the blocks of columns advance. -/
theorem idx3 : ∀ t : Fin cfg3.N, win3_0.index t = ![0, 0] ∧ win3_1.index t = ![0, t.val]
    ∧ win3_2.index t = ![0, t.val] ∧ t.val < 4 :=
  (by decide +kernel : ∀ t : Fin grid3.N, _)

/-- Call 4's body at an index. -/
theorem pay3_at (x : FVec Ideal S512x2048 .bf16) (w : FVec Ideal S2048x1024 .bf16) (n : Fin 512) (f : Fin 1024) :
    k3_pay1 (F := Ideal) x w (ix2 n f) = ∑ k : Fin 2048, x (ix2 n k) * w (ix2 k f) := by
  unfold k3_pay1
  pointwise

/-- The rows a point of call 4 reads. -/
theorem rows3_at (c : Dev nD) (t : Fin cfg3.N) (n : Fin 512) (k : Fin 2048) :
    (iblk3 V c 0 t : FVec Ideal S512x2048 .bf16) (ix2 n k) = (V c main_v1 : FVec Ideal S512x2048 .bf16) (ix2 n k) := by
  blk_ext [iblk3, idx3 t]

/-- The weights a point of call 4 reads. -/
theorem cols3_at (c : Dev nD) (t : Fin cfg3.N) (k : Fin 2048) (f : Fin 1024) (h : t.val * 1024 + f.val < 4096) :
    (iblk3 V c 1 t : FVec Ideal S2048x1024 .bf16) (ix2 k f) = (V c main_v16 : FVec Ideal S2048x4096 .bf16) (ix2 k ⟨t.val * 1024 + f.val, h⟩) := by
  blk_ext [iblk3, idx3 t]

/-- Call 4 leaves the product of what it finds. -/
theorem final3 (c : Dev nD) : (dat3 V c).arrAt 2 cfg3.N = PROD (V c main_v1) (V c main_v16) := by
  refine (dat3 V c).arrAt_eq_of_covers 2 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 1 := lt_of_lt_of_eq (β (0 : Fin 2)).isLt (by decide : (512 + 512 - 1) / 512 = 1)
      have h1 : (β (1 : Fin 2)).val < 4 := lt_of_lt_of_eq (β (1 : Fin 2)).isLt (by decide : (4096 + 1024 - 1) / 1024 = 4)
      refine ⟨⟨(β (1 : Fin 2)).val, h1⟩, fun a => ?_⟩
      refine (congrFun (idx3 _).2.2.1 a).trans ?_
      match a with
      | ⟨0, _⟩ => show 0 = (β (0 : Fin 2)).val; omega
      | ⟨1, _⟩ => rfl
  · have hi := (idx3 t).2.2.2
    rw [after3_2]
    change S512x1024.Idx at y
    obtain ⟨n, f, rfl⟩ : ∃ (n : Fin 512) (f : Fin 1024), y = ix2 n f := ⟨y 0, y 1, by
      funext a; match a with
      | ⟨0, _⟩ => rfl
      | ⟨1, _⟩ => rfl⟩
    have hn := n.isLt
    have hf := f.isLt
    have e : (((cfg3.win 2).rect t).emb (ix2 n f) : S512x4096.Idx) = ix2 n ⟨t.val * 1024 + f.val, by omega⟩ := by
      funext a
      refine Fin.ext ((Pipeline.Window.rect_emb_val (cfg3.win 2) t (ix2 n f) a rfl).trans ?_)
      refine (congrArg (· * _ + _) (congrFun (idx3 t).2.2.1 a)).trans ?_
      match a with
      | ⟨0, _⟩ => show 0 * 512 + n.val = n.val; omega
      | ⟨1, _⟩ => rfl
    refine Eq.trans ?_ (congrArg (PROD (V c main_v1) (V c main_v16)) e).symm
    have hp : out3_2 (iblk3 V c 0 t) (iblk3 V c 1 t) = k3_pay1 (iblk3 V c 0 t) (iblk3 V c 1 t) := by
      frame_out
    rw [hp]
    exact (pay3_at _ _ n f).trans (Finset.sum_congr rfl fun k _ => congrArg₂ (· * ·) (rows3_at V c t n k) (cols3_at V c t k f (by omega)))

end Regions

variable (m : (ℓ : Loc nD τ sig) → Buf (Elt Ideal) ℓ) (ρ : Dev nD → PrngReg)

/-- The memory as the kernel's calls find it: the argument's rows, rounding being exact. -/
def ROWS (c : Dev nD) : FVec Ideal S512x2048 .bf16 :=
  fun i => (m ((c : Thread nD τ).loc main_arg0) : FVec Ideal S2x256x2048 .f32)
    (ix3 ⟨(i (0 : Fin 2)).val / 256, by have h : (i (0 : Fin 2)).val < 512 := (i (0 : Fin 2)).isLt; omega⟩ ⟨(i (0 : Fin 2)).val % 256, Nat.mod_lt _ (by decide)⟩ (i (1 : Fin 2)))

/-- A layer's weights as its call finds them. -/
def WGT (c : Dev nD) (l : Fin 4) : FVec Ideal S2048x4096 .bf16 :=
  fun i => (m ((c : Thread nD τ).loc main_arg1) : FVec Ideal S4x2048x4096 .f32) (ix3 l (i (0 : Fin 2)) (i (1 : Fin 2)))

/-- The memory at the first call. -/
theorem rows_entry (c : Dev nD) : (V1 m ρ c main_v1 : FVec Ideal S512x2048 .bf16) = ROWS m c := by
  funext i
  obtain ⟨n, k, rfl⟩ : ∃ (n : Fin 512) (k : Fin 2048), i = ix2 n k := ⟨i 0, i 1, by
    funext a; match a with
    | ⟨0, _⟩ => rfl
    | ⟨1, _⟩ => rfl⟩
  show W1 m ρ c _ _ = _
  unfold W1 ROWS
  entry_read
  pointwise

/-- Layer 1's weights at its call. -/
theorem weights0 (c : Dev nD) : (V1 m ρ c main_v4 : FVec Ideal S2048x4096 .bf16) = WGT m c 0 := by
  funext i
  obtain ⟨n, k, rfl⟩ : ∃ (n : Fin 2048) (k : Fin 4096), i = ix2 n k := ⟨i 0, i 1, by
    funext a; match a with
    | ⟨0, _⟩ => rfl
    | ⟨1, _⟩ => rfl⟩
  show W1 m ρ c _ _ = _
  unfold W1 WGT
  entry_read
  pointwise

/-- Layer 2's weights at its call. -/
theorem weights1 (c : Dev nD) : (V3 m ρ c main_v8 : FVec Ideal S2048x4096 .bf16) = WGT m c 1 := by
  funext i
  obtain ⟨n, k, rfl⟩ : ∃ (n : Fin 2048) (k : Fin 4096), i = ix2 n k := ⟨i 0, i 1, by
    funext a; match a with
    | ⟨0, _⟩ => rfl
    | ⟨1, _⟩ => rfl⟩
  have h1 : W2 m ρ c (Proc.devRef .tc main_arg1) = m ((c : Thread nD τ).loc main_arg1) := W2_args m ρ c _ (by decide)
  show W3 m ρ c _ _ = _
  unfold W3 WGT
  entry_read
  pointwise
  rw [h1]

/-- Layer 3's weights at its call. -/
theorem weights2 (c : Dev nD) : (V5 m ρ c main_v12 : FVec Ideal S2048x4096 .bf16) = WGT m c 2 := by
  funext i
  obtain ⟨n, k, rfl⟩ : ∃ (n : Fin 2048) (k : Fin 4096), i = ix2 n k := ⟨i 0, i 1, by
    funext a; match a with
    | ⟨0, _⟩ => rfl
    | ⟨1, _⟩ => rfl⟩
  have h1 : W4 m ρ c (Proc.devRef .tc main_arg1) = m ((c : Thread nD τ).loc main_arg1) := W4_args m ρ c _ (by decide)
  show W5 m ρ c _ _ = _
  unfold W5 WGT
  entry_read
  pointwise
  rw [h1]

/-- Layer 4's weights at its call. -/
theorem weights3 (c : Dev nD) : (V7 m ρ c main_v16 : FVec Ideal S2048x4096 .bf16) = WGT m c 3 := by
  funext i
  obtain ⟨n, k, rfl⟩ : ∃ (n : Fin 2048) (k : Fin 4096), i = ix2 n k := ⟨i 0, i 1, by
    funext a; match a with
    | ⟨0, _⟩ => rfl
    | ⟨1, _⟩ => rfl⟩
  have h1 : W6 m ρ c (Proc.devRef .tc main_arg1) = m ((c : Thread nD τ).loc main_arg1) := W6_args m ρ c _ (by decide)
  show W7 m ρ c _ _ = _
  unfold W7 WGT
  entry_read
  pointwise
  rw [h1]

/-- The memory at call 1. -/
theorem rows0 (c : Dev nD) : (V1 m ρ c main_v1 : FVec Ideal S512x2048 .bf16) = ROWS m c := rows_entry m ρ c

/-- What call 1 left, as the last host operations find it. -/
theorem left0 (c : Dev nD) : (W8 m ρ c (Proc.devRef .tc main_v5) : FVec Ideal S512x4096 .f32) = PROD (ROWS m c) (WGT m c 0) :=
  (((((((((W8_of m ρ c main_v5 (by decide))).trans (W7_of m ρ c main_v5 (by decide))).trans (W6_of m ρ c main_v5 (by decide))).trans (W5_of m ρ c main_v5 (by decide))).trans (W4_of m ρ c main_v5 (by decide))).trans (W3_of m ρ c main_v5 (by decide))).trans (W2_arr m ρ c 2)).trans (final0 (V1 m ρ) c)).trans (congrArg₂ PROD (rows0 m ρ c) (weights0 m ρ c))

/-- The memory at call 2. -/
theorem rows1 (c : Dev nD) : (V3 m ρ c main_v1 : FVec Ideal S512x2048 .bf16) = ROWS m c :=
  (((W3_of m ρ c main_v1 (by decide))).trans (W2_of m ρ c main_v1 (by decide))).trans (rows_entry m ρ c)

/-- What call 2 left, as the last host operations find it. -/
theorem left1 (c : Dev nD) : (W8 m ρ c (Proc.devRef .tc main_v9) : FVec Ideal S512x4096 .f32) = PROD (ROWS m c) (WGT m c 1) :=
  (((((((W8_of m ρ c main_v9 (by decide))).trans (W7_of m ρ c main_v9 (by decide))).trans (W6_of m ρ c main_v9 (by decide))).trans (W5_of m ρ c main_v9 (by decide))).trans (W4_arr m ρ c 2)).trans (final1 (V3 m ρ) c)).trans (congrArg₂ PROD (rows1 m ρ c) (weights1 m ρ c))

/-- The memory at call 3. -/
theorem rows2 (c : Dev nD) : (V5 m ρ c main_v1 : FVec Ideal S512x2048 .bf16) = ROWS m c :=
  (((((W5_of m ρ c main_v1 (by decide))).trans (W4_of m ρ c main_v1 (by decide))).trans (W3_of m ρ c main_v1 (by decide))).trans (W2_of m ρ c main_v1 (by decide))).trans (rows_entry m ρ c)

/-- What call 3 left, as the last host operations find it. -/
theorem left2 (c : Dev nD) : (W8 m ρ c (Proc.devRef .tc main_v13) : FVec Ideal S512x4096 .f32) = PROD (ROWS m c) (WGT m c 2) :=
  (((((W8_of m ρ c main_v13 (by decide))).trans (W7_of m ρ c main_v13 (by decide))).trans (W6_arr m ρ c 2)).trans (final2 (V5 m ρ) c)).trans (congrArg₂ PROD (rows2 m ρ c) (weights2 m ρ c))

/-- The memory at call 4. -/
theorem rows3 (c : Dev nD) : (V7 m ρ c main_v1 : FVec Ideal S512x2048 .bf16) = ROWS m c :=
  (((((((W7_of m ρ c main_v1 (by decide))).trans (W6_of m ρ c main_v1 (by decide))).trans (W5_of m ρ c main_v1 (by decide))).trans (W4_of m ρ c main_v1 (by decide))).trans (W3_of m ρ c main_v1 (by decide))).trans (W2_of m ρ c main_v1 (by decide))).trans (rows_entry m ρ c)

/-- What call 4 left, as the last host operations find it. -/
theorem left3 (c : Dev nD) : (W8 m ρ c (Proc.devRef .tc main_v17) : FVec Ideal S512x4096 .f32) = PROD (ROWS m c) (WGT m c 3) :=
  (((W8_arr m ρ c 2)).trans (final3 (V7 m ρ) c)).trans (congrArg₂ PROD (rows3 m ρ c) (weights3 m ρ c))

/-- A layer's projection of the memory, entry by entry: the keys are its first 2048 columns, the values the others. -/
def KV (x : FVec Ideal S2x256x2048 .f32) (w : FVec Ideal S4x2048x4096 .f32) (l : Fin 4) (b : Fin 2) (n : Fin 256) (j : Fin 4096) : EReal :=
  ∑ k : Fin 2048, x (ix3 b n k) * w (ix3 l k j)

/-- A call's product, entry by entry. -/
theorem prod_at (c : Dev nD) (l : Fin 4) (b : Fin 2) (n : Fin 256) (j : Fin 4096) (r : Fin 512) (hr : r.val = b.val * 256 + n.val) :
    PROD (ROWS m c) (WGT m c l) (ix2 r j) = KV (m ((c : Thread nD τ).loc main_arg0)) (m ((c : Thread nD τ).loc main_arg1)) l b n j := by
  have hn := n.isLt
  refine Finset.sum_congr rfl fun k _ => congrArg₂ (· * ·) ?_ rfl
  show (m ((c : Thread nD τ).loc main_arg0) : FVec Ideal S2x256x2048 .f32) (ix3 ⟨r.val / 256, _⟩ ⟨r.val % 256, _⟩ k) = _
  refine congrArg _ ?_
  funext a; match a with
  | ⟨0, _⟩ => refine Fin.ext ?_; show r.val / 256 = b.val; omega
  | ⟨1, _⟩ => refine Fin.ext ?_; show r.val % 256 = n.val; omega
  | ⟨2, _⟩ => rfl

/-- Four layers' first 2048 columns, by heads, stacked: the keys. -/
def KEYS (w x y z : FVec Ideal S512x4096 .f32) : FVec Ideal S4x2x256x4x512 .f32 :=
  concatenate S4x2x256x4x512 0 [⟨S1x2x256x4x512, (broadcastInDim S1x2x256x4x512 ![1, 2, 3, 4] bcast_S2x256x4x512_S1x2x256x4x512_1_2_3_4 (shapeCast S2x256x4x512 (extractStridedSlice S512x2048 ![0, 0] w slices_S512x4096_S512x2048_0_0) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 0] x slices_S512x4096_S512x2048_0_0) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 0] y slices_S512x4096_S512x2048_0_0) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 0] z slices_S512x4096_S512x2048_0_0) shapeCasts_S512x2048_S2x256x4x512))⟩] concatenates_S1x2x256x4x512_S1x2x256x4x512_S1x2x256x4x512_S1x2x256x4x512_S4x2x256x4x512_d0

/-- What the last host operations leave as the keys, over any contents before them. -/
theorem stacked_keys (σ : Valuation τ sig (Elt Ideal)) :
    StableHlo.after hostOps4 σ (Proc.devRef .tc main_v30) = KEYS (σ (Proc.devRef .tc main_v5)) (σ (Proc.devRef .tc main_v9)) (σ (Proc.devRef .tc main_v13)) (σ (Proc.devRef .tc main_v17)) := by
  sl_kernel_rfl

/-- Four layers' last 2048 columns, by heads, stacked: the values. -/
def VALS (w x y z : FVec Ideal S512x4096 .f32) : FVec Ideal S4x2x256x4x512 .f32 :=
  concatenate S4x2x256x4x512 0 [⟨S1x2x256x4x512, (broadcastInDim S1x2x256x4x512 ![1, 2, 3, 4] bcast_S2x256x4x512_S1x2x256x4x512_1_2_3_4 (shapeCast S2x256x4x512 (extractStridedSlice S512x2048 ![0, 2048] w slices_S512x4096_S512x2048_0_2048) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 2048] x slices_S512x4096_S512x2048_0_2048) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 2048] y slices_S512x4096_S512x2048_0_2048) shapeCasts_S512x2048_S2x256x4x512))⟩, ⟨S1x2x256x4x512, (broadcastInDim S1x2x256x4x512 ![1, 2, 3, 4] bcast_S2x256x4x512_S1x2x256x4x512_1_2_3_4 (shapeCast S2x256x4x512 (extractStridedSlice S512x2048 ![0, 2048] z slices_S512x4096_S512x2048_0_2048) shapeCasts_S512x2048_S2x256x4x512))⟩] concatenates_S1x2x256x4x512_S1x2x256x4x512_S1x2x256x4x512_S1x2x256x4x512_S4x2x256x4x512_d0

/-- What the last host operations leave as the values, over any contents before them. -/
theorem stacked_values (σ : Valuation τ sig (Elt Ideal)) :
    StableHlo.after hostOps4 σ (Proc.devRef .tc main_v43) = VALS (σ (Proc.devRef .tc main_v5)) (σ (Proc.devRef .tc main_v9)) (σ (Proc.devRef .tc main_v13)) (σ (Proc.devRef .tc main_v17)) := by
  sl_kernel_rfl

/-- The keys at an index. -/
theorem keys_at (c : Dev nD) (l : Fin 4) (b : Fin 2) (n : Fin 256) (h : Fin 4) (d : Fin 512) :
    KEYS (PROD (ROWS m c) (WGT m c 0)) (PROD (ROWS m c) (WGT m c 1)) (PROD (ROWS m c) (WGT m c 2)) (PROD (ROWS m c) (WGT m c 3)) (ix5 l b n h d)
      = KV (m ((c : Thread nD τ).loc main_arg0)) (m ((c : Thread nD τ).loc main_arg1)) l b n ⟨(h.val * 512 + d.val), by have := h.isLt; have := d.isLt; omega⟩ := by
  have hb := b.isLt
  have hn := n.isLt
  have hh := h.isLt
  have hd := d.isLt
  unfold KEYS
  match l with
  | 0 => generalize hP : PROD (ROWS m c) (WGT m c 0) = P; pointwise; subst hP; exact prod_at m c 0 b n _ _ rfl
  | 1 => generalize hP : PROD (ROWS m c) (WGT m c 1) = P; pointwise; subst hP; exact prod_at m c 1 b n _ _ rfl
  | 2 => generalize hP : PROD (ROWS m c) (WGT m c 2) = P; pointwise; subst hP; exact prod_at m c 2 b n _ _ rfl
  | 3 => generalize hP : PROD (ROWS m c) (WGT m c 3) = P; pointwise; subst hP; exact prod_at m c 3 b n _ _ rfl

/-- The values at an index. -/
theorem values_at (c : Dev nD) (l : Fin 4) (b : Fin 2) (n : Fin 256) (h : Fin 4) (d : Fin 512) :
    VALS (PROD (ROWS m c) (WGT m c 0)) (PROD (ROWS m c) (WGT m c 1)) (PROD (ROWS m c) (WGT m c 2)) (PROD (ROWS m c) (WGT m c 3)) (ix5 l b n h d)
      = KV (m ((c : Thread nD τ).loc main_arg0)) (m ((c : Thread nD τ).loc main_arg1)) l b n ⟨2048 + (h.val * 512 + d.val), by have := h.isLt; have := d.isLt; omega⟩ := by
  have hb := b.isLt
  have hn := n.isLt
  have hh := h.isLt
  have hd := d.isLt
  unfold VALS
  match l with
  | 0 => generalize hP : PROD (ROWS m c) (WGT m c 0) = P; pointwise; subst hP; exact prod_at m c 0 b n _ _ rfl
  | 1 => generalize hP : PROD (ROWS m c) (WGT m c 1) = P; pointwise; subst hP; exact prod_at m c 1 b n _ _ rfl
  | 2 => generalize hP : PROD (ROWS m c) (WGT m c 2) = P; pointwise; subst hP; exact prod_at m c 2 b n _ _ rfl
  | 3 => generalize hP : PROD (ROWS m c) (WGT m c 3) = P; pointwise; subst hP; exact prod_at m c 3 b n _ _ rfl

/-- The reference's keys at an index. -/
theorem ref_keys_at (x0 : FVec Ideal Cert.Reference5Ideal.S2x256x2048 .f32) (x1 : FVec Ideal Cert.Reference5Ideal.S4x2048x4096 .f32)
    (l : Fin 4) (b : Fin 2) (n : Fin 256) (h : Fin 4) (d : Fin 512) :
    Cert.Reference5Ideal.Read.val_main_v3 (F := Ideal) x0 x1 (ix5 l b n h d)
      = KV x0 x1 l b n ⟨(h.val * 512 + d.val), by have := h.isLt; have := d.isLt; omega⟩ := by
  rw [← Cert.Reference5Ideal.Read.val_main_v3_eq]
  unfold KV
  pointwise
  exact Finset.sum_congr rfl fun k _ => mul_comm _ _

/-- The reference's values at an index. -/
theorem ref_values_at (x0 : FVec Ideal Cert.Reference5Ideal.S2x256x2048 .f32) (x1 : FVec Ideal Cert.Reference5Ideal.S4x2048x4096 .f32)
    (l : Fin 4) (b : Fin 2) (n : Fin 256) (h : Fin 4) (d : Fin 512) :
    Cert.Reference5Ideal.Read.val_main_v5 (F := Ideal) x0 x1 (ix5 l b n h d)
      = KV x0 x1 l b n ⟨2048 + (h.val * 512 + d.val), by have := h.isLt; have := d.isLt; omega⟩ := by
  rw [← Cert.Reference5Ideal.Read.val_main_v5_eq]
  unfold KV
  pointwise
  exact Finset.sum_congr rfl fun k _ => mul_comm _ _

/-- The keys after the run are the reference's. -/
theorem final_keys (c : Dev nD) : W9 m ρ c (Proc.devRef .tc main_v30)
    = Cert.Reference5Ideal.Read.val_main_v3 (F := Ideal) (m ((c : Thread nD τ).loc main_arg0)) (m ((c : Thread nD τ).loc main_arg1)) := by
  refine (stacked_keys (W8 m ρ c)).trans ?_
  rw [left0 m ρ c, left1 m ρ c, left2 m ρ c, left3 m ρ c]
  funext i
  obtain ⟨l, b, n, h, d, rfl⟩ : ∃ (l : Fin 4) (b : Fin 2) (n : Fin 256) (h : Fin 4) (d : Fin 512), i = ix5 l b n h d := ⟨i 0, i 1, i 2, i 3, i 4, by
    funext a; match a with
    | ⟨0, _⟩ => rfl
    | ⟨1, _⟩ => rfl
    | ⟨2, _⟩ => rfl
    | ⟨3, _⟩ => rfl
    | ⟨4, _⟩ => rfl⟩
  exact (keys_at m c l b n h d).trans (ref_keys_at _ _ l b n h d).symm

/-- The values after the run are the reference's. -/
theorem final_values (c : Dev nD) : W9 m ρ c (Proc.devRef .tc main_v43)
    = Cert.Reference5Ideal.Read.val_main_v5 (F := Ideal) (m ((c : Thread nD τ).loc main_arg0)) (m ((c : Thread nD τ).loc main_arg1)) := by
  refine (stacked_values (W8 m ρ c)).trans ?_
  rw [left0 m ρ c, left1 m ρ c, left2 m ρ c, left3 m ρ c]
  funext i
  obtain ⟨l, b, n, h, d, rfl⟩ : ∃ (l : Fin 4) (b : Fin 2) (n : Fin 256) (h : Fin 4) (d : Fin 512), i = ix5 l b n h d := ⟨i 0, i 1, i 2, i 3, i 4, by
    funext a; match a with
    | ⟨0, _⟩ => rfl
    | ⟨1, _⟩ => rfl
    | ⟨2, _⟩ => rfl
    | ⟨3, _⟩ => rfl
    | ⟨4, _⟩ => rfl⟩
  exact (values_at m c l b n h d).trans (ref_values_at _ _ l b n h d).symm

/-- The model the launch is stated in. -/
local notation "𝕄" => MT nD τ sig Unit (Elt Ideal) ℕ (UR sig nD τ) ℕ

-- the launch's implicit arguments are found by unification through plain definitions
set_option backward.isDefEq.respectTransparency.types false in
/-- The run, with both results at the last boundary's contents and the arguments unchanged. -/
theorem run : θ_run defs (onTc (τ := τ) (main (F := Ideal))) ⟨m, fun _ => 0, ρ⟩ (fun r => ∀ c : Dev nD,
      r.2.mem ((c.tc : Thread nD τ).loc main_v30) = W9 m ρ c (Proc.devRef .tc main_v30)
      ∧ r.2.mem ((c.tc : Thread nD τ).loc main_v43) = W9 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v30 (by decide)), h c _ (mem_uc main_v43 (by decide)),
       (h c _ (mem_uc main_arg0 (by decide))).trans (W9_main_arg0 m ρ c),
       (h c _ (mem_uc main_arg1 (by decide))).trans (W9_main_arg1 m ρ c)⟩)

end Cert.Kernel5Ideal.Mem

end
-- ==== Proof.Norm.Value.lean ====
/- An output projection with its residual and layer norm: every block of rows the call leaves is the reference's,
   for both results, so the whole arrays are. -/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem

namespace Cert.Kernel6Ideal.Norm

open Cert.Kernel6Ideal Cert.Kernel6Ideal.Gen

variable (m : (ℓ : Loc nD τ sig) → Buf (Elt Ideal) ℓ)

/-- The number of columns, as the programs write it. -/
abbrev WIDTH : EReal := Ideal.ofBits FTy.f32 0x45000000#32

/-- A row minus its mean. -/
def centred (u : Fin 2048 → EReal) (j : Fin 2048) : EReal := u j - Ideal.div (∑ x, u x) WIDTH

/-- A row's layer norm with gain `g` and offset `b`. -/
def normed (u g b : Fin 2048 → EReal) (j : Fin 2048) : EReal :=
  centred u j * Ideal.rsqrt (Ideal.div (∑ x, centred u x * centred u x) WIDTH + Ideal.ofBits FTy.f32 0x3727C5AC#32) * g j + b j

/-- A row of the sum the norm reads: the scaled residual plus the projection. -/
def summed (a : Fin 2048 → EReal) (w : Fin 2048 → Fin 2048 → EReal) (x : Fin 2048 → EReal) (j : Fin 2048) : EReal :=
  Ideal.ofBits FTy.f32 0x3FD744FD#32 * x j + ∑ k, a k * w k j

/-- The reference's first result over the kernel's arguments. -/
abbrev REF (c : Dev nD) : FVec Ideal Cert.Reference6Ideal.S8704x2048 .f32 :=
  Cert.Reference6Ideal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's second result over the kernel's arguments. -/
abbrev REF16 (c : Dev nD) : FVec Ideal Cert.Reference6Ideal.S8704x2048 .bf16 :=
  Cert.Reference6Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The body's value at an index: the layer norm of the row. -/
theorem pay1_at (x0 : FVec Ideal S256x2048 .bf16) (x1 : FVec Ideal S2048x2048 .bf16) (x2 : FVec Ideal S256x2048 .f32)
    (x3 x4 : FVec Ideal S1x2048 .f32) (n : Fin 256) (f : Fin 2048) :
    k0_pay1 (F := Ideal) x0 x1 x2 x3 x4 (ix2 n f)
      = normed (summed (fun k => x0 (ix2 n k)) (fun k j => x1 (ix2 k j)) (fun j => x2 (ix2 n j))) (fun j => x3 (ix2 0 j)) (fun j => x4 (ix2 0 j)) f := by
  unfold k0_pay1 normed centred summed
  pointwise

/-- The reference at an index: the layer norm of the row. -/
theorem result_at (x0 : FVec Ideal Cert.Reference6Ideal.S8704x2048 .bf16) (x1 : FVec Ideal Cert.Reference6Ideal.S2048x2048 .f32)
    (x2 : FVec Ideal Cert.Reference6Ideal.S8704x2048 .f32) (x3 x4 : FVec Ideal Cert.Reference6Ideal.S2048 .f32) (r : Fin 8704) (f : Fin 2048) :
    Cert.Reference6Ideal.Read.val_main_v28 (F := Ideal) x0 x1 x2 x3 x4 (ix2 r f)
      = normed (summed (fun k => x0 (ix2 r k)) (fun k j => x1 (ix2 k j)) (fun j => x2 (ix2 r j))) (fun j => x3 (ix1 j)) (fun j => x4 (ix1 j)) f := by
  rw [← Cert.Reference6Ideal.Read.val_main_v28_eq]
  unfold normed centred summed
  pointwise

/-- The windows' blocks, point by point: the blocks of rows advance, the rest stays. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ t.val < 34 :=
  (by decide +kernel : ∀ t : Fin grid0.N, _)

/-- The rows a point reads. -/
theorem rows_at (c : Dev nD) (t : Fin cfg0.N) (n : Fin 256) (k : Fin 2048) (h : t.val * 256 + n.val < 8704) :
    (iblk m c 0 t : FVec Ideal S256x2048 .bf16) (ix2 n k) = (m ((c : Thread nD τ).loc main_arg0) : FVec Ideal S8704x2048 .bf16) (ix2 ⟨t.val * 256 + n.val, h⟩ k) := by
  blk_ext [iblk, V_main_arg0, idx t]

/-- The residual's rows a point reads. -/
theorem residual_at (c : Dev nD) (t : Fin cfg0.N) (n : Fin 256) (k : Fin 2048) (h : t.val * 256 + n.val < 8704) :
    (iblk m c 2 t : FVec Ideal S256x2048 .f32) (ix2 n k) = (m ((c : Thread nD τ).loc main_arg2) : FVec Ideal S8704x2048 .f32) (ix2 ⟨t.val * 256 + n.val, h⟩ k) := by
  blk_ext [iblk, V_main_arg2, idx t]

/-- The weights as the region finds them, rounding being exact. -/
theorem weights_at (c : Dev nD) (k j : Fin 2048) :
    (V m c main_v0 : FVec Ideal S2048x2048 .bf16) (ix2 k j) = (m ((c : Thread nD τ).loc main_arg1) : FVec Ideal S2048x2048 .f32) (ix2 k j) := by
  entry_read
  pointwise

/-- The gain as the region finds it. -/
theorem gain_at (c : Dev nD) (j : Fin 2048) :
    (V m c main_v1 : FVec Ideal S1x2048 .f32) (ix2 0 j) = (m ((c : Thread nD τ).loc main_arg3) : FVec Ideal S2048 .f32) (ix1 j) := by
  entry_read
  pointwise

/-- The offset as the region finds it. -/
theorem offset_at (c : Dev nD) (j : Fin 2048) :
    (V m c main_v2 : FVec Ideal S1x2048 .f32) (ix2 0 j) = (m ((c : Thread nD τ).loc main_arg4) : FVec Ideal S2048 .f32) (ix1 j) := by
  entry_read
  pointwise

/-- The weights a point reads. -/
theorem block1_at (c : Dev nD) (t : Fin cfg0.N) (k j : Fin 2048) :
    (iblk m c 1 t : FVec Ideal S2048x2048 .bf16) (ix2 k j) = (V m c main_v0 : FVec Ideal S2048x2048 .bf16) (ix2 k j) := by
  blk_ext [iblk, idx t]

/-- The gain a point reads. -/
theorem block3_at (c : Dev nD) (t : Fin cfg0.N) (j : Fin 2048) :
    (iblk m c 3 t : FVec Ideal S1x2048 .f32) (ix2 0 j) = (V m c main_v1 : FVec Ideal S1x2048 .f32) (ix2 0 j) := by
  blk_ext [iblk, idx t]

/-- The offset a point reads. -/
theorem block4_at (c : Dev nD) (t : Fin cfg0.N) (j : Fin 2048) :
    (iblk m c 4 t : FVec Ideal S1x2048 .f32) (ix2 0 j) = (V m c main_v2 : FVec Ideal S1x2048 .f32) (ix2 0 j) := by
  blk_ext [iblk, idx t]

/-- What a point's body writes to the first output, at an index: the reference's value of that row. -/
theorem body_at (c : Dev nD) (t : Fin cfg0.N) (n : Fin 256) (f : Fin 2048) (h : t.val * 256 + n.val < 8704) :
    k0_pay1 (F := Ideal) (iblk m c 0 t) (iblk m c 1 t) (iblk m c 2 t) (iblk m c 3 t) (iblk m c 4 t) (ix2 n f)
      = REF m c (ix2 ⟨t.val * 256 + n.val, h⟩ f) := by
  refine (pay1_at _ _ _ _ _ n f).trans (Eq.trans ?_ (result_at _ _ _ _ _ _ _).symm)
  have e0 : (fun k => (iblk m c 0 t : FVec Ideal S256x2048 .bf16) (ix2 n k)) = _ := funext fun k => rows_at m c t n k h
  have e1 : (fun k j => (iblk m c 1 t : FVec Ideal S2048x2048 .bf16) (ix2 k j)) = _ :=
    funext fun k => funext fun j => (block1_at m c t k j).trans (weights_at m c k j)
  have e2 : (fun k => (iblk m c 2 t : FVec Ideal S256x2048 .f32) (ix2 n k)) = _ := funext fun k => residual_at m c t n k h
  have e3 : (fun j => (iblk m c 3 t : FVec Ideal S1x2048 .f32) (ix2 0 j)) = _ := funext fun j => (block3_at m c t j).trans (gain_at m c j)
  have e4 : (fun j => (iblk m c 4 t : FVec Ideal S1x2048 .f32) (ix2 0 j)) = _ := funext fun j => (block4_at m c t j).trans (offset_at m c j)
  exact congr (congrArg₂ (fun u g => normed u g) (congr (congrArg₂ summed e0 e1) e2) e3) e4 ▸ rfl

/-- The first result after the run is the reference's. -/
theorem final (c : Dev nD) : (dats m 0 c).arrAt 5 cfg0.N = REF m c := by
  refine (dats m 0 c).arrAt_eq_of_covers 5 _ ?_ fun t _ y => ?_
  · refine Pipeline.Window.covers_of_index_surj _ rfl (fun a => ?_) (fun β => ?_)
    · match a with
      | ⟨0, _⟩ => exact (by decide : 0 < 256)
      | ⟨1, _⟩ => exact (by decide : 0 < 2048)
    · have h0 : (β (0 : Fin 2)).val < 34 := lt_of_lt_of_eq (β (0 : Fin 2)).isLt (by decide : (8704 + 256 - 1) / 256 = 34)
      have h1 : (β (1 : Fin 2)).val < 1 := lt_of_lt_of_eq (β (1 : Fin 2)).isLt (by decide : (2048 + 2048 - 1) / 2048 = 1)
      refine ⟨⟨(β (0 : Fin 2)).val, h0⟩, fun a => ?_⟩
      refine (congrFun (idx _).2.2.2.2.2.1 a).trans ?_
      match a with
      | ⟨0, _⟩ => rfl
      | ⟨1, _⟩ => show 0 = (β (1 : Fin 2)).val; omega
  · have hi := (idx t).2.2.2.2.2.2.2
    rw [after0_5]
    change S256x2048.Idx at y
    obtain ⟨n, f, rfl⟩ : ∃ (n : Fin 256) (f : Fin 2048), y = ix2 n f := ⟨y 0, y 1, by
      funext a; match a with
      | ⟨0, _⟩ => rfl
      | ⟨1, _⟩ => rfl⟩
    have hn := n.isLt
    have e : (((cfg0.win 5).rect t).emb (ix2 n f) : S8704x2048.Idx) = ix2 ⟨t.val * 256 + n.val, by omega⟩ f := by
      funext a
      refine Fin.ext ((Pipeline.Window.rect_emb_val (cfg0.win 5) t (ix2 n f) a rfl).trans ?_)
      refine (congrArg (· * _ + _) (congrFun (idx t).2.2.2.2.2.1 a)).trans ?_
      match a with
      | ⟨0, _⟩ => rfl
      | ⟨1, _⟩ => show 0 * 2048 + f.val = f.val; omega
    refine Eq.trans ?_ (congrArg (REF m c) e).symm
    refine Eq.trans ?_ (body_at m c t n f (by omega))
    have hp : (outsAt0 m c t).1 = k0_pay1 (iblk m c 0 t) (iblk m c 1 t) (iblk m c 2 t) (iblk m c 3 t) (iblk m c 4 t) := by
      unfold outsAt0
      frame_out
    rw [hp]
    rfl

/-- The second result after the run is the reference's. -/
theorem final16 (c : Dev nD) : (dats m 0 c).arrAt 6 cfg0.N = REF16 m c := by
  refine (dats m 0 c).arrAt_eq_of_covers 6 _ ?_ fun t _ y => ?_
  · refine Pipeline.Window.covers_of_index_surj _ rfl (fun a => ?_) (fun β => ?_)
    · match a with
      | ⟨0, _⟩ => exact (by decide : 0 < 256)
      | ⟨1, _⟩ => exact (by decide : 0 < 2048)
    · have h0 : (β (0 : Fin 2)).val < 34 := lt_of_lt_of_eq (β (0 : Fin 2)).isLt (by decide : (8704 + 256 - 1) / 256 = 34)
      have h1 : (β (1 : Fin 2)).val < 1 := lt_of_lt_of_eq (β (1 : Fin 2)).isLt (by decide : (2048 + 2048 - 1) / 2048 = 1)
      refine ⟨⟨(β (0 : Fin 2)).val, h0⟩, fun a => ?_⟩
      refine (congrFun (idx _).2.2.2.2.2.2.1 a).trans ?_
      match a with
      | ⟨0, _⟩ => rfl
      | ⟨1, _⟩ => show 0 = (β (1 : Fin 2)).val; omega
  · have hi := (idx t).2.2.2.2.2.2.2
    rw [after0_6]
    change S256x2048.Idx at y
    obtain ⟨n, f, rfl⟩ : ∃ (n : Fin 256) (f : Fin 2048), y = ix2 n f := ⟨y 0, y 1, by
      funext a; match a with
      | ⟨0, _⟩ => rfl
      | ⟨1, _⟩ => rfl⟩
    have hn := n.isLt
    have e : (((cfg0.win 6).rect t).emb (ix2 n f) : S8704x2048.Idx) = ix2 ⟨t.val * 256 + n.val, by omega⟩ f := by
      funext a
      refine Fin.ext ((Pipeline.Window.rect_emb_val (cfg0.win 6) t (ix2 n f) a rfl).trans ?_)
      refine (congrArg (· * _ + _) (congrFun (idx t).2.2.2.2.2.2.1 a)).trans ?_
      match a with
      | ⟨0, _⟩ => rfl
      | ⟨1, _⟩ => show 0 * 2048 + f.val = f.val; omega
    refine Eq.trans ?_ (congrArg (REF16 m c) e).symm
    refine Eq.trans ?_ (body_at m c t n f (by omega))
    have hp : (outsAt0 m c t).2 = k0_pay2 (iblk m c 0 t) (iblk m c 1 t) (iblk m c 2 t) (iblk m c 3 t) (iblk m c 4 t) := by
      unfold outsAt0
      frame_out
    rw [hp]
    rfl

end Cert.Kernel6Ideal.Norm

end
-- ==== Proof.Rope.Value.lean ====
/- The fused query, key and value projection with the rotary embedding: every block the call leaves is the reference's, so
   the whole array is. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem

namespace Cert.Kernel7Ideal.Rope

open Cert.Kernel7Ideal Cert.Kernel7Ideal.Gen

variable (m : (ℓ : Loc nD τ sig) → Buf (Elt Ideal) ℓ)

/-- The reference's result over the kernel's arguments. -/
abbrev REF (c : Dev nD) : FVec Ideal Cert.Reference7Ideal.S8704x6144 .f32 :=
  Cert.Reference7Ideal.Read.val_main_v40 (F := Ideal) (m ((c : Thread nD τ).loc main_arg0)) (m ((c : Thread nD τ).loc main_arg1)) (m ((c : Thread nD τ).loc main_arg2))

/-- The angles, position times frequency, as the reference computes them. -/
abbrev ANG (c : Dev nD) : FVec Ideal S8704x8 .f32 :=
  Cert.Reference7Ideal.Read.val_main_v17 (F := Ideal) (m ((c : Thread nD τ).loc main_arg2))

/-- One row of the projection, its first sixteen lanes of every head below column 4096 rotated by the row's eight angles:
    lane `p < 8` with lane `p + 8`. -/
def spin (P : Fin 6144 → EReal) (A : Fin 8 → EReal) (j : Fin 6144) : EReal :=
  if hj : j.val < 4096 then
    if hp : j.val % 64 < 8 then P j * Ideal.cos (A ⟨j.val % 64, hp⟩) - P ⟨j.val + 8, by omega⟩ * Ideal.sin (A ⟨j.val % 64, hp⟩)
    else if hq : j.val % 64 < 16 then
      P j * Ideal.cos (A ⟨j.val % 64 - 8, by omega⟩) + P ⟨j.val - 8, by omega⟩ * Ideal.sin (A ⟨j.val % 64 - 8, by omega⟩)
    else P j
  else P j

/-! ## The reference -/

/-- The rotation with the columns counted by heads and pieces, as the reference lays them out. -/
theorem ladder_eq (P : Fin 6144 → EReal) (A : Fin 8 → EReal) (j : Fin 6144) :
    (if h : j.val < 4096 then
        if h1 : j.val % 64 < 8 then
          P ⟨j.val / 64 * 64 + j.val % 64, by omega⟩ * Ideal.cos (A ⟨j.val % 64, h1⟩)
            - P ⟨j.val / 64 * 64 + (8 + j.val % 64), by omega⟩ * Ideal.sin (A ⟨j.val % 64, h1⟩)
        else if h2 : j.val % 64 - 8 < 8 then
          P ⟨j.val / 64 * 64 + (8 + (j.val % 64 - 8)), by omega⟩ * Ideal.cos (A ⟨j.val % 64 - 8, h2⟩)
            + P ⟨j.val / 64 * 64 + (j.val % 64 - 8), by omega⟩ * Ideal.sin (A ⟨j.val % 64 - 8, h2⟩)
        else P ⟨j.val / 64 * 64 + (16 + (j.val % 64 - 8 - 8)), by omega⟩
      else P ⟨4096 + (j.val - 4096), by omega⟩) = spin P A j := by
  have hj := j.isLt
  have key : ∀ (a b : ℕ) (ha : a < 6144) (hb : b < 6144), a = b → P ⟨a, ha⟩ = P ⟨b, hb⟩ := by
    intro a b ha hb e; subst e; rfl
  unfold spin
  by_cases h : j.val < 4096
  · rw [dif_pos h, dif_pos h]
    by_cases hp : j.val % 64 < 8
    · rw [dif_pos hp, dif_pos hp, key (j.val / 64 * 64 + j.val % 64) j.val _ hj (by omega), key (j.val / 64 * 64 + (8 + j.val % 64)) (j.val + 8) _ (by omega) (by omega)]
    · rw [dif_neg hp, dif_neg hp]
      by_cases hq : j.val % 64 < 16
      · rw [dif_pos (show j.val % 64 - 8 < 8 by omega), dif_pos hq, key (j.val / 64 * 64 + (8 + (j.val % 64 - 8))) j.val _ hj (by omega), key (j.val / 64 * 64 + (j.val % 64 - 8)) (j.val - 8) _ (by omega) (by omega)]
      · rw [dif_neg (show ¬j.val % 64 - 8 < 8 by omega), dif_neg hq]
        exact key _ j.val _ hj (by omega)
  · rw [dif_neg h, dif_neg h]
    exact key _ j.val _ hj (by omega)

open Cert.Reference7Ideal.Read in
/-- The reference at an index, over its projection and its angles. -/
theorem result_of (x0 : FVec Ideal Cert.Reference7Ideal.S8704x2048 .bf16) (x1 : FVec Ideal Cert.Reference7Ideal.S2048x6144 .f32) (x2 : IVec Cert.Reference7Ideal.S8704 32)
    (Q : FVec Ideal Cert.Reference7Ideal.S8704x6144 .f32) (hQ : val_main_v1 (F := Ideal) x0 x1 = Q)
    (A : FVec Ideal Cert.Reference7Ideal.S8704x8 .f32) (hA : val_main_v17 (F := Ideal) x2 = A) (r : Fin 8704) (j : Fin 6144) :
    val_main_v40 (F := Ideal) x0 x1 x2 (ix2 r j) = spin (fun j => Q (ix2 r j)) (fun q => A (ix2 r q)) j := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, hQ, hA]
  exact ladder_eq (fun j => Q (ix2 r j)) (fun q => A (ix2 r q)) j

open Cert.Reference7Ideal.Read in
/-- The reference's projection at an index. -/
theorem projection_at (x0 : FVec Ideal Cert.Reference7Ideal.S8704x2048 .bf16) (x1 : FVec Ideal Cert.Reference7Ideal.S2048x6144 .f32) (r : Fin 8704) (j : Fin 6144) :
    val_main_v1 (F := Ideal) x0 x1 (ix2 r j) = ∑ k : Fin 2048, x0 (ix2 r k) * x1 (ix2 k j) := by
  pointwise [val_main_v1, val_main_v0]

/-! ## The tables the region is handed -/

/-- Two copies of a 64-column table side by side. -/
def twice (x : FVec Ideal S8704x64 .f32) : FVec Ideal S8704x128 .f32 :=
  shapeCast S8704x128 (broadcastInDim S1x8704x2x64 ![0, 1, 2, 3] bcast_S1x8704x1x64_S1x8704x2x64_0_1_2_3 (shapeCast S1x8704x1x64 x shapeCasts_S8704x64_S1x8704x1x64)) shapeCasts_S1x8704x2x64_S8704x128

/-- Three column pieces of widths 8, 8 and 48 side by side. -/
def three (x y : FVec Ideal S8704x8 .f32) (z : FVec Ideal S8704x48 .f32) : FVec Ideal S8704x64 .f32 :=
  concatenate S8704x64 1 [⟨S8704x8, x⟩, ⟨S8704x8, y⟩, ⟨S8704x48, z⟩] concatenates_S8704x8_S8704x8_S8704x48_S8704x64_d1

/-- A 48-column table of one number. -/
def same48 (b : BitVec 32) : FVec Ideal S8704x48 .f32 := broadcastInDim S8704x48 ![] bcast_S_S8704x48 (constant S_ .f32 b)

/-- An 8-column table of one number. -/
def same8 (b : BitVec 32) : FVec Ideal S8704x8 .f32 := broadcastInDim S8704x8 ![] bcast_S_S8704x8 (constant S_ .f32 b)

/-- The cosine table as the host builds it. -/
theorem tab_c (c : Dev nD) : (V m c main_v28 : FVec Ideal S8704x128 .f32)
    = twice (three (Host.cos (ANG m c)) (Host.cos (ANG m c)) (same48 0x3F800000#32)) := by
  sl_kernel_rfl

/-- The table for the lane eight to the left as the host builds it. -/
theorem tab_s (c : Dev nD) : (V m c main_v31 : FVec Ideal S8704x128 .f32)
    = twice (three (same8 0x00000000#32) (Host.sin (ANG m c)) (same48 0x00000000#32)) := by
  sl_kernel_rfl

/-- The table for the lane eight to the right as the host builds it. -/
theorem tab_t (c : Dev nD) : (V m c main_v34 : FVec Ideal S8704x128 .f32)
    = twice (three (Host.negf (Host.sin (ANG m c))) (same8 0x00000000#32) (same48 0x00000000#32)) := by
  sl_kernel_rfl

/-- A table at an index: the piece the lane, counted inside its head, falls in. -/
theorem table_at (x y : FVec Ideal S8704x8 .f32) (z : FVec Ideal S8704x48 .f32) (r : Fin 8704) (p : Fin 128) :
    twice (three x y z) (ix2 r p)
      = if h : p.val % 64 < 8 then x (ix2 r ⟨p.val % 64, h⟩)
        else if h' : p.val % 64 - 8 < 8 then y (ix2 r ⟨p.val % 64 - 8, h'⟩) else z (ix2 r ⟨p.val % 64 - 8 - 8, by omega⟩) := by
  unfold twice three
  pointwise

/-- The weights as the region finds them, rounding being exact. -/
theorem weights_at (c : Dev nD) (k : Fin 2048) (j : Fin 6144) :
    (V m c main_v0 : FVec Ideal S2048x6144 .bf16) (ix2 k j) = (m ((c : Thread nD τ).loc main_arg1) : FVec Ideal S2048x6144 .f32) (ix2 k j) := by
  have e : (V m c main_v0 : FVec Ideal S2048x6144 .bf16)
      = (truncf (F := Ideal) .bf16 (m ((c : Thread nD τ).loc main_arg1) : FVec Ideal S2048x6144 .f32) bitsLt_bf16_f32 : FVec Ideal S2048x6144 .bf16) := by
    sl_kernel_rfl
  rw [e]
  pointwise

/-! ## The body -/

/-- A block after the rotation: each lane with its partners eight lanes to the left and to the right inside its 128
    columns, weighted by the three tables. -/
def turned (P : FVec Ideal S512x1024 .f32) (C S T : FVec Ideal S512x128 .f32) (n : Fin 512) (f : Fin 1024) : EReal :=
  P (ix2 n f) * C (ix2 n ⟨f.val % 128, by omega⟩)
    + P (ix2 n ⟨f.val / 128 * 128 + (f.val % 128 + 120) % 128, by omega⟩) * S (ix2 n ⟨f.val % 128, by omega⟩)
    + P (ix2 n ⟨f.val / 128 * 128 + (f.val % 128 + 8) % 128, by omega⟩) * T (ix2 n ⟨f.val % 128, by omega⟩)

/-- The rotated block in one of its pieces of 128 columns, that piece starting at column `o`. -/
theorem piece_at (P : FVec Ideal S512x1024 .f32) (C S T : FVec Ideal S512x128 .f32) (o : ℕ) (h : o % 128 = 0) (h' : o + 128 ≤ 1024)
    (n : Fin 512) (q : Fin 128) (f : Fin 1024) (e : f.val = o + q.val) :
    P (ix2 n ⟨o + q.val, by omega⟩) * C (ix2 n q) + P (ix2 n ⟨o + (q.val + 128 - 8) % 128, by omega⟩) * S (ix2 n q)
      + P (ix2 n ⟨o + (q.val + 128 - 120) % 128, by omega⟩) * T (ix2 n q) = turned P C S T n f := by
  have hq := q.isLt
  have a0 : (⟨o + q.val, by omega⟩ : Fin 1024) = f := Fin.ext e.symm
  have a1 : q = ⟨f.val % 128, by omega⟩ := Fin.ext (by show q.val = f.val % 128; omega)
  have a2 : (⟨o + (q.val + 128 - 8) % 128, by omega⟩ : Fin 1024) = ⟨f.val / 128 * 128 + (f.val % 128 + 120) % 128, by omega⟩ :=
    Fin.ext (by show o + (q.val + 128 - 8) % 128 = f.val / 128 * 128 + (f.val % 128 + 120) % 128; omega)
  have a3 : (⟨o + (q.val + 128 - 120) % 128, by omega⟩ : Fin 1024) = ⟨f.val / 128 * 128 + (f.val % 128 + 8) % 128, by omega⟩ :=
    Fin.ext (by show o + (q.val + 128 - 120) % 128 = f.val / 128 * 128 + (f.val % 128 + 8) % 128; omega)
  unfold turned
  rw [a0, a2, a3, ← a1]

/-- The same for the first piece, which starts at column 0. -/
theorem piece_at_zero (P : FVec Ideal S512x1024 .f32) (C S T : FVec Ideal S512x128 .f32)
    (n : Fin 512) (q : Fin 128) (f : Fin 1024) (e : f.val = q.val) :
    P (ix2 n ⟨q.val, by omega⟩) * C (ix2 n q) + P (ix2 n ⟨(q.val + 128 - 8) % 128, by omega⟩) * S (ix2 n q)
      + P (ix2 n ⟨(q.val + 128 - 120) % 128, by omega⟩) * T (ix2 n q) = turned P C S T n f := by
  refine Eq.trans ?_ (piece_at P C S T 0 rfl (by decide) n q f (by omega))
  simp only [Nat.zero_add]

/-- What a point of the first four column blocks leaves: its product, rotated. -/
theorem left_rotated (c : Dev nD) (t : Fin cfg0.N) (h0 : t.val < 68) (h1 : ¬68 ≤ t.val) (n : Fin 512) (f : Fin 1024) :
    outsAt0 m c t.val t.isLt (ix2 n f) = turned (k0_pay1 (iblk m c 0 t) (iblk m c 1 t)) (iblk m c 2 t) (iblk m c 3 t) (iblk m c 4 t) n f := by
  rw [outsAt0_A m c t h0 h1]
  frame_out
  generalize iblk m c 2 t = C
  generalize iblk m c 3 t = S
  generalize iblk m c 4 t = T
  generalize hP : k0_pay1 (iblk m c 0 t) (iblk m c 1 t) = P
  clear hP
  generalize hy : (ix2 n f : S512x1024.Idx) = y
  obtain rfl : n = y 0 := congrFun hy 0
  obtain rfl : f = y 1 := congrFun hy 1
  clear hy
  canon_tiles x e
  all_goals
    obtain ⟨a, b, rfl⟩ : ∃ (a : Fin 512) (b : Fin 128), x = ix2 a b := ⟨x 0, x 1, eq_ix2 x⟩
    refine Eq.trans ?_ (congrArg (fun n => turned P C S T n (y 1)) (Fin.ext e0 : y 0 = a)).symm
    open_payloads
    pointwise
    first
      | exact piece_at P C S T _ (by decide) (by decide) a b (y 1) e1
      | exact piece_at_zero P C S T a b (y 1) e1

/-- What a point of the last two column blocks leaves: its product. -/
theorem left_plain (c : Dev nD) (t : Fin cfg0.N) (h0 : ¬t.val < 68) (h1 : 68 ≤ t.val) :
    outsAt0 m c t.val t.isLt = k0_pay1 (iblk m c 0 t) (iblk m c 1 t) := by
  rw [outsAt0_B m c t h0 h1]
  frame_out

/-- The product of one block of rows and one of columns, at an index. -/
theorem pay1_at (x : FVec Ideal S512x2048 .bf16) (w : FVec Ideal S2048x1024 .bf16) (n : Fin 512) (f : Fin 1024) :
    k0_pay1 (F := Ideal) x w (ix2 n f) = ∑ k : Fin 2048, x (ix2 n k) * w (ix2 k f) := by
  unfold k0_pay1
  pointwise

/-! ## What a point reads -/

/-- The windows' blocks, point by point: the columns' block moves slowest. -/
theorem idx : ∀ t : Fin cfg0.N, win0_0.index t = ![t.val % 17, 0] ∧ win0_1.index t = ![0, t.val / 17]
    ∧ win0_2.index t = ![t.val % 17, 0] ∧ win0_3.index t = ![t.val % 17, 0] ∧ win0_4.index t = ![t.val % 17, 0]
    ∧ win0_5.index t = ![t.val % 17, t.val / 17] ∧ t.val / 17 < 6 :=
  (by decide +kernel : ∀ t : Fin grid0.N, _)

/-- The rows a point reads. -/
theorem rows_at (c : Dev nD) (t : Fin cfg0.N) (n : Fin 512) (k : Fin 2048) (h : t.val % 17 * 512 + n.val < 8704) :
    (iblk m c 0 t : FVec Ideal S512x2048 .bf16) (ix2 n k) = (m ((c : Thread nD τ).loc main_arg0) : FVec Ideal S8704x2048 .bf16) (ix2 ⟨t.val % 17 * 512 + n.val, h⟩ k) := by
  blk_ext [iblk, V_main_arg0, idx t]

/-- The weights a point reads. -/
theorem cols_at (c : Dev nD) (t : Fin cfg0.N) (k : Fin 2048) (f : Fin 1024) (h : t.val / 17 * 1024 + f.val < 6144) :
    (iblk m c 1 t : FVec Ideal S2048x1024 .bf16) (ix2 k f) = (V m c main_v0 : FVec Ideal S2048x6144 .bf16) (ix2 k ⟨t.val / 17 * 1024 + f.val, h⟩) := by
  blk_ext [iblk, idx t]

/-- The cosine table's rows a point reads. -/
theorem c_at (c : Dev nD) (t : Fin cfg0.N) (n : Fin 512) (q : Fin 128) (h : t.val % 17 * 512 + n.val < 8704) :
    (iblk m c 2 t : FVec Ideal S512x128 .f32) (ix2 n q) = (V m c main_v28 : FVec Ideal S8704x128 .f32) (ix2 ⟨t.val % 17 * 512 + n.val, h⟩ q) := by
  blk_ext [iblk, idx t]

/-- The left table's rows a point reads. -/
theorem s_at (c : Dev nD) (t : Fin cfg0.N) (n : Fin 512) (q : Fin 128) (h : t.val % 17 * 512 + n.val < 8704) :
    (iblk m c 3 t : FVec Ideal S512x128 .f32) (ix2 n q) = (V m c main_v31 : FVec Ideal S8704x128 .f32) (ix2 ⟨t.val % 17 * 512 + n.val, h⟩ q) := by
  blk_ext [iblk, idx t]

/-- The right table's rows a point reads. -/
theorem t_at (c : Dev nD) (t : Fin cfg0.N) (n : Fin 512) (q : Fin 128) (h : t.val % 17 * 512 + n.val < 8704) :
    (iblk m c 4 t : FVec Ideal S512x128 .f32) (ix2 n q) = (V m c main_v34 : FVec Ideal S8704x128 .f32) (ix2 ⟨t.val % 17 * 512 + n.val, h⟩ q) := by
  blk_ext [iblk, idx t]

/-- The reference's projection over the kernel's arguments. -/
abbrev PROJ (c : Dev nD) : FVec Ideal S8704x6144 .f32 :=
  Cert.Reference7Ideal.Read.val_main_v1 (F := Ideal) (m ((c : Thread nD τ).loc main_arg0)) (m ((c : Thread nD τ).loc main_arg1))

/-- The product a point computes, at an index: the reference's projection. -/
theorem product_at (c : Dev nD) (t : Fin cfg0.N) (n : Fin 512) (f : Fin 1024) (h : t.val % 17 * 512 + n.val < 8704) (h' : t.val / 17 * 1024 + f.val < 6144) :
    k0_pay1 (F := Ideal) (iblk m c 0 t) (iblk m c 1 t) (ix2 n f) = PROJ m c (ix2 ⟨t.val % 17 * 512 + n.val, h⟩ ⟨t.val / 17 * 1024 + f.val, h'⟩) := by
  refine (pay1_at _ _ n f).trans (Eq.trans ?_ (projection_at _ _ _ _).symm)
  exact Finset.sum_congr rfl fun k _ => congrArg₂ (· * ·) (rows_at m c t n k h) ((cols_at m c t k f h').trans (weights_at m c _ _))

/-- A rotated block at an index, its product and tables read as functions: the row's rotation. The zero entries of the
    tables drop the partner that does not belong to the lane. -/
theorem turned_eq (P : FVec Ideal S512x1024 .f32) (C S T : FVec Ideal S512x128 .f32) (p : Fin 6144 → EReal) (A : Fin 8 → EReal) (b : ℕ) (hb : b < 4)
    (n : Fin 512) (f : Fin 1024)
    (hP : ∀ g : Fin 1024, P (ix2 n g) = p ⟨b * 1024 + g.val, by omega⟩)
    (hC : ∀ q : Fin 128, C (ix2 n q) = if h : q.val % 64 < 8 then Ideal.cos (A ⟨q.val % 64, h⟩)
        else if h' : q.val % 64 - 8 < 8 then Ideal.cos (A ⟨q.val % 64 - 8, h'⟩) else 1)
    (hS : ∀ q : Fin 128, S (ix2 n q) = if h : q.val % 64 < 8 then 0
        else if h' : q.val % 64 - 8 < 8 then Ideal.sin (A ⟨q.val % 64 - 8, h'⟩) else 0)
    (hT : ∀ q : Fin 128, T (ix2 n q) = if h : q.val % 64 < 8 then -Ideal.sin (A ⟨q.val % 64, h⟩)
        else if h' : q.val % 64 - 8 < 8 then 0 else 0) :
    turned P C S T n f = spin p A ⟨b * 1024 + f.val, by omega⟩ := by
  have hf := f.isLt
  have key : ∀ (x y : ℕ) (hx : x < 6144) (hy : y < 6144), x = y → p ⟨x, hx⟩ = p ⟨y, hy⟩ := by
    intro x y hx hy e; subst e; rfl
  have keyA : ∀ (x y : ℕ) (hx : x < 8) (hy : y < 8), x = y → A ⟨x, hx⟩ = A ⟨y, hy⟩ := by
    intro x y hx hy e; subst e; rfl
  unfold turned spin
  rw [hP, hP, hP, hC, hS, hT]
  rw [dif_pos (show b * 1024 + f.val < 4096 by omega)]
  dsimp only
  by_cases hp : f.val % 128 % 64 < 8
  · rw [dif_pos hp, dif_pos hp, dif_pos hp, dif_pos (show (b * 1024 + f.val) % 64 < 8 by omega), mul_zero, add_zero, mul_neg, ← sub_eq_add_neg]
    rw [keyA _ ((b * 1024 + f.val) % 64) _ (by omega) (by omega), key (b * 1024 + (f.val / 128 * 128 + (f.val % 128 + 8) % 128)) (b * 1024 + f.val + 8) _ (by omega) (by omega)]
  · rw [dif_neg hp, dif_neg hp, dif_neg hp, dif_neg (show ¬(b * 1024 + f.val) % 64 < 8 by omega)]
    by_cases hq : f.val % 128 % 64 - 8 < 8
    · rw [dif_pos hq, dif_pos hq, dif_pos hq, dif_pos (show (b * 1024 + f.val) % 64 < 16 by omega), mul_zero, add_zero]
      rw [keyA _ ((b * 1024 + f.val) % 64 - 8) _ (by omega) (by omega), key (b * 1024 + (f.val / 128 * 128 + (f.val % 128 + 120) % 128)) (b * 1024 + f.val - 8) _ (by omega) (by omega)]
    · rw [dif_neg hq, dif_neg hq, dif_neg hq, dif_neg (show ¬(b * 1024 + f.val) % 64 < 16 by omega), mul_zero, mul_zero, add_zero, add_zero, mul_one]

/-- The rotation leaves the columns from 4096 on as they are. -/
theorem spin_right (p : Fin 6144 → EReal) (A : Fin 8 → EReal) (j : Fin 6144) (h : ¬j.val < 4096) : spin p A j = p j := by
  unfold spin
  rw [dif_neg h]

/-- The cosine table at an index. -/
theorem cos_at (c : Dev nD) (r : Fin 8704) (q : Fin 128) :
    (V m c main_v28 : FVec Ideal S8704x128 .f32) (ix2 r q) = if h : q.val % 64 < 8 then Ideal.cos (ANG m c (ix2 r ⟨q.val % 64, h⟩))
        else if h' : q.val % 64 - 8 < 8 then Ideal.cos (ANG m c (ix2 r ⟨q.val % 64 - 8, h'⟩)) else 1 := by
  refine (congrFun (tab_c m c) _).trans ((table_at _ _ _ r q).trans ?_)
  generalize ANG m c = A
  pointwise [same48]

/-- The left table at an index. -/
theorem left_at (c : Dev nD) (r : Fin 8704) (q : Fin 128) :
    (V m c main_v31 : FVec Ideal S8704x128 .f32) (ix2 r q) = if h : q.val % 64 < 8 then 0
        else if h' : q.val % 64 - 8 < 8 then Ideal.sin (ANG m c (ix2 r ⟨q.val % 64 - 8, h'⟩)) else 0 := by
  refine (congrFun (tab_s m c) _).trans ((table_at _ _ _ r q).trans ?_)
  generalize ANG m c = A
  pointwise [same48, same8]

/-- The right table at an index. -/
theorem right_at (c : Dev nD) (r : Fin 8704) (q : Fin 128) :
    (V m c main_v34 : FVec Ideal S8704x128 .f32) (ix2 r q) = if h : q.val % 64 < 8 then -Ideal.sin (ANG m c (ix2 r ⟨q.val % 64, h⟩))
        else if h' : q.val % 64 - 8 < 8 then 0 else 0 := by
  refine (congrFun (tab_t m c) _).trans ((table_at _ _ _ r q).trans ?_)
  generalize ANG m c = A
  pointwise [same48, same8]

/-- What a point's body writes, at an index: the reference's value there. -/
theorem body_at (c : Dev nD) (t : Fin cfg0.N) (n : Fin 512) (f : Fin 1024) (h : t.val % 17 * 512 + n.val < 8704) (h' : t.val / 17 * 1024 + f.val < 6144) :
    outsAt0 m c t.val t.isLt (ix2 n f) = REF m c (ix2 ⟨t.val % 17 * 512 + n.val, h⟩ ⟨t.val / 17 * 1024 + f.val, h'⟩) := by
  refine Eq.trans ?_ (result_of _ _ _ (PROJ m c) rfl (ANG m c) rfl _ _).symm
  by_cases h0 : t.val < 68
  · refine (left_rotated m c t h0 (by omega) n f).trans ?_
    exact turned_eq _ _ _ _ _ _ (t.val / 17) (by omega) n f (fun g => product_at m c t n g h (by have := g.isLt; omega))
      (fun q => (c_at m c t n q h).trans (cos_at m c _ q)) (fun q => (s_at m c t n q h).trans (left_at m c _ q))
      (fun q => (t_at m c t n q h).trans (right_at m c _ q))
  · refine (congrFun (left_plain m c t h0 (by omega)) _).trans ((product_at m c t n f h h').trans ?_)
    exact (spin_right (fun j => PROJ m c (ix2 ⟨t.val % 17 * 512 + n.val, h⟩ j)) (fun q => ANG m c (ix2 ⟨t.val % 17 * 512 + n.val, h⟩ q)) ⟨t.val / 17 * 1024 + f.val, h'⟩ (by show ¬t.val / 17 * 1024 + f.val < 4096; omega)).symm

/-- The result after the run is the reference's. -/
theorem final (c : Dev nD) : (dats m 0 c).arrAt 5 cfg0.N = REF m c := by
  refine (dats m 0 c).arrAt_eq_of_covers 5 _ ?_ fun t _ y => ?_
  · refine Pipeline.Window.covers_of_index_surj _ rfl (fun a => ?_) (fun β => ?_)
    · match a with
      | ⟨0, _⟩ => exact (by decide : 0 < 512)
      | ⟨1, _⟩ => exact (by decide : 0 < 1024)
    · have h0 : (β (0 : Fin 2)).val < 17 := lt_of_lt_of_eq (β (0 : Fin 2)).isLt (by decide : (8704 + 512 - 1) / 512 = 17)
      have h1 : (β (1 : Fin 2)).val < 6 := lt_of_lt_of_eq (β (1 : Fin 2)).isLt (by decide : (6144 + 1024 - 1) / 1024 = 6)
      refine ⟨⟨(β (1 : Fin 2)).val * 17 + (β (0 : Fin 2)).val, by show _ < 102; omega⟩, fun a => ?_⟩
      refine (congrFun (idx _).2.2.2.2.2.1 a).trans ?_
      match a with
      | ⟨0, _⟩ => show ((β (1 : Fin 2)).val * 17 + (β (0 : Fin 2)).val) % 17 = (β (0 : Fin 2)).val; omega
      | ⟨1, _⟩ => show ((β (1 : Fin 2)).val * 17 + (β (0 : Fin 2)).val) / 17 = (β (1 : Fin 2)).val; omega
  · have hi := (idx t).2.2.2.2.2.2
    rw [after0_5]
    change S512x1024.Idx at y
    obtain ⟨n, f, rfl⟩ : ∃ (n : Fin 512) (f : Fin 1024), y = ix2 n f := ⟨y 0, y 1, eq_ix2 y⟩
    have hn := n.isLt
    have hf := f.isLt
    have e : (((cfg0.win 5).rect t).emb (ix2 n f) : S8704x6144.Idx) = ix2 ⟨t.val % 17 * 512 + n.val, by omega⟩ ⟨t.val / 17 * 1024 + f.val, by omega⟩ := by
      funext a
      refine Fin.ext ((Pipeline.Window.rect_emb_val (cfg0.win 5) t (ix2 n f) a rfl).trans ?_)
      refine (congrArg (· * _ + _) (congrFun (idx t).2.2.2.2.2.1 a)).trans ?_
      match a with
      | ⟨0, _⟩ => rfl
      | ⟨1, _⟩ => rfl
    refine Eq.trans ?_ (congrArg (REF m c) e).symm
    exact body_at m c t n f _ _

end Cert.Kernel7Ideal.Rope

end
-- ==== Proof.Cross.Math.lean ====
/- The arithmetic of one head of the cross attention on the extended reals. -/
module

public import proofs.«01_k».proof.Proof.Attn.Math

@[expose] public section

noncomputable section

open Idealize.ShloMosaic

namespace Cert.Cross

open Cert.Attn (rowMax bottom weight)

/-- The factor of the scores: the rounding of one over the square root of 512. -/
abbrev factor : EReal := Ideal.ofBits .f32 0x3D3504F3#32

/-- The score of a query against a key. -/
def score (q k : Fin 512 → EReal) : EReal := (∑ d, q d * k d) * factor

/-- A query's output at one lane: the lane's values weighted with the softmax of the query's scores. -/
def attend (q : Fin 512 → EReal) (k : Fin 256 → Fin 512 → EReal) (v : Fin 256 → EReal) : EReal :=
  ∑ n, weight (score q (k n)) (rowMax fun x => score q (k x))
    (∑ x, Ideal.exp (score q (k x) - rowMax fun x => score q (k x))) * v n

/-- Folding minus infinity into a row's maximum once more changes nothing. -/
theorem max_bottom {n : ℕ} (s : Fin n → EReal) : max bottom (rowMax s) = rowMax s :=
  max_eq_right (Finset.le_fold_max bottom |>.2 (.inl le_rfl))

end Cert.Cross

end
-- ==== Proof.Cross.Head.lean ====
/- One head of the cross attention's two bodies, as a softmax over the head's scores: the queries' 512 lanes against the
   memory's 256 rows, and the values weighted with it. -/
module

public import proofs.«01_k».proof.Proof.Gen.Kernel8Ideal.Skeleton
public import proofs.«01_k».proof.Proof.Cross.Math
public import Idealize.ShloMosaic.Lib.Pointwise

@[expose] public section

set_option maxRecDepth 16384

noncomputable section

open Idealize.ShloMosaic Idealize.ShloMosaic.TcCoe Idealize.SL.Sem

namespace Cert.Kernel8Ideal.Cross

open Cert.Kernel8Ideal Cert.Kernel8Ideal.Gen Cert.Cross

/-- A head of the prompt's body: its queries' lanes from `o` on. -/
def head0 (X : FVec Ideal S512x2048 .bf16) (W : FVec Ideal S2048x2048 .bf16) (o : ℕ) (sl : S512x2048.Slices ![0, o] S512x512)
    (K V : FVec Ideal S256x512 .f32) : FVec Ideal S512x512 .bf16 :=
  k0_pay1 (truncf .bf16 (extractStridedSlice S512x512 ![0, o] (k0_pay2 X W) sl) bitsLt_bf16_f32) (k0_pay9 K)
    (constant S512x256 .f32 0x00000000#32) V

/-- A query of the prompt's body: the product of a row and the projection's columns. -/
theorem query0_at (X : FVec Ideal S512x2048 .bf16) (W : FVec Ideal S2048x2048 .bf16) (i : Fin 512) (j : Fin 2048) :
    k0_pay2 (F := Ideal) X W (ix2 i j) = ∑ k : Fin 2048, X (ix2 i k) * W (ix2 k j) := by
  pointwise [k0_pay2]

/-- The head of given queries. -/
theorem pay0_at (q : FVec Ideal S512x512 .bf16) (K V : FVec Ideal S256x512 .f32) (i e : Fin 512) :
    k0_pay1 (F := Ideal) q (k0_pay9 K) (constant S512x256 .f32 0x00000000#32) V (ix2 i e)
      = attend (fun d => q (ix2 i d)) (fun n d => K (ix2 n d)) (fun n => V (ix2 n e)) := by
  pointwise [k0_pay1, k0_pay9]
  rfl

/-- A head of the prompt's body at an index. -/
theorem head0_at (X : FVec Ideal S512x2048 .bf16) (W : FVec Ideal S2048x2048 .bf16) (o : ℕ) (ho : o + 512 ≤ 2048)
    (sl : S512x2048.Slices ![0, o] S512x512) (K V : FVec Ideal S256x512 .f32) (i e : Fin 512) :
    head0 X W o sl K V (ix2 i e)
      = attend (fun d => ∑ k : Fin 2048, X (ix2 i k) * W (ix2 k ⟨o + d.val, by have := d.isLt; omega⟩)) (fun n d => K (ix2 n d)) (fun n => V (ix2 n e)) := by
  refine (pay0_at _ K V i e).trans (congrArg (fun q => attend q (fun n d => K (ix2 n d)) (fun n => V (ix2 n e))) (funext fun d => ?_))
  refine Eq.trans ?_ (query0_at X W i ⟨o + d.val, by have := d.isLt; omega⟩)
  generalize k0_pay2 (F := Ideal) X W = y
  pointwise

/-- A head of the new tokens' body: its queries' lanes from `o` on. -/
def head1 (X : FVec Ideal S64x2048 .bf16) (W : FVec Ideal S2048x2048 .bf16) (o : ℕ) (sl : S64x2048.Slices ![0, o] S64x512)
    (K V : FVec Ideal S1x1x256x512 .f32) : FVec Ideal S64x512 .bf16 :=
  k1_pay7 (truncf .bf16 (extractStridedSlice S64x512 ![0, o] (k1_pay3 X W) sl) bitsLt_bf16_f32) (k1_pay6 K) V

/-- A query of the new tokens' body. -/
theorem query1_at (X : FVec Ideal S64x2048 .bf16) (W : FVec Ideal S2048x2048 .bf16) (i : Fin 64) (j : Fin 2048) :
    k1_pay3 (F := Ideal) X W (ix2 i j) = ∑ k : Fin 2048, X (ix2 i k) * W (ix2 k j) := by
  pointwise [k1_pay3]

/-- The head of given queries. -/
theorem pay1_at (q : FVec Ideal S64x512 .bf16) (K V : FVec Ideal S1x1x256x512 .f32) (i : Fin 64) (e : Fin 512) :
    k1_pay7 (F := Ideal) q (k1_pay6 K) V (ix2 i e)
      = attend (fun d => q (ix2 i d)) (fun n d => K (ix4 0 0 n d)) (fun n => V (ix4 0 0 n e)) := by
  pointwise [k1_pay7, k1_pay6]
  rfl

/-- A head of the new tokens' body at an index. -/
theorem head1_at (X : FVec Ideal S64x2048 .bf16) (W : FVec Ideal S2048x2048 .bf16) (o : ℕ) (ho : o + 512 ≤ 2048)
    (sl : S64x2048.Slices ![0, o] S64x512) (K V : FVec Ideal S1x1x256x512 .f32) (i : Fin 64) (e : Fin 512) :
    head1 X W o sl K V (ix2 i e)
      = attend (fun d => ∑ k : Fin 2048, X (ix2 i k) * W (ix2 k ⟨o + d.val, by have := d.isLt; omega⟩)) (fun n d => K (ix4 0 0 n d)) (fun n => V (ix4 0 0 n e)) := by
  refine (pay1_at _ K V i e).trans (congrArg (fun q => attend q (fun n d => K (ix4 0 0 n d)) (fun n => V (ix4 0 0 n e))) (funext fun d => ?_))
  refine Eq.trans ?_ (query1_at X W i ⟨o + d.val, by have := d.isLt; omega⟩)
  generalize k1_pay3 (F := Ideal) X W = y
  pointwise

end Cert.Kernel8Ideal.Cross

end
-- ==== Proof.Cross.Ref.lean ====
/- The reference of the cross attention read at an index: each row and lane holds the softmax of its query's scores against
   the memory's rows, times the values, in the prompt's rows from the new keys and values and in the new tokens' rows from
   the cached ones. -/
module

public import proofs.«01_k».proof.Proof.Gen.Reference8Ideal.Read
public import proofs.«01_k».proof.Proof.Cross.Math
public import Idealize.ShloMosaic.Lib.Pointwise

@[expose] public section

set_option maxRecDepth 16384

noncomputable section

open Idealize.ShloMosaic Idealize.ShloMosaic.TcCoe Idealize.SL.Sem

namespace Cert.Reference8Ideal.Cross

open Cert.Reference8Ideal Cert.Reference8Ideal.Gen Cert.Reference8Ideal.Read Cert.Cross Cert.Attn

section prompt

/-- The maximum over the memory's rows, at an index, for the prompt. -/
theorem prompt_max_at (y : FVec Ideal S2x4x4096x256 .f32) (b : Fin 2) (h : Fin 4) (l : Fin 4096) :
    Host.reduce FloatOps.maximumf y (constant (F := Ideal) S_ .f32 0xFF800000#32) reducesTo_S2x4x4096x256_S2x4x4096_d3 h_S_ (ix3 b h l)
      = rowMax fun n => y (ix4 b h l n) := by
  pointwise
  rfl

/-- The sum over the memory's rows, at an index. -/
theorem prompt_sum_at (y : FVec Ideal S2x4x4096x256 .f32) (b : Fin 2) (h : Fin 4) (l : Fin 4096) :
    Host.reduceAdd y (constant S_ .f32 0x00000000#32) reducesTo_S2x4x4096x256_S2x4x4096_d3 h_S_ (ix3 b h l) = ∑ n, y (ix4 b h l n) := by
  pointwise

/-- A number per query spread over the memory's rows. -/
theorem prompt_spread_at (y : FVec Ideal S2x4x4096 .f32) (b : Fin 2) (h : Fin 4) (l : Fin 4096) (n : Fin 256) :
    broadcastInDim S2x4x4096x256 ![0, 1, 2, 3] bcast_S2x4x4096x1_S2x4x4096x256_0_1_2_3
      (broadcastInDim S2x4x4096x1 ![0, 1, 2] bcast_S2x4x4096_S2x4x4096x1_0_1_2 y) (ix4 b h l n) = y (ix3 b h l) := by
  pointwise

/-- The product of the values with the weights, at an index. -/
theorem prompt_product_at (v : FVec Ideal S2x256x4x512 .f32) (w : FVec Ideal S2x4x4096x256 .f32) (b : Fin 2) (l : Fin 4096) (h : Fin 4) (e : Fin 512) :
    transpose S2x4096x4x512 [0, 3, 1, 2] (Host.dotGeneral (F := Ideal) dot_S2x256x4x512_S2x4x4096x256_S2x4x512x4096_1_3_3_2_02_01 none v w)
      transposes_S2x4x512x4096_S2x4096x4x512_0_3_1_2 (ix4 b l h e) = ∑ n, v (ix4 b n h e) * w (ix4 b h l n) := by
  pointwise

/-- A row of all heads' lanes, cut into batch, token, head and lane. -/
theorem prompt_rows_at (y : FVec Ideal S2x4096x4x512 .f32) (b : Fin 2) (l : Fin 4096) (h : Fin 4) (e : Fin 512) (i : Fin 8192) (j : Fin 2048)
    (hi : i.val = b.val * 4096 + l.val) (hj : j.val = h.val * 512 + e.val) :
    shapeCast S8192x2048 y shapeCasts_S2x4096x4x512_S8192x2048 (ix2 i j) = y (ix4 b l h e) := by
  have hl := l.isLt
  have he := e.isLt
  have key : shapeCast S8192x2048 y shapeCasts_S2x4096x4x512_S8192x2048 (ix2 i j)
      = y (ix4 ⟨i.val / 4096, by have := i.isLt; omega⟩ ⟨i.val % 4096, by omega⟩ ⟨j.val / 512, by have := j.isLt; omega⟩ ⟨j.val % 512, by omega⟩) := by
    pointwise
  rw [key]
  congr 2 <;> first | (exact Fin.ext (by dsimp only; omega)) | skip

variable (x0 : FVec Ideal S8704x2048 .bf16) (x1 : FVec Ideal S2048x2048 .f32) (x2 : FVec Ideal S512x4096 .f32)

/-- A score. -/
theorem prompt_score_at (b : Fin 2) (h : Fin 4) (l : Fin 4096) (n : Fin 256) : val_main_v10 (F := Ideal) x0 x1 x2 (ix4 b h l n)
    = Cross.score (fun d => ∑ k : Fin 2048, x0 (ix2 ⟨b.val * 4096 + l.val, by have := b.isLt; have := l.isLt; omega⟩ k) * x1 (ix2 k ⟨h.val * 512 + d.val, by have := h.isLt; have := d.isLt; omega⟩))
      (fun d => x2 (ix2 ⟨b.val * 256 + n.val, by have := b.isLt; have := n.isLt; omega⟩ ⟨h.val * 512 + d.val, by have := h.isLt; have := d.isLt; omega⟩)) := by
  pointwise [val_main_v10, val_main_v9, val_main_cst, val_main_v8, val_main_v7, val_main_v6, val_main_v3, val_main_v2, val_main_v1, val_main_v0]
  rfl

/-- A value. -/
theorem prompt_value_at (b : Fin 2) (n : Fin 256) (h : Fin 4) (e : Fin 512) : val_main_v5 (F := Ideal) x2 (ix4 b n h e)
    = x2 (ix2 ⟨b.val * 256 + n.val, by have := b.isLt; have := n.isLt; omega⟩ ⟨2048 + (h.val * 512 + e.val), by have := h.isLt; have := e.isLt; omega⟩) := by
  pointwise [val_main_v5, val_main_v4]

/-- The row maximum. -/
theorem prompt_rowmax_at (b : Fin 2) (h : Fin 4) (l : Fin 4096) : val_main_v13 (F := Ideal) x0 x1 x2 (ix3 b h l)
    = rowMax fun n => val_main_v10 (F := Ideal) x0 x1 x2 (ix4 b h l n) := by
  rw [val_main_v13_apply, val_main_v12_apply]
  unfold val_main_v11 val_main_cst_0
  rw [prompt_max_at]
  exact max_bottom _

/-- The exponentials. -/
theorem prompt_exp_at (b : Fin 2) (h : Fin 4) (l : Fin 4096) (n : Fin 256) : val_main_v17 (F := Ideal) x0 x1 x2 (ix4 b h l n)
    = Ideal.exp (val_main_v10 (F := Ideal) x0 x1 x2 (ix4 b h l n) - val_main_v13 (F := Ideal) x0 x1 x2 (ix3 b h l)) := by
  rw [val_main_v17_apply, val_main_v16_apply]
  unfold val_main_v15 val_main_v14
  rw [prompt_spread_at]
  rfl

/-- A weight is the softmax weight of its row of scores. -/
theorem prompt_weight_at (b : Fin 2) (h : Fin 4) (l : Fin 4096) (n : Fin 256) : val_main_v21 (F := Ideal) x0 x1 x2 (ix4 b h l n)
    = weight (val_main_v10 (F := Ideal) x0 x1 x2 (ix4 b h l n)) (rowMax fun n => val_main_v10 (F := Ideal) x0 x1 x2 (ix4 b h l n))
      (∑ x, Ideal.exp (val_main_v10 (F := Ideal) x0 x1 x2 (ix4 b h l x) - rowMax fun n => val_main_v10 (F := Ideal) x0 x1 x2 (ix4 b h l n))) := by
  rw [val_main_v21_apply, prompt_exp_at]
  unfold val_main_v20 val_main_v19 val_main_v18 val_main_cst_2
  rw [prompt_spread_at, prompt_sum_at]
  simp only [prompt_exp_at, prompt_rowmax_at]
  rfl

/-- The outputs of the prompt. -/
theorem prompt_out_at (b : Fin 2) (l : Fin 4096) (h : Fin 4) (e : Fin 512) (i : Fin 8192) (j : Fin 2048)
    (hi : i.val = b.val * 4096 + l.val) (hj : j.val = h.val * 512 + e.val) : val_main_v24 (F := Ideal) x0 x1 x2 (ix2 i j)
    = attend (fun d => ∑ k : Fin 2048, x0 (ix2 ⟨b.val * 4096 + l.val, by have := b.isLt; have := l.isLt; omega⟩ k) * x1 (ix2 k ⟨h.val * 512 + d.val, by have := h.isLt; have := d.isLt; omega⟩))
      (fun n d => x2 (ix2 ⟨b.val * 256 + n.val, by have := b.isLt; have := n.isLt; omega⟩ ⟨h.val * 512 + d.val, by have := h.isLt; have := d.isLt; omega⟩)) (fun n => x2 (ix2 ⟨b.val * 256 + n.val, by have := b.isLt; have := n.isLt; omega⟩ ⟨2048 + (h.val * 512 + e.val), by have := h.isLt; have := e.isLt; omega⟩)) := by
  unfold val_main_v24 val_main_v23 val_main_v22
  refine (prompt_rows_at _ b l h e i j hi hj).trans ((prompt_product_at _ _ b l h e).trans ?_)
  simp only [prompt_weight_at, prompt_score_at, prompt_value_at]
  exact Finset.sum_congr rfl fun n _ => mul_comm _ _

end prompt

section sample

/-- The maximum over the memory's rows, at an index, for the new tokens. -/
theorem sample_max_at (y : FVec Ideal S8x4x64x256 .f32) (b : Fin 8) (h : Fin 4) (l : Fin 64) :
    Host.reduce FloatOps.maximumf y (constant (F := Ideal) S_ .f32 0xFF800000#32) reducesTo_S8x4x64x256_S8x4x64_d3 h_S_ (ix3 b h l)
      = rowMax fun n => y (ix4 b h l n) := by
  pointwise
  rfl

/-- The sum over the memory's rows, at an index. -/
theorem sample_sum_at (y : FVec Ideal S8x4x64x256 .f32) (b : Fin 8) (h : Fin 4) (l : Fin 64) :
    Host.reduceAdd y (constant S_ .f32 0x00000000#32) reducesTo_S8x4x64x256_S8x4x64_d3 h_S_ (ix3 b h l) = ∑ n, y (ix4 b h l n) := by
  pointwise

/-- A number per query spread over the memory's rows. -/
theorem sample_spread_at (y : FVec Ideal S8x4x64 .f32) (b : Fin 8) (h : Fin 4) (l : Fin 64) (n : Fin 256) :
    broadcastInDim S8x4x64x256 ![0, 1, 2, 3] bcast_S8x4x64x1_S8x4x64x256_0_1_2_3
      (broadcastInDim S8x4x64x1 ![0, 1, 2] bcast_S8x4x64_S8x4x64x1_0_1_2 y) (ix4 b h l n) = y (ix3 b h l) := by
  pointwise

/-- The product of the values with the weights, at an index. -/
theorem sample_product_at (v : FVec Ideal S8x256x4x512 .f32) (w : FVec Ideal S8x4x64x256 .f32) (b : Fin 8) (l : Fin 64) (h : Fin 4) (e : Fin 512) :
    transpose S8x64x4x512 [0, 3, 1, 2] (Host.dotGeneral (F := Ideal) dot_S8x256x4x512_S8x4x64x256_S8x4x512x64_1_3_3_2_02_01 none v w)
      transposes_S8x4x512x64_S8x64x4x512_0_3_1_2 (ix4 b l h e) = ∑ n, v (ix4 b n h e) * w (ix4 b h l n) := by
  pointwise

/-- A row of all heads' lanes, cut into batch, token, head and lane. -/
theorem sample_rows_at (y : FVec Ideal S8x64x4x512 .f32) (b : Fin 8) (l : Fin 64) (h : Fin 4) (e : Fin 512) (i : Fin 512) (j : Fin 2048)
    (hi : i.val = b.val * 64 + l.val) (hj : j.val = h.val * 512 + e.val) :
    shapeCast S512x2048 y shapeCasts_S8x64x4x512_S512x2048 (ix2 i j) = y (ix4 b l h e) := by
  have hl := l.isLt
  have he := e.isLt
  have key : shapeCast S512x2048 y shapeCasts_S8x64x4x512_S512x2048 (ix2 i j)
      = y (ix4 ⟨i.val / 64, by have := i.isLt; omega⟩ ⟨i.val % 64, by omega⟩ ⟨j.val / 512, by have := j.isLt; omega⟩ ⟨j.val % 512, by omega⟩) := by
    pointwise
  rw [key]
  congr 2 <;> first | (exact Fin.ext (by dsimp only; omega)) | skip

variable (x0 : FVec Ideal S8704x2048 .bf16) (x1 : FVec Ideal S2048x2048 .f32) (x3 x4 : FVec Ideal S4x8x256x4x512 .f32)

/-- A score. -/
theorem sample_score_at (b : Fin 8) (h : Fin 4) (l : Fin 64) (n : Fin 256) : val_main_v33 (F := Ideal) x0 x1 x3 (ix4 b h l n)
    = Cross.score (fun d => ∑ k : Fin 2048, x0 (ix2 ⟨8192 + (b.val * 64 + l.val), by have := b.isLt; have := l.isLt; omega⟩ k) * x1 (ix2 k ⟨h.val * 512 + d.val, by have := h.isLt; have := d.isLt; omega⟩))
      (fun d => x3 (ix5 0 b n h d)) := by
  pointwise [val_main_v33, val_main_v32, val_main_cst_3, val_main_v31, val_main_v26, val_main_v25, val_main_v28, val_main_v27, val_main_v1, val_main_v0]
  rfl

/-- A value. -/
theorem sample_value_at (b : Fin 8) (n : Fin 256) (h : Fin 4) (e : Fin 512) : val_main_v30 (F := Ideal) x4 (ix4 b n h e)
    = x4 (ix5 0 b n h e) := by
  pointwise [val_main_v30, val_main_v29]

/-- The row maximum. -/
theorem sample_rowmax_at (b : Fin 8) (h : Fin 4) (l : Fin 64) : val_main_v36 (F := Ideal) x0 x1 x3 (ix3 b h l)
    = rowMax fun n => val_main_v33 (F := Ideal) x0 x1 x3 (ix4 b h l n) := by
  rw [val_main_v36_apply, val_main_v35_apply]
  unfold val_main_v34 val_main_cst_4
  rw [sample_max_at]
  exact max_bottom _

/-- The exponentials. -/
theorem sample_exp_at (b : Fin 8) (h : Fin 4) (l : Fin 64) (n : Fin 256) : val_main_v40 (F := Ideal) x0 x1 x3 (ix4 b h l n)
    = Ideal.exp (val_main_v33 (F := Ideal) x0 x1 x3 (ix4 b h l n) - val_main_v36 (F := Ideal) x0 x1 x3 (ix3 b h l)) := by
  rw [val_main_v40_apply, val_main_v39_apply]
  unfold val_main_v38 val_main_v37
  rw [sample_spread_at]
  rfl

/-- A weight is the softmax weight of its row of scores. -/
theorem sample_weight_at (b : Fin 8) (h : Fin 4) (l : Fin 64) (n : Fin 256) : val_main_v44 (F := Ideal) x0 x1 x3 (ix4 b h l n)
    = weight (val_main_v33 (F := Ideal) x0 x1 x3 (ix4 b h l n)) (rowMax fun n => val_main_v33 (F := Ideal) x0 x1 x3 (ix4 b h l n))
      (∑ x, Ideal.exp (val_main_v33 (F := Ideal) x0 x1 x3 (ix4 b h l x) - rowMax fun n => val_main_v33 (F := Ideal) x0 x1 x3 (ix4 b h l n))) := by
  rw [val_main_v44_apply, sample_exp_at]
  unfold val_main_v43 val_main_v42 val_main_v41 val_main_cst_6
  rw [sample_spread_at, sample_sum_at]
  simp only [sample_exp_at, sample_rowmax_at]
  rfl

/-- The outputs of the new tokens. -/
theorem sample_out_at (b : Fin 8) (l : Fin 64) (h : Fin 4) (e : Fin 512) (i : Fin 512) (j : Fin 2048)
    (hi : i.val = b.val * 64 + l.val) (hj : j.val = h.val * 512 + e.val) : val_main_v47 (F := Ideal) x0 x1 x3 x4 (ix2 i j)
    = attend (fun d => ∑ k : Fin 2048, x0 (ix2 ⟨8192 + (b.val * 64 + l.val), by have := b.isLt; have := l.isLt; omega⟩ k) * x1 (ix2 k ⟨h.val * 512 + d.val, by have := h.isLt; have := d.isLt; omega⟩))
      (fun n d => x3 (ix5 0 b n h d)) (fun n => x4 (ix5 0 b n h e)) := by
  unfold val_main_v47 val_main_v46 val_main_v45
  refine (sample_rows_at _ b l h e i j hi hj).trans ((sample_product_at _ _ b l h e).trans ?_)
  simp only [sample_weight_at, sample_score_at, sample_value_at]
  exact Finset.sum_congr rfl fun n _ => mul_comm _ _

end sample

/-- The result: the prompt's rows below row 8192, the new tokens' from there on. -/
theorem result_at (x0 : FVec Ideal S8704x2048 .bf16) (x1 : FVec Ideal S2048x2048 .f32) (x2 : FVec Ideal S512x4096 .f32)
    (x3 x4 : FVec Ideal S4x8x256x4x512 .f32) (i : Fin 8704) (j : Fin 2048) : val_main_v49 (F := Ideal) x0 x1 x2 x3 x4 (ix2 i j)
    = if h : 8192 ≤ i.val then val_main_v47 (F := Ideal) x0 x1 x3 x4 (ix2 ⟨i.val - 8192, by have := i.isLt; omega⟩ j)
      else val_main_v24 (F := Ideal) x0 x1 x2 (ix2 ⟨i.val, by omega⟩ j) := by
  unfold val_main_v49 val_main_v48
  generalize val_main_v47 (F := Ideal) x0 x1 x3 x4 = y
  generalize val_main_v24 (F := Ideal) x0 x1 x2 = z
  pointwise
  split <;> split <;> first | rfl | omega

end Cert.Reference8Ideal.Cross

end
-- ==== Proof.Cross.Value.lean ====
/- The cross attention: the prompt's call and the new tokens' call over it leave the reference's result. -/
module

public import proofs.«01_k».proof.Proof.Gen.Kernel8Ideal.Frame
public import proofs.«01_k».proof.Proof.Cross.Head
public import proofs.«01_k».proof.Proof.Cross.Ref
public import Idealize.ShloMosaic.Lib.Pipeline.RegionsLoop
public import Idealize.ShloMosaic.Lib.Pipeline.FrameSuffix
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

namespace Cert.Kernel8Ideal.Cross

open Cert.Kernel8Ideal Cert.Kernel8Ideal.Gen Cert.Cross

/-- Heads with the same queries, keys and values have the same output. -/
theorem attend_congr {q q' : Fin 512 → EReal} {k k' : Fin 256 → Fin 512 → EReal} {v v' : Fin 256 → EReal}
    (hq : ∀ d, q d = q' d) (hk : ∀ n d, k n d = k' n d) (hv : ∀ n, v n = v' n) : attend q k v = attend q' k' v' := by
  obtain rfl : q = q' := funext hq
  obtain rfl : k = k' := funext fun n => funext (hk n)
  obtain rfl : v = v' := funext hv
  rfl

/-- A row's queries for the head lane `j` lies in. -/
def QUERY (x : FVec Ideal S8704x2048 .bf16) (w : FVec Ideal S2048x2048 .bf16) (r : Fin 8704) (j : Fin 2048) (d : Fin 512) : EReal :=
  ∑ k : Fin 2048, x (ix2 r k) * w (ix2 k ⟨j.val / 512 * 512 + d.val, by have := j.isLt; have := d.isLt; omega⟩)

/-- What the prompt's call leaves in row `r` and lane `j`. -/
def OUT0 (x : FVec Ideal S8704x2048 .bf16) (w : FVec Ideal S2048x2048 .bf16) (kv : FVec Ideal S512x4096 .f32) (r : Fin 8704) (j : Fin 2048) : EReal :=
  attend (QUERY x w r j)
    (fun n d => kv (ix2 ⟨r.val / 4096 % 2 * 256 + n.val, by have := n.isLt; omega⟩ ⟨j.val / 512 * 512 + d.val, by have := j.isLt; have := d.isLt; omega⟩))
    (fun n => kv (ix2 ⟨r.val / 4096 % 2 * 256 + n.val, by have := n.isLt; omega⟩ ⟨2048 + j.val, by have := j.isLt; omega⟩))

/-- What the new tokens' call leaves in row `r` and lane `j`. -/
def OUT1 (x : FVec Ideal S8704x2048 .bf16) (w : FVec Ideal S2048x2048 .bf16) (ck cv : FVec Ideal S4x8x256x2048 .f32) (r : Fin 8704) (j : Fin 2048) : EReal :=
  attend (QUERY x w r j)
    (fun n d => ck (ix4 0 ⟨(r.val - 8192) / 64 % 8, Nat.mod_lt _ (by decide)⟩ n ⟨j.val / 512 * 512 + d.val, by have := j.isLt; have := d.isLt; omega⟩))
    (fun n => cv (ix4 0 ⟨(r.val - 8192) / 64 % 8, Nat.mod_lt _ (by decide)⟩ n j))

/-- A load of 512 lanes from lane `o` on. -/
theorem ld2_at (X : Vec Ideal S256x2048 .f32) (o : ℕ) (ho : o + 512 ≤ 2048) (inb) (n : Fin 256) (d : Fin 512) :
    View.ld X (Rect.unit (s := S256x2048) ![0, o] ![256, 512] inb) (ix2 n d) = X (ix2 n ⟨o + d.val, by have := d.isLt; omega⟩) := by
  pointwise

/-- A load of 512 lanes from lane `o` on, out of a cached block. -/
theorem ld4_at (X : Vec Ideal S1x1x256x2048 .f32) (o : ℕ) (ho : o + 512 ≤ 2048) (inb) (n : Fin 256) (d : Fin 512) :
    View.ld X (Rect.unit (s := S1x1x256x2048) ![0, 0, 0, o] ![1, 1, 256, 512] inb) (ix4 0 0 n d) = X (ix4 0 0 n ⟨o + d.val, by have := d.isLt; omega⟩) := by
  pointwise

section Regions

variable (V : (c : Dev nD) → (b : Ref sig .tc) → Buf (Elt Ideal) ((c : Thread nD τ).loc b))

/-- The windows' blocks of the prompt's call. -/
theorem idx0 : ∀ t : Fin cfg0.N, win0_0.index t = ![t.val, 0] ∧ win0_1.index t = ![0, 0] ∧ win0_2.index t = ![t.val / 8, 0]
    ∧ win0_3.index t = ![t.val / 8, 1] ∧ win0_4.index t = ![t.val, 0] ∧ t.val < 16 :=
  (by decide +kernel : ∀ t : Fin grid0.N, _)

/-- The windows' blocks of the new tokens' call. -/
theorem idx1 : ∀ t : Fin cfg1.N, win1_0.index t = ![128 + t.val, 0] ∧ win1_1.index t = ![0, 0] ∧ win1_2.index t = ![0, t.val, 0, 0]
    ∧ win1_3.index t = ![0, t.val, 0, 0] ∧ win1_4.index t = ![128 + t.val, 0] ∧ t.val < 8 :=
  (by decide +kernel : ∀ t : Fin grid1.N, _)

/-- The rows a point of the prompt's call reads. -/
theorem rows0_at (c : Dev nD) (t : Fin cfg0.N) (i : Fin 512) (k : Fin 2048) (r : Fin 8704) (hr : r.val = t.val * 512 + i.val) :
    (iblk0 V c 0 t : FVec Ideal S512x2048 .bf16) (ix2 i k) = (V c main_arg0 : FVec Ideal S8704x2048 .bf16) (ix2 r k) := by
  obtain rfl : r = ⟨t.val * 512 + i.val, by clear hr; have := (idx0 t).2.2.2.2.2; omega⟩ := Fin.ext hr
  blk_ext [iblk0, idx0 t]

/-- The projection's weights at a point of the prompt's call. -/
theorem cols0_at (c : Dev nD) (t : Fin cfg0.N) (k j : Fin 2048) :
    (iblk0 V c 1 t : FVec Ideal S2048x2048 .bf16) (ix2 k j) = (V c main_v0 : FVec Ideal S2048x2048 .bf16) (ix2 k j) := by
  blk_ext [iblk0, idx0 t]

/-- The keys a point of the prompt's call reads. -/
theorem keys0_at (c : Dev nD) (t : Fin cfg0.N) (n : Fin 256) (j : Fin 2048) (r : Fin 512) (hr : r.val = t.val / 8 * 256 + n.val) (l : Fin 4096) (hl : l.val = j.val) :
    (iblk0 V c 2 t : FVec Ideal S256x2048 .f32) (ix2 n j) = (V c main_arg2 : FVec Ideal S512x4096 .f32) (ix2 r l) := by
  obtain rfl : r = ⟨t.val / 8 * 256 + n.val, by clear hr; have := (idx0 t).2.2.2.2.2; omega⟩ := Fin.ext hr
  obtain rfl : l = ⟨j.val, Nat.lt_of_lt_of_le j.isLt (by decide)⟩ := Fin.ext hl
  blk_ext [iblk0, idx0 t]

/-- The values a point of the prompt's call reads. -/
theorem values0_at (c : Dev nD) (t : Fin cfg0.N) (n : Fin 256) (j : Fin 2048) (r : Fin 512) (hr : r.val = t.val / 8 * 256 + n.val) (l : Fin 4096) (hl : l.val = 2048 + j.val) :
    (iblk0 V c 3 t : FVec Ideal S256x2048 .f32) (ix2 n j) = (V c main_arg2 : FVec Ideal S512x4096 .f32) (ix2 r l) := by
  obtain rfl : r = ⟨t.val / 8 * 256 + n.val, by clear hr; have := (idx0 t).2.2.2.2.2; omega⟩ := Fin.ext hr
  obtain rfl : l = ⟨2048 + j.val, Nat.add_lt_add_left j.isLt 2048⟩ := Fin.ext hl
  blk_ext [iblk0, idx0 t]

/-- One head at a point of the prompt's call, loaded from lane `o` on. -/
theorem tile0_at (c : Dev nD) (t : Fin cfg0.N) (p : ℕ) (hp : p < 4) (o : ℕ) (ho : o = p * 512) (sl : S512x2048.Slices ![0, o] S512x512) (inb)
    (i e : Fin 512) (J : S8704x2048.Idx) (h0 : (J 0 : ℕ) = t.val * 512 + i.val) (h1 : (J 1 : ℕ) = o + e.val) :
    head0 (iblk0 V c 0 t) (iblk0 V c 1 t) o sl (View.ld (iblk0 V c 2 t) (Rect.unit (s := S256x2048) ![0, o] ![256, 512] inb))
      (View.ld (iblk0 V c 3 t) (Rect.unit (s := S256x2048) ![0, o] ![256, 512] inb)) (ix2 i e)
      = OUT0 (V c main_arg0) (V c main_v0) (V c main_arg2) (J 0) (J 1) := by
  have ho' : o + 512 ≤ 2048 := by omega
  have hi := i.isLt
  have he := e.isLt
  have ht := (idx0 t).2.2.2.2.2
  have e1 : (J 1 : ℕ) / 512 * 512 = o := by rw [h1]; omega
  have e0 : (J 0 : ℕ) / 4096 % 2 = t.val / 8 := by rw [h0]; omega
  refine (head0_at _ _ o ho' sl _ _ i e).trans (attend_congr (fun d => Finset.sum_congr rfl fun k _ => congrArg₂ (· * ·) (rows0_at V c t i k _ h0) ?_) (fun n d => ?_) (fun n => ?_))
  · refine (cols0_at V c t k _).trans (congrArg (V c main_v0 : FVec Ideal S2048x2048 .bf16) (congrArg (ix2 k) (Fin.ext ?_)))
    show o + d.val = (J 1 : ℕ) / 512 * 512 + d.val
    rw [e1]
  · exact (ld2_at _ o ho' inb n d).trans (keys0_at V c t n _ _ (by show (J 0 : ℕ) / 4096 % 2 * 256 + n.val = _; rw [e0]) _ (by show (J 1 : ℕ) / 512 * 512 + d.val = o + d.val; rw [e1]))
  · exact (ld2_at _ o ho' inb n e).trans (values0_at V c t n _ _ (by show (J 0 : ℕ) / 4096 % 2 * 256 + n.val = _; rw [e0]) _ (by show 2048 + (J 1 : ℕ) = 2048 + (o + e.val); rw [h1]))

/-- The prompt's call leaves its outputs in the rows below 8192 and the others as they were. -/
theorem final0 (c : Dev nD) : (dat0 V c).arrAt 4 cfg0.N
    = fun i => if (i 0 : ℕ) < 16 * 512 then OUT0 (V c main_arg0) (V c main_v0) (V c main_arg2) (i 0) (i 1) else V c main_v3 i := by
  refine (dat0 V c).arrAt_eq_of_coversWhere 4 _ (fun β => β 0 < 16) (by decide +kernel) (fun t hf y => ?_)
    (fun j => by blk_simp [Pipeline.Window.cell_apply]; omega)
  blk_simp
  rw [after0_4]
  unfold out0_4 k0_pay10
  frame_out
  canon_tiles x h
  case piece0 =>
    idx_vars x
    exact tile0_at V c t 3 (by decide) 1536 (by decide) slices_S512x2048_o0_1536_S512x512 inb_S256x2048_S256x512_0_1536 _ _ _
      (by blk_simp [idx0 t]; omega) (by blk_simp [idx0 t]; omega)
  case piece1 =>
    idx_vars x
    exact tile0_at V c t 2 (by decide) 1024 (by decide) slices_S512x2048_o0_1024_S512x512 inb_S256x2048_S256x512_0_1024 _ _ _
      (by blk_simp [idx0 t]; omega) (by blk_simp [idx0 t]; omega)
  case piece2 =>
    idx_vars x
    exact tile0_at V c t 1 (by decide) 512 (by decide) slices_S512x2048_o0_512_S512x512 inb_S256x2048_S256x512_0_512 _ _ _
      (by blk_simp [idx0 t]; omega) (by blk_simp [idx0 t]; omega)
  case piece3 =>
    idx_vars x
    exact tile0_at V c t 0 (by decide) 0 (by decide) slices_S512x2048_o0_0_S512x512 inb_S256x2048_S256x512_0_0 _ _ _
      (by blk_simp [idx0 t]; omega) (by blk_simp [idx0 t]; omega)

/-- The rows a point of the new tokens' call reads. -/
theorem rows1_at (c : Dev nD) (t : Fin cfg1.N) (i : Fin 64) (k : Fin 2048) (r : Fin 8704) (hr : r.val = (128 + t.val) * 64 + i.val) :
    (iblk1 V c 0 t : FVec Ideal S64x2048 .bf16) (ix2 i k) = (V c main_arg0 : FVec Ideal S8704x2048 .bf16) (ix2 r k) := by
  obtain rfl : r = ⟨(128 + t.val) * 64 + i.val, by clear hr; have := (idx1 t).2.2.2.2.2; omega⟩ := Fin.ext hr
  blk_ext [iblk1, idx1 t]

/-- The projection's weights at a point of the new tokens' call. -/
theorem cols1_at (c : Dev nD) (t : Fin cfg1.N) (k j : Fin 2048) :
    (iblk1 V c 1 t : FVec Ideal S2048x2048 .bf16) (ix2 k j) = (V c main_v0 : FVec Ideal S2048x2048 .bf16) (ix2 k j) := by
  blk_ext [iblk1, idx1 t]

/-- The cached keys a point of the new tokens' call reads. -/
theorem keys1_at (c : Dev nD) (t : Fin cfg1.N) (n : Fin 256) (j : Fin 2048) (b : Fin 8) (hb : b.val = t.val) (l : Fin 2048) (hl : l = j) :
    (iblk1 V c 2 t : FVec Ideal S1x1x256x2048 .f32) (ix4 0 0 n j) = (V c main_v1 : FVec Ideal S4x8x256x2048 .f32) (ix4 0 b n l) := by
  obtain rfl : b = ⟨t.val, (idx1 t).2.2.2.2.2⟩ := Fin.ext hb
  subst hl
  blk_ext [iblk1, idx1 t]

/-- The cached values a point of the new tokens' call reads. -/
theorem values1_at (c : Dev nD) (t : Fin cfg1.N) (n : Fin 256) (j : Fin 2048) (b : Fin 8) (hb : b.val = t.val) (l : Fin 2048) (hl : l = j) :
    (iblk1 V c 3 t : FVec Ideal S1x1x256x2048 .f32) (ix4 0 0 n j) = (V c main_v2 : FVec Ideal S4x8x256x2048 .f32) (ix4 0 b n l) := by
  obtain rfl : b = ⟨t.val, (idx1 t).2.2.2.2.2⟩ := Fin.ext hb
  subst hl
  blk_ext [iblk1, idx1 t]

/-- One head at a point of the new tokens' call, loaded from lane `o` on. -/
theorem tile1_at (c : Dev nD) (t : Fin cfg1.N) (p : ℕ) (hp : p < 4) (o : ℕ) (ho : o = p * 512) (sl : S64x2048.Slices ![0, o] S64x512) (inb)
    (i : Fin 64) (e : Fin 512) (J : S8704x2048.Idx) (h0 : (J 0 : ℕ) = (128 + t.val) * 64 + i.val) (h1 : (J 1 : ℕ) = o + e.val) :
    head1 (iblk1 V c 0 t) (iblk1 V c 1 t) o sl (View.ld (iblk1 V c 2 t) (Rect.unit (s := S1x1x256x2048) ![0, 0, 0, o] ![1, 1, 256, 512] inb))
      (View.ld (iblk1 V c 3 t) (Rect.unit (s := S1x1x256x2048) ![0, 0, 0, o] ![1, 1, 256, 512] inb)) (ix2 i e)
      = OUT1 (V c main_arg0) (V c main_v0) (V c main_v1) (V c main_v2) (J 0) (J 1) := by
  have ho' : o + 512 ≤ 2048 := by omega
  have hi := i.isLt
  have he := e.isLt
  have ht := (idx1 t).2.2.2.2.2
  have e1 : (J 1 : ℕ) / 512 * 512 = o := by rw [h1]; omega
  have e0 : ((J 0 : ℕ) - 8192) / 64 % 8 = t.val := by rw [h0]; omega
  refine (head1_at _ _ o ho' sl _ _ i e).trans (attend_congr (fun d => Finset.sum_congr rfl fun k _ => congrArg₂ (· * ·) (rows1_at V c t i k _ h0) ?_) (fun n d => ?_) (fun n => ?_))
  · refine (cols1_at V c t k _).trans (congrArg (V c main_v0 : FVec Ideal S2048x2048 .bf16) (congrArg (ix2 k) (Fin.ext ?_)))
    show o + d.val = (J 1 : ℕ) / 512 * 512 + d.val
    rw [e1]
  · exact (ld4_at _ o ho' inb n d).trans (keys1_at V c t n _ _ e0 _ (Fin.ext (by show (J 1 : ℕ) / 512 * 512 + d.val = o + d.val; rw [e1])))
  · exact (ld4_at _ o ho' inb n e).trans (values1_at V c t n _ _ e0 _ (Fin.ext h1))

/-- The new tokens' call leaves its outputs in the rows from 8192 on and the others as they were. -/
theorem final1 (c : Dev nD) : (dat1 V c).arrAt 4 cfg1.N
    = fun i => if 128 * 64 ≤ (i 0 : ℕ) then OUT1 (V c main_arg0) (V c main_v0) (V c main_v1) (V c main_v2) (i 0) (i 1) else V c main_v4 i := by
  refine (dat1 V c).arrAt_eq_of_coversWhere 4 _ (fun β => 128 ≤ β 0) (by decide +kernel) (fun t hf y => ?_)
    (fun j => by blk_simp [Pipeline.Window.cell_apply]; omega)
  blk_simp
  rw [after1_4]; unfold outsAt1
  frame_out
  canon_tiles x h
  case piece0 =>
    idx_vars x
    exact tile1_at V c t 3 (by decide) 1536 (by decide) slices_S64x2048_o0_1536_S64x512 inb_S1x1x256x2048_S1x1x256x512_0_0_0_1536 _ _ _
      (by blk_simp [idx1 t]; omega) (by blk_simp [idx1 t]; omega)
  case piece1 =>
    idx_vars x
    exact tile1_at V c t 2 (by decide) 1024 (by decide) slices_S64x2048_o0_1024_S64x512 inb_S1x1x256x2048_S1x1x256x512_0_0_0_1024 _ _ _
      (by blk_simp [idx1 t]; omega) (by blk_simp [idx1 t]; omega)
  case piece2 =>
    idx_vars x
    exact tile1_at V c t 1 (by decide) 512 (by decide) slices_S64x2048_o0_512_S64x512 inb_S1x1x256x2048_S1x1x256x512_0_0_0_512 _ _ _
      (by blk_simp [idx1 t]; omega) (by blk_simp [idx1 t]; omega)
  case piece3 =>
    idx_vars x
    exact tile1_at V c t 0 (by decide) 0 (by decide) slices_S64x2048_o0_0_S64x512 inb_S1x1x256x2048_S1x1x256x512_0_0_0_0 _ _ _
      (by blk_simp [idx1 t]; omega) (by blk_simp [idx1 t]; omega)

end Regions

variable (m : (ℓ : Loc nD τ sig) → Buf (Elt Ideal) ℓ) (ρ : Dev nD → PrngReg)

/-- The projection's weights as both calls find them. -/
def WQ (c : Dev nD) : FVec Ideal S2048x2048 .bf16 := truncf .bf16 (m ((c : Thread nD τ).loc main_arg1) : FVec Ideal S2048x2048 .f32) bitsLt_bf16_f32

/-- A cache as the new tokens' call finds it. -/
def CACHE (x : FVec Ideal S4x8x256x4x512 .f32) : FVec Ideal S4x8x256x2048 .f32 := shapeCast S4x8x256x2048 x shapeCasts_S4x8x256x4x512_S4x8x256x2048

theorem weights_entry (c : Dev nD) : W1 m ρ c (Proc.devRef .tc main_v0) = WQ m c := by
  sl_kernel_rfl
theorem keys_entry (c : Dev nD) : W1 m ρ c (Proc.devRef .tc main_v1) = CACHE (m ((c : Thread nD τ).loc main_arg3)) := by
  sl_kernel_rfl
theorem values_entry (c : Dev nD) : W1 m ρ c (Proc.devRef .tc main_v2) = CACHE (m ((c : Thread nD τ).loc main_arg4)) := by
  sl_kernel_rfl
theorem copy_entry (σ : Valuation τ sig (Elt Ideal)) : StableHlo.after hostOps1 σ (Proc.devRef .tc main_v4) = σ (Proc.devRef .tc main_v3) := by
  sl_kernel_rfl

/-- The projection's weights at the new tokens' call. -/
theorem weights_later (c : Dev nD) : W3 m ρ c (Proc.devRef .tc main_v0) = WQ m c :=
  ((W3_of m ρ c main_v0 (by decide)).trans (W2_of m ρ c main_v0 (by decide))).trans (weights_entry m ρ c)
/-- The cached keys at the new tokens' call. -/
theorem keys_later (c : Dev nD) : W3 m ρ c (Proc.devRef .tc main_v1) = CACHE (m ((c : Thread nD τ).loc main_arg3)) :=
  ((W3_of m ρ c main_v1 (by decide)).trans (W2_of m ρ c main_v1 (by decide))).trans (keys_entry m ρ c)
/-- The cached values at the new tokens' call. -/
theorem values_later (c : Dev nD) : W3 m ρ c (Proc.devRef .tc main_v2) = CACHE (m ((c : Thread nD τ).loc main_arg4)) :=
  ((W3_of m ρ c main_v2 (by decide)).trans (W2_of m ρ c main_v2 (by decide))).trans (values_entry m ρ c)

/-- The result buffer after the run. -/
def RES (c : Dev nD) : FVec Ideal S8704x2048 .bf16 := W4 m ρ c (Proc.devRef .tc main_v4)

/-- What the prompt's call left, at an index. -/
theorem first_at (c : Dev nD) (r : Fin 8704) (j : Fin 2048) (h : r.val < 8192) : (W3 m ρ c (Proc.devRef .tc main_v4) : FVec Ideal S8704x2048 .bf16) (ix2 r j)
    = OUT0 (m ((c : Thread nD τ).loc main_arg0)) (WQ m c) (m ((c : Thread nD τ).loc main_arg2)) r j := by
  have e : W3 m ρ c (Proc.devRef .tc main_v4) = (dat0 (V1 m ρ) c).arrAt 4 cfg0.N := (copy_entry _).trans (W2_arr m ρ c 4)
  refine (congrFun (e.trans (final0 (V1 m ρ) c)) (ix2 r j)).trans ((if_pos h).trans ?_)
  have a0 : V1 m ρ c main_arg0 = m ((c : Thread nD τ).loc main_arg0) := W1_args m ρ c main_arg0 (by decide)
  have a2 : V1 m ρ c main_arg2 = m ((c : Thread nD τ).loc main_arg2) := W1_args m ρ c main_arg2 (by decide)
  have aw : V1 m ρ c main_v0 = WQ m c := weights_entry m ρ c
  rw [a0, a2, aw]
  rfl

/-- The result at an index. -/
theorem res_at (c : Dev nD) (r : Fin 8704) (j : Fin 2048) : RES m ρ c (ix2 r j)
    = if 8192 ≤ r.val then OUT1 (m ((c : Thread nD τ).loc main_arg0)) (WQ m c) (CACHE (m ((c : Thread nD τ).loc main_arg3))) (CACHE (m ((c : Thread nD τ).loc main_arg4))) r j
      else OUT0 (m ((c : Thread nD τ).loc main_arg0)) (WQ m c) (m ((c : Thread nD τ).loc main_arg2)) r j := by
  have e : RES m ρ c = (dat1 (V3 m ρ) c).arrAt 4 cfg1.N := W4_arr m ρ c 4
  refine (congrFun (e.trans (final1 (V3 m ρ) c)) (ix2 r j)).trans ?_
  by_cases h : 8192 ≤ r.val
  · refine (if_pos h).trans (Eq.trans ?_ (if_pos h).symm)
    have a0 : V3 m ρ c main_arg0 = m ((c : Thread nD τ).loc main_arg0) := W3_args m ρ c main_arg0 (by decide)
    have aw : V3 m ρ c main_v0 = WQ m c := weights_later m ρ c
    have ak : V3 m ρ c main_v1 = CACHE (m ((c : Thread nD τ).loc main_arg3)) := keys_later m ρ c
    have av : V3 m ρ c main_v2 = CACHE (m ((c : Thread nD τ).loc main_arg4)) := values_later m ρ c
    rw [a0, aw, ak, av]
    rfl
  · exact (if_neg h).trans ((first_at m ρ c r j (by omega)).trans (if_neg h).symm)

/-- A cache at an index. -/
theorem cache_at (x : FVec Ideal S4x8x256x4x512 .f32) (b : Fin 8) (n : Fin 256) (h : Fin 4) (d : Fin 512) (j : Fin 2048) (hj : j.val = h.val * 512 + d.val) :
    CACHE x (ix4 0 b n j) = x (ix5 0 b n h d) := by
  have hd := d.isLt
  have key : CACHE x (ix4 0 b n j) = x (ix5 0 b n ⟨j.val / 512, by have := j.isLt; omega⟩ ⟨j.val % 512, Nat.mod_lt _ (by decide)⟩) := by
    pointwise [CACHE]
  exact key.trans (congrArg₂ (fun a e => x (ix5 0 b n a e)) (Fin.ext (by dsimp only; omega)) (Fin.ext (by dsimp only; omega)))

/-- The result is the reference's. -/
theorem final (c : Dev nD) : RES m ρ c
    = Cert.Reference8Ideal.Read.val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  funext i
  obtain ⟨r, j, rfl⟩ : ∃ (r : Fin 8704) (j : Fin 2048), i = ix2 r j := ⟨i 0, i 1, by
    funext a; match a with
    | ⟨0, _⟩ => rfl
    | ⟨1, _⟩ => rfl⟩
  have hr := r.isLt
  have hj := j.isLt
  refine (res_at m ρ c r j).trans (Eq.trans ?_ (Cert.Reference8Ideal.Cross.result_at _ _ _ _ _ r j).symm)
  by_cases h : 8192 ≤ r.val
  · rw [if_pos h, dif_pos h]
    refine Eq.trans ?_ (Cert.Reference8Ideal.Cross.sample_out_at _ _ _ _ ⟨(r.val - 8192) / 64, by omega⟩ ⟨(r.val - 8192) % 64, by omega⟩ ⟨j.val / 512, by omega⟩ ⟨j.val % 512, by omega⟩ _ j
      (by dsimp only; omega) (by dsimp only; omega)).symm
    refine attend_congr (fun d => Finset.sum_congr rfl fun k _ => congrArg₂ (· * ·) (congrArg _ (congrArg (fun a => ix2 a k) (Fin.ext (by dsimp only; omega)))) rfl) (fun n d => ?_) (fun n => ?_)
    · refine (cache_at _ _ n ⟨j.val / 512, by omega⟩ d _ rfl).trans (congrArg _ (congrArg (fun a => ix5 0 a n _ _) (Fin.ext (by dsimp only; omega))))
    · refine (cache_at _ _ n ⟨j.val / 512, by omega⟩ ⟨j.val % 512, by omega⟩ _ (by dsimp only; omega)).trans (congrArg _ (congrArg (fun a => ix5 0 a n _ _) (Fin.ext (by dsimp only; omega))))
  · rw [if_neg h, dif_neg h]
    refine Eq.trans ?_ (Cert.Reference8Ideal.Cross.prompt_out_at _ _ _ ⟨r.val / 4096, by omega⟩ ⟨r.val % 4096, by omega⟩ ⟨j.val / 512, by omega⟩ ⟨j.val % 512, by omega⟩ _ j
      (by dsimp only; omega) (by dsimp only; omega)).symm
    refine attend_congr (fun d => Finset.sum_congr rfl fun k _ => congrArg₂ (· * ·) (congrArg _ (congrArg (fun a => ix2 a k) (Fin.ext (by dsimp only; omega)))) rfl) (fun n d => ?_) (fun n => ?_)
    · exact congrArg _ (congrArg (fun a => ix2 a _) (Fin.ext (by dsimp only; omega)))
    · exact congrArg _ (congrArg₂ ix2 (Fin.ext (by dsimp only; omega)) (Fin.ext (by dsimp only; omega)))

/-- The model the launch is stated in. -/
local notation "𝕄" => MT nD τ sig Unit (Elt Ideal) ℕ (UR sig nD τ) ℕ

-- the launch's implicit arguments are found by unification through plain definitions
set_option backward.isDefEq.respectTransparency.types false in
/-- The run, with the result at the last boundary's contents and the arguments unchanged. -/
theorem run : θ_run defs (onTc (τ := τ) (main (F := Ideal))) ⟨m, fun _ => 0, ρ⟩ (fun r => ∀ c : Dev nD,
      r.2.mem ((c.tc : Thread nD τ).loc main_v4) = RES m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Kernel8Ideal.Cross

end
-- ==== Proof.lean ====
/- The certificate of eight parts of the layer: the sampled tokens' differential attention, the experts' gate and up products,
   the experts' down product, the gated mixer's input projection, the keys and values of the cross attention's memory, an output projection with its residual and norm, the attention's input projection with the rotation, and the cross attention.
   Of each, the kernel and its idealization run and leave their arguments alone, the reference
   runs, and kernel and reference end with equal results over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_experts_named
public import proofs.«01_k».proof.Proof.Gen.Pre_experts_named_down
public import proofs.«01_k».proof.Proof.Attn.Final
public import proofs.«01_k».proof.Proof.Gmm1.Value
public import proofs.«01_k».proof.Proof.Gmm1.Pre
public import proofs.«01_k».proof.Proof.Gmm1Bits.Frame
public import proofs.«01_k».proof.Proof.Gmm2.Value
public import proofs.«01_k».proof.Proof.Gmm2.Pre
public import proofs.«01_k».proof.Proof.Gmm2Bits.Frame
public import Idealize.ShloMosaic.Lib.Claim
public import Idealize.ShloMosaic.Adequacy
public import Idealize.ShloMosaic.Init
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Proj.Value
public import proofs.«01_k».proof.Proof.Mem.Value
public import proofs.«01_k».proof.Proof.Norm.Value
public import proofs.«01_k».proof.Proof.Rope.Value
public import proofs.«01_k».proof.Proof.Cross.Value

@[expose] public section

set_option maxRecDepth 16384

noncomputable section

namespace Cert.Proof

open Idealize.ShloMosaic Idealize.ShloMosaic.TcCoe Idealize.SL.Sem

/-- The rows below 8192 keep what the operand handed in, which is what the reference returns there too; the others are the
    reference's result: so the whole array is. -/
theorem attn_result (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 7 Cert.KernelIdeal.cfg0.N = Cert.KernelIdeal.Attn.REF m c := by
  rw [Cert.KernelIdeal.Attn.final]
  funext i
  split
  · rfl
  · rename_i h
    idx_vars i
    refine Eq.trans ?_ (Cert.ReferenceIdeal.Attn.v88_at _ _ _ _ _ _ _ _ _ i0 i1).symm
    rw [dif_neg (by simpa using h)]
    rfl

/-- Kernel and reference end with equal results: both hold the reference's function of the arguments. -/
theorem algebraic : Cert.algebraic_KernelIdeal_ReferenceIdeal := by
  intro m g m' g' hpre hagree
  refine ⟨fun c => Cert.KernelIdeal.Attn.REF m c, ?_, ?_⟩
  · run_from Cert.KernelIdeal.Value.run_blocks m g
    exact attn_result m _
  · refine (θ_run Cert.ReferenceIdeal.defs _ _).mono (fun r h c => ⟨((h c).1.trans
      (Cert.ReferenceIdeal.Read.val_main_v88_eq (StableHlo.launchContents m' c))).trans ?_, (h c).2⟩)
      (Cert.ReferenceIdeal.Value.run (F := Ideal) m' g')
    obtain ⟨h0, h1, h2, h3, h4, h5, h6, h7, h8⟩ := hagree c
    have e0 : StableHlo.launchContents m' c (Proc.devRef .tc Cert.ReferenceIdeal.main_arg0) = m ((c.tc : Thread Cert.KernelIdeal.nD Cert.KernelIdeal.τ).loc Cert.KernelIdeal.main_arg0) := h0
    have e1 : StableHlo.launchContents m' c (Proc.devRef .tc Cert.ReferenceIdeal.main_arg1) = m ((c.tc : Thread Cert.KernelIdeal.nD Cert.KernelIdeal.τ).loc Cert.KernelIdeal.main_arg1) := h1
    have e2 : StableHlo.launchContents m' c (Proc.devRef .tc Cert.ReferenceIdeal.main_arg2) = m ((c.tc : Thread Cert.KernelIdeal.nD Cert.KernelIdeal.τ).loc Cert.KernelIdeal.main_arg2) := h2
    have e3 : StableHlo.launchContents m' c (Proc.devRef .tc Cert.ReferenceIdeal.main_arg3) = m ((c.tc : Thread Cert.KernelIdeal.nD Cert.KernelIdeal.τ).loc Cert.KernelIdeal.main_arg3) := h3
    have e4 : StableHlo.launchContents m' c (Proc.devRef .tc Cert.ReferenceIdeal.main_arg4) = m ((c.tc : Thread Cert.KernelIdeal.nD Cert.KernelIdeal.τ).loc Cert.KernelIdeal.main_arg4) := h4
    have e5 : StableHlo.launchContents m' c (Proc.devRef .tc Cert.ReferenceIdeal.main_arg5) = m ((c.tc : Thread Cert.KernelIdeal.nD Cert.KernelIdeal.τ).loc Cert.KernelIdeal.main_arg5) := h5
    have e6 : StableHlo.launchContents m' c (Proc.devRef .tc Cert.ReferenceIdeal.main_arg6) = m ((c.tc : Thread Cert.KernelIdeal.nD Cert.KernelIdeal.τ).loc Cert.KernelIdeal.main_arg6) := h6
    have e7 : StableHlo.launchContents m' c (Proc.devRef .tc Cert.ReferenceIdeal.main_arg7) = m ((c.tc : Thread Cert.KernelIdeal.nD Cert.KernelIdeal.τ).loc Cert.KernelIdeal.main_arg7) := h7
    have e8 : StableHlo.launchContents m' c (Proc.devRef .tc Cert.ReferenceIdeal.main_arg8) = m ((c.tc : Thread Cert.KernelIdeal.nD Cert.KernelIdeal.τ).loc Cert.KernelIdeal.main_arg8) := h8
    rw [e0, e1, e2, e3, e4, e5, e6, e7, e8]

/-- The reference runs and leaves its arguments alone; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- What the precondition on the gate and up products tables says of the idealization's memory. -/
theorem named_2ideal {m} (h : Cert.Pre_Kernel2Ideal m) : Cert.Kernel2Ideal.Gmm.Named m :=
  ⟨fun r => (Cert.Gmm.named_of _ _ _ _ _ (h 0)).1 (Cert.Kernel2Ideal.Gmm.at168 r), (Cert.Gmm.named_of _ _ _ _ _ (h 0)).2 Cert.Kernel2Ideal.Gmm.one0⟩

/-- What the precondition on the gate and up products tables says of the kernel's memory. -/
theorem named_2 {m} (h : Cert.Pre_Kernel2 m) : Cert.Kernel2.Gmm.Named m :=
  ⟨fun r => (Cert.Gmm.named_of _ _ _ _ _ (h 0)).1 (Cert.Kernel2.Gmm.at168 r), (Cert.Gmm.named_of _ _ _ _ _ (h 0)).2 Cert.Kernel2.Gmm.one0⟩

/-- The gate and up products: kernel and reference end with equal results. -/
theorem algebraic2 : Cert.algebraic_Kernel2Ideal_Reference2Ideal := by
  intro m g m' g' hpre hagree
  have hn := named_2ideal hpre
  refine ⟨fun c => Cert.Kernel2Ideal.Gmm.REF m c, ?_, ?_⟩
  · exact (θ_run Cert.Kernel2Ideal.defs _ _).mono (fun r h c => ⟨(h c).1.trans (Cert.Kernel2Ideal.Gmm.final m hn c), (h c).2⟩)
      (Cert.Kernel2Ideal.Gmm.run_blocks m g hn)
  · refine (θ_run Cert.Reference2Ideal.defs _ _).mono (fun r h c => ⟨((h c).1.trans
      (Cert.Reference2Ideal.Read.val_main_v35_eq m' c)).trans ?_, (h c).2⟩)
      (Cert.Reference2Ideal.Value.run (F := Ideal) m' g')
    obtain ⟨h0, h1, h2, h3, h4⟩ := hagree c
    rw [h0, h1, h2, h3, h4]

/-- The gate and up products' reference runs and leaves its arguments alone. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- What the precondition on the down product tables says of the idealization's memory. -/
theorem named_3ideal {m} (h : Cert.Pre_Kernel3Ideal m) : Cert.Kernel3Ideal.Gmm.Named m :=
  ⟨fun r => (Cert.Gmm.named_down_of _ _ _ _ _ (h 0)).1 (Cert.Kernel3Ideal.Gmm.at168 r), (Cert.Gmm.named_down_of _ _ _ _ _ (h 0)).2 Cert.Kernel3Ideal.Gmm.one0⟩

/-- What the precondition on the down product tables says of the kernel's memory. -/
theorem named_3 {m} (h : Cert.Pre_Kernel3 m) : Cert.Kernel3.Gmm.Named m :=
  ⟨fun r => (Cert.Gmm.named_down_of _ _ _ _ _ (h 0)).1 (Cert.Kernel3.Gmm.at168 r), (Cert.Gmm.named_down_of _ _ _ _ _ (h 0)).2 Cert.Kernel3.Gmm.one0⟩

/-- The down product: kernel and reference end with equal results. -/
theorem algebraic3 : Cert.algebraic_Kernel3Ideal_Reference3Ideal := by
  intro m g m' g' hpre hagree
  have hn := named_3ideal hpre
  refine ⟨fun c => Cert.Kernel3Ideal.Gmm.REF m c, ?_, ?_⟩
  · exact (θ_run Cert.Kernel3Ideal.defs _ _).mono (fun r h c => ⟨(h c).1.trans (Cert.Kernel3Ideal.Gmm.final m hn c), (h c).2⟩)
      (Cert.Kernel3Ideal.Gmm.run_blocks m g hn)
  · refine (θ_run Cert.Reference3Ideal.defs _ _).mono (fun r h c => ⟨((h c).1.trans
      (Cert.Reference3Ideal.Read.val_main_v18_eq (F := Ideal) _ _ _ _ _)).trans ?_, (h c).2⟩)
      (Cert.Reference3Ideal.Value.run (F := Ideal) m' g')
    obtain ⟨h0, h1, h2, h3, h4⟩ := hagree c
    rw [h0, h1, h2, h3, h4]

/-- The down product's reference runs and leaves its arguments alone. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The gated mixer's input projection: kernel and reference end with equal results. -/
theorem algebraic4 : Cert.algebraic_Kernel4Ideal_Reference4Ideal := by
  intro m g m' g' hpre hagree
  refine ⟨fun c => Cert.Kernel4Ideal.Proj.REF m c, ?_, ?_⟩
  · exact (θ_run Cert.Kernel4Ideal.defs _ _).mono (fun r h c => ⟨(h c).1.trans (Cert.Kernel4Ideal.Proj.final m c), (h c).2⟩)
      (Cert.Kernel4Ideal.Value.run_blocks m g)
  · refine (θ_run Cert.Reference4Ideal.defs _ _).mono (fun r h c => ⟨((h c).1.trans
      (Cert.Reference4Ideal.Read.val_main_v3_eq (F := Ideal) _ _)).trans ?_, (h c).2⟩)
      (Cert.Reference4Ideal.Value.run (F := Ideal) m' g')
    obtain ⟨h0, h1⟩ := hagree c
    rw [h0, h1]

/-- The gated mixer's input projection: the reference runs and leaves its arguments alone. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The cross attention's memory: kernel and reference end with equal results. -/
theorem algebraic5 : Cert.algebraic_Kernel5Ideal_Reference5Ideal := by
  intro m g m' g' hpre hagree
  refine ⟨fun c => Cert.Kernel5Ideal.Gen.W9 m g c (Proc.devRef .tc Cert.Kernel5Ideal.main_v30),
    fun c => Cert.Kernel5Ideal.Gen.W9 m g c (Proc.devRef .tc Cert.Kernel5Ideal.main_v43), Cert.Kernel5Ideal.Mem.run m g, ?_⟩
  refine (θ_run Cert.Reference5Ideal.defs _ _).mono (fun r h c => ⟨((h c).1.trans
      (Cert.Reference5Ideal.Read.val_main_v3_eq (F := Ideal) _ _)).trans ?_, ((h c).2.1.trans
      (Cert.Reference5Ideal.Read.val_main_v5_eq (F := Ideal) _ _)).trans ?_, (h c).2.2⟩)
      (Cert.Reference5Ideal.Value.run (F := Ideal) m' g')
  · obtain ⟨h0, h1⟩ := hagree c
    rw [h0, h1]
    exact (Cert.Kernel5Ideal.Mem.final_keys m g c).symm
  · obtain ⟨h0, h1⟩ := hagree c
    rw [h0, h1]
    exact (Cert.Kernel5Ideal.Mem.final_values m g c).symm

/-- The cross attention's memory: the reference runs and leaves its arguments alone. -/
theorem frame_reference5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The output projection with its norm: kernel and reference end with equal results. -/
theorem algebraic6 : Cert.algebraic_Kernel6Ideal_Reference6Ideal := by
  intro m g m' g' hpre hagree
  refine ⟨fun c => Cert.Kernel6Ideal.Norm.REF m c, fun c => Cert.Kernel6Ideal.Norm.REF16 m c, ?_, ?_⟩
  · exact (θ_run Cert.Kernel6Ideal.defs _ _).mono (fun r h c => ⟨(h c).1.trans (Cert.Kernel6Ideal.Norm.final m c),
      (h c).2.1.trans (Cert.Kernel6Ideal.Norm.final16 m c), (h c).2.2⟩) (Cert.Kernel6Ideal.Value.run_blocks m g)
  · refine (θ_run Cert.Reference6Ideal.defs _ _).mono (fun r h c => ⟨((h c).1.trans
      (Cert.Reference6Ideal.Read.val_main_v28_eq (F := Ideal) _ _ _ _ _)).trans ?_, ((h c).2.1.trans
      (Cert.Reference6Ideal.Read.val_main_v29_eq (F := Ideal) _ _ _ _ _)).trans ?_, (h c).2.2⟩)
      (Cert.Reference6Ideal.Value.run (F := Ideal) m' g')
    · obtain ⟨h0, h1, h2, h3, h4⟩ := hagree c
      rw [h0, h1, h2, h3, h4]
    · obtain ⟨h0, h1, h2, h3, h4⟩ := hagree c
      rw [h0, h1, h2, h3, h4]

/-- The output projection with its norm: the reference runs and leaves its arguments alone. -/
theorem frame_reference6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The projection with the rotation: kernel and reference end with equal results. -/
theorem algebraic7 : Cert.algebraic_Kernel7Ideal_Reference7Ideal := by
  intro m g m' g' hpre hagree
  refine ⟨fun c => Cert.Kernel7Ideal.Rope.REF m c, ?_, ?_⟩
  · exact (θ_run Cert.Kernel7Ideal.defs _ _).mono (fun r h c => ⟨(h c).1.trans (Cert.Kernel7Ideal.Rope.final m c), (h c).2⟩)
      (Cert.Kernel7Ideal.Value.run_blocks m g)
  · refine (θ_run Cert.Reference7Ideal.defs _ _).mono (fun r h c => ⟨((h c).1.trans
      (Cert.Reference7Ideal.Read.val_main_v40_eq (F := Ideal) m' c)).trans ?_, (h c).2⟩)
      (Cert.Reference7Ideal.Value.run (F := Ideal) m' g')
    obtain ⟨h0, h1, h2⟩ := hagree c
    rw [h0, h1, h2]

/-- The projection with the rotation: the reference runs and leaves its arguments alone. -/
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The cross attention: kernel and reference end with equal results. -/
theorem algebraic8 : Cert.algebraic_Kernel8Ideal_Reference8Ideal := by
  intro m g m' g' hpre hagree
  refine ⟨fun c => Cert.Kernel8Ideal.Cross.RES m g c, Cert.Kernel8Ideal.Cross.run m g, ?_⟩
  refine (θ_run Cert.Reference8Ideal.defs _ _).mono (fun r h c => ⟨((h c).1.trans
      (Cert.Reference8Ideal.Read.val_main_v49_eq m' c)).trans ?_, (h c).2⟩)
      (Cert.Reference8Ideal.Value.run (F := Ideal) m' g')
  obtain ⟨h0, h1, h2, h3, h4⟩ := hagree c
  rw [h0, h1, h2, h3, h4]
  exact (Cert.Kernel8Ideal.Cross.final m g c).symm

/-- The cross attention: the reference runs and leaves its arguments alone. -/
theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- Every claim of the statement. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_experts_named.Gen.facts, Cert.Pre_experts_named_down.Gen.facts,
  fun m ρ _ => Cert.Kernel.Gen.frame m ρ, fun m ρ _ => Cert.KernelIdeal.Gen.frame m ρ, frame_reference,
  fun m ρ h => Cert.Kernel2.Gmm.frame m ρ (named_2 h), fun m ρ h => Cert.Kernel2Ideal.Gmm.frame m ρ (named_2ideal h),
  frame_reference2, fun m ρ _ => frame_reference2 m ρ trivial,
  fun m ρ h => Cert.Kernel3.Gmm.frame m ρ (named_3 h), fun m ρ h => Cert.Kernel3Ideal.Gmm.frame m ρ (named_3ideal h),
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  trivial, algebraic, trivial, algebraic2, trivial, algebraic3, trivial, algebraic4, trivial, algebraic5, trivial, algebraic6, trivial, algebraic7, trivial, algebraic8⟩

end Cert.Proof

end
